-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_separated (hKernelIdeal := hKernelIdeal) (hReferenceIdeal := hReferenceIdeal) (hPre_separated := hPre_separated)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_separated.lean ====
abbrev S8192x8x128 : Shape := ⟨3, ![8192, 8, 128]⟩
abbrev S8192x16x64 : Shape := ⟨3, ![8192, 16, 64]⟩
abbrev S8192x64 : Shape := ⟨2, ![8192, 64]⟩
abbrev S8192x16 : Shape := ⟨2, ![8192, 16]⟩
abbrev S8192x16x8192 : Shape := ⟨3, ![8192, 16, 8192]⟩
abbrev S_ : Shape := ⟨0, ![]⟩
abbrev S8192x8192 : Shape := ⟨2, ![8192, 8192]⟩
abbrev S8192 : Shape := ⟨1, ![8192]⟩
abbrev S1x8192 : Shape := ⟨2, ![1, 8192]⟩
abbrev S8192x1 : Shape := ⟨2, ![8192, 1]⟩
abbrev S8192x257 : Shape := ⟨2, ![8192, 257]⟩
abbrev S7936x2 : Shape := ⟨2, ![7936, 2]⟩
abbrev S7936x1 : Shape := ⟨2, ![7936, 1]⟩
abbrev S7936 : Shape := ⟨1, ![7936]⟩

class Facts : Prop where
  bcast_S_S8192x16x8192 : S_.BroadcastsInDim S8192x16x8192 (![] : Fin 0 → Fin S8192x16x8192.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  sliceFits_S8192x8192_S8192x257 : S8192x8192.Slices (fun _ => 0) S8192x257
  slices_S8192x257_S7936x2_256_255 : S8192x257.Slices ![256, 255] S7936x2
  slices_S7936x2_S7936x1_0_0 : S7936x2.Slices ![0, 0] S7936x1
  shapeCasts_S7936x1_S7936 : S7936x1.ShapeCasts S7936
  slices_S7936x2_S7936x1_0_1 : S7936x2.Slices ![0, 1] S7936x1
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S8192x16x64 : S_.BroadcastsInDim S8192x16x64 (![] : Fin 0 → Fin S8192x16x64.rank)
  reducesTo_S8192x16x64_S_d0_1_2 : S8192x16x64.ReducesTo [0, 1, 2] S_
  bcast_S_S8192x64 : S_.BroadcastsInDim S8192x64 (![] : Fin 0 → Fin S8192x64.rank)
  reducesTo_S8192x64_S_d0_1 : S8192x64.ReducesTo [0, 1] S_
  bcast_S_S8192x16 : S_.BroadcastsInDim S8192x16 (![] : Fin 0 → Fin S8192x16.rank)
  reducesTo_S8192x16_S_d0_1 : S8192x16.ReducesTo [0, 1] S_
  bcast_S_S7936 : S_.BroadcastsInDim S7936 (![] : Fin 0 → Fin S7936.rank)
  reducesTo_S7936_S_d0 : S7936.ReducesTo [0] S_
  dot_S8192x16x64_S8192x64_S8192x16x8192_2_1_01_0_n_n_wf : DotDims.WF S8192x16x64 S8192x64 S8192x16x8192 [2] [1] [0, 1] [0] [] []
  dot_S8192x16x8192_S8192x16_S8192x8192_1_1_2_n_0_0_wf : DotDims.WF S8192x16x8192 S8192x16 S8192x8192 [1] [1] [2] [] [0] [0]

variable [Facts]

def dot_S8192x16x64_S8192x64_S8192x16x8192_2_1_01_0_n_n : DotDims S8192x16x64 S8192x64 S8192x16x8192 where
  lhsContracting := [2]
  rhsContracting := [1]
  lhsNonContracting := [0, 1]
  rhsNonContracting := [0]
  lhsBatch := []
  rhsBatch := []
  wf := dot_S8192x16x64_S8192x64_S8192x16x8192_2_1_01_0_n_n_wf
def dot_S8192x16x8192_S8192x16_S8192x8192_1_1_2_n_0_0 : DotDims S8192x16x8192 S8192x16 S8192x8192 where
  lhsContracting := [1]
  rhsContracting := [1]
  lhsNonContracting := [2]
  rhsNonContracting := []
  lhsBatch := [0]
  rhsBatch := [0]
  wf := dot_S8192x16x8192_S8192x16_S8192x8192_1_1_2_n_0_0_wf
def fn_relu {F : FTy → Type} [FloatOps F] (arg0 : FVec F S8192x16x8192 .f32) : FVec F S8192x16x8192 .f32 :=
  let cst : FVec F S_ .f32 := constant S_ .f32 0x00000000#32
  let v0 : FVec F S8192x16x8192 .f32 := broadcastInDim S8192x16x8192 ![] bcast_S_S8192x16x8192 cst
  let v1 : FVec F S8192x16x8192 .f32 := maximumf arg0 v0
  v1

def fn_where {F : FTy → Type} [FloatOps F] (arg0 : IVec S8192x8192 1) (arg1 : FVec F S8192x8192 .f32) (arg2 : FVec F S_ .f32) : FVec F S8192x8192 .f32 :=
  let v0 : FVec F S_ .f32 := id arg2
  let v1 : FVec F S8192x8192 .f32 := broadcastInDim S8192x8192 ![] bcast_S_S8192x8192 v0
  let v2 : FVec F S8192x8192 .f32 := select arg0 arg1 v1
  v2

def fn_part3 {F : FTy → Type} [FloatOps F] (main_v22 : IVec S_ 1) (main_v26 : IVec S_ 1) (main_v30 : IVec S_ 1) (main_v34 : IVec S_ 1) (main_v38 : IVec S_ 1) (main_v42 : IVec S_ 1) (main_v49 : IVec S7936 1) (main_v50 : FVec F S7936 .f32) (main_v51 : FVec F S7936 .f32) : IVec S_ 1 :=
  let main_v52 : IVec S7936 1 := cmpf .ole main_v50 main_v51
  let main_v53 : IVec S7936 1 := andi main_v49 main_v52
  let main_c_16 : IVec S_ 1 := constantI S_ 1 1#1
  let main_v54 : IVec S_ 1 := (fun x v => Host.reduce IntOp.andi x v reducesTo_S7936_S_d0 h_S_) main_v53 main_c_16
  let main_v55 : IVec S_ 1 := andi main_v22 main_v26
  let main_v56 : IVec S_ 1 := andi main_v55 main_v30
  let main_v57 : IVec S_ 1 := andi main_v56 main_v34
  let main_v58 : IVec S_ 1 := andi main_v57 main_v38
  let main_v59 : IVec S_ 1 := andi main_v58 main_v42
  let main_v60 : IVec S_ 1 := andi main_v59 main_v54
  main_v60

def fn_part2 {F : FTy → Type} [FloatOps F] (main_arg4 : FVec F S8192x64 .f32) (main_arg5 : FVec F S8192x16 .f32) (main_v16 : FVec F S7936 .f32) (main_v18 : FVec F S7936 .f32) (main_v22 : IVec S_ 1) (main_v26 : IVec S_ 1) (main_v30 : IVec S_ 1) (main_v34 : IVec S_ 1) : IVec S_ 1 :=
  let main_v35 : FVec F S8192x64 .f32 := Host.absf main_arg4
  let main_cst_9 : FVec F S_ .f32 := constant S_ .f32 0x7F800000#32
  let main_v36 : FVec F S8192x64 .f32 := broadcastInDim S8192x64 ![] bcast_S_S8192x64 main_cst_9
  let main_v37 : IVec S8192x64 1 := cmpf .olt main_v35 main_v36
  let main_c_10 : IVec S_ 1 := constantI S_ 1 1#1
  let main_v38 : IVec S_ 1 := (fun x v => Host.reduce IntOp.andi x v reducesTo_S8192x64_S_d0_1 h_S_) main_v37 main_c_10
  let main_v39 : FVec F S8192x16 .f32 := Host.absf main_arg5
  let main_cst_11 : FVec F S_ .f32 := constant S_ .f32 0x7F800000#32
  let main_v40 : FVec F S8192x16 .f32 := broadcastInDim S8192x16 ![] bcast_S_S8192x16 main_cst_11
  let main_v41 : IVec S8192x16 1 := cmpf .olt main_v39 main_v40
  let main_c_12 : IVec S_ 1 := constantI S_ 1 1#1
  let main_v42 : IVec S_ 1 := (fun x v => Host.reduce IntOp.andi x v reducesTo_S8192x16_S_d0_1 h_S_) main_v41 main_c_12
  let main_v43 : FVec F S7936 .f32 := subf main_v16 main_v18
  let main_v44 : FVec F S7936 .f32 := Host.absf main_v16
  let main_cst_13 : FVec F S_ .f32 := constant S_ .f32 0x34800000#32
  let main_v45 : FVec F S7936 .f32 := broadcastInDim S7936 ![] bcast_S_S7936 main_cst_13
  let main_v46 : FVec F S7936 .f32 := mulf main_v44 main_v45
  let main_cst_14 : FVec F S_ .f32 := constant S_ .f32 0x00800000#32
  let main_v47 : FVec F S7936 .f32 := broadcastInDim S7936 ![] bcast_S_S7936 main_cst_14
  let main_v48 : FVec F S7936 .f32 := addf main_v46 main_v47
  let main_v49 : IVec S7936 1 := cmpf .oge main_v43 main_v48
  let main_v50 : FVec F S7936 .f32 := Host.absf main_v16
  let main_cst_15 : FVec F S_ .f32 := constant S_ .f32 0x7F000000#32
  let main_v51 : FVec F S7936 .f32 := broadcastInDim S7936 ![] bcast_S_S7936 main_cst_15
  fn_part3 (F := F) main_v22 main_v26 main_v30 main_v34 main_v38 main_v42 main_v49 main_v50 main_v51

def fn_part1 {F : FTy → Type} [FloatOps F] (main_arg0 : FVec F S8192x8x128 .f32) (main_arg1 : FVec F S8192x8x128 .f32) (main_arg2 : FVec F S8192x8x128 .f32) (main_arg3 : FVec F S8192x16x64 .f32) (main_arg4 : FVec F S8192x64 .f32) (main_arg5 : FVec F S8192x16 .f32) (main_v16 : FVec F S7936 .f32) (main_v18 : FVec F S7936 .f32) : IVec S_ 1 :=
  let main_v19 : FVec F S8192x8x128 .f32 := Host.absf main_arg0
  let main_cst_2 : FVec F S_ .f32 := constant S_ .f32 0x7F800000#32
  let main_v20 : FVec F S8192x8x128 .f32 := broadcastInDim S8192x8x128 ![] bcast_S_S8192x8x128 main_cst_2
  let main_v21 : IVec S8192x8x128 1 := cmpf .olt main_v19 main_v20
  let main_c : IVec S_ 1 := constantI S_ 1 1#1
  let main_v22 : IVec S_ 1 := (fun x v => Host.reduce IntOp.andi x v reducesTo_S8192x8x128_S_d0_1_2 h_S_) main_v21 main_c
  let main_v23 : FVec F S8192x8x128 .f32 := Host.absf main_arg1
  let main_cst_3 : FVec F S_ .f32 := constant S_ .f32 0x7F800000#32
  let main_v24 : FVec F S8192x8x128 .f32 := broadcastInDim S8192x8x128 ![] bcast_S_S8192x8x128 main_cst_3
  let main_v25 : IVec S8192x8x128 1 := cmpf .olt main_v23 main_v24
  let main_c_4 : IVec S_ 1 := constantI S_ 1 1#1
  let main_v26 : IVec S_ 1 := (fun x v => Host.reduce IntOp.andi x v reducesTo_S8192x8x128_S_d0_1_2 h_S_) main_v25 main_c_4
  let main_v27 : FVec F S8192x8x128 .f32 := Host.absf main_arg2
  let main_cst_5 : FVec F S_ .f32 := constant S_ .f32 0x7F800000#32
  let main_v28 : FVec F S8192x8x128 .f32 := broadcastInDim S8192x8x128 ![] bcast_S_S8192x8x128 main_cst_5
  let main_v29 : IVec S8192x8x128 1 := cmpf .olt main_v27 main_v28
  let main_c_6 : IVec S_ 1 := constantI S_ 1 1#1
  let main_v30 : IVec S_ 1 := (fun x v => Host.reduce IntOp.andi x v reducesTo_S8192x8x128_S_d0_1_2 h_S_) main_v29 main_c_6
  let main_v31 : FVec F S8192x16x64 .f32 := Host.absf main_arg3
  let main_cst_7 : FVec F S_ .f32 := constant S_ .f32 0x7F800000#32
  let main_v32 : FVec F S8192x16x64 .f32 := broadcastInDim S8192x16x64 ![] bcast_S_S8192x16x64 main_cst_7
  let main_v33 : IVec S8192x16x64 1 := cmpf .olt main_v31 main_v32
  let main_c_8 : IVec S_ 1 := constantI S_ 1 1#1
  let main_v34 : IVec S_ 1 := (fun x v => Host.reduce IntOp.andi x v reducesTo_S8192x16x64_S_d0_1_2 h_S_) main_v33 main_c_8
  fn_part2 (F := F) main_arg4 main_arg5 main_v16 main_v18 main_v22 main_v26 main_v30 main_v34

def fn {F : FTy → Type} [FloatOps F] (main_arg0 : FVec F S8192x8x128 .f32) (main_arg1 : FVec F S8192x8x128 .f32) (main_arg2 : FVec F S8192x8x128 .f32) (main_arg3 : FVec F S8192x16x64 .f32) (main_arg4 : FVec F S8192x64 .f32) (main_arg5 : FVec F S8192x16 .f32) : IVec S_ 1 :=
  let main_v0 : FVec F S8192x16x8192 .f32 := (fun l r => Host.dotGeneral dot_S8192x16x64_S8192x64_S8192x16x8192_2_1_01_0_n_n none l r) main_arg3 main_arg4
  let main_cst : FVec F S_ .f32 := constant S_ .f32 0x3E000000#32
  let main_v1 : FVec F S8192x16x8192 .f32 := broadcastInDim S8192x16x8192 ![] bcast_S_S8192x16x8192 main_cst
  let main_v2 : FVec F S8192x16x8192 .f32 := mulf main_v0 main_v1
  let main_v3 : FVec F S8192x16x8192 .f32 := fn_relu (F := F) main_v2
  let main_v4 : FVec F S8192x8192 .f32 := (fun l r => Host.dotGeneral dot_S8192x16x8192_S8192x16_S8192x8192_1_1_2_n_0_0 none l r) main_v3 main_arg5
  let main_cst_0 : FVec F S_ .f32 := constant S_ .f32 0x3E800000#32
  let main_v5 : FVec F S8192x8192 .f32 := broadcastInDim S8192x8192 ![] bcast_S_S8192x8192 main_cst_0
  let main_v6 : FVec F S8192x8192 .f32 := mulf main_v4 main_v5
  let main_v7 : IVec S8192 32 := iotaInDim S8192 32 0
  let main_v8 : IVec S1x8192 32 := broadcastInDim S1x8192 ![1] bcast_S8192_S1x8192_1 main_v7
  let main_v9 : IVec S8192x1 32 := broadcastInDim S8192x1 ![0] bcast_S8192_S8192x1_0 main_v7
  let main_v10 : IVec S8192x8192 32 := broadcastInDim S8192x8192 ![0, 1] bcast_S1x8192_S8192x8192_0_1 main_v8
  let main_v11 : IVec S8192x8192 32 := broadcastInDim S8192x8192 ![0, 1] bcast_S8192x1_S8192x8192_0_1 main_v9
  let main_v12 : IVec S8192x8192 1 := cmpi .sle main_v10 main_v11
  let main_cst_1 : FVec F S_ .f32 := constant S_ .f32 0xFF800000#32
  let main_v13 : FVec F S8192x8192 .f32 := fn_where (F := F) main_v12 main_v6 main_cst_1
  let main_values : FVec F S8192x257 .f32 := (fun x => (Host.topK S8192x257 1 (FloatOps.cmpfTotal .gt) x sliceFits_S8192x8192_S8192x257).1) main_v13
  let main_indices : IVec S8192x257 32 := (fun x => (Host.topK S8192x257 1 (FloatOps.cmpfTotal .gt) x sliceFits_S8192x8192_S8192x257).2) main_v13
  let main_v14 : FVec F S7936x2 .f32 := (extractStridedSlice S7936x2 ![256, 255] · slices_S8192x257_S7936x2_256_255) main_values
  let main_v15 : FVec F S7936x1 .f32 := (extractStridedSlice S7936x1 ![0, 0] · slices_S7936x2_S7936x1_0_0) main_v14
  let main_v16 : FVec F S7936 .f32 := shapeCast S7936 main_v15 shapeCasts_S7936x1_S7936
  let main_v17 : FVec F S7936x1 .f32 := (extractStridedSlice S7936x1 ![0, 1] · slices_S7936x2_S7936x1_0_1) main_v14
  let main_v18 : FVec F S7936 .f32 := shapeCast S7936 main_v17 shapeCasts_S7936x1_S7936
  fn_part1 (F := F) main_arg0 main_arg1 main_arg2 main_arg3 main_arg4 main_arg5 main_v16 main_v18
-- ==== Kernel.lean ====
abbrev S8192x8x128 : Shape := ⟨3, ![8192, 8, 128]⟩
abbrev S8192x16x64 : Shape := ⟨3, ![8192, 16, 64]⟩
abbrev S8192x64 : Shape := ⟨2, ![8192, 64]⟩
abbrev S8192x16 : Shape := ⟨2, ![8192, 16]⟩
abbrev S_ : Shape := ⟨0, ![]⟩
abbrev S8x8192x128 : Shape := ⟨3, ![8, 8192, 128]⟩
abbrev S8192x80 : Shape := ⟨2, ![8192, 80]⟩
abbrev S8192x128 : Shape := ⟨2, ![8192, 128]⟩
abbrev S8192x1024 : Shape := ⟨2, ![8192, 1024]⟩
abbrev S8x256x128 : Shape := ⟨3, ![8, 256, 128]⟩
abbrev S256x1024 : Shape := ⟨2, ![256, 1024]⟩
abbrev S256x128 : Shape := ⟨2, ![256, 128]⟩
abbrev S16x256x128 : Shape := ⟨3, ![16, 256, 128]⟩
abbrev S64x256x128 : Shape := ⟨3, ![64, 256, 128]⟩
abbrev S256x256 : Shape := ⟨2, ![256, 256]⟩
abbrev S256x1 : Shape := ⟨2, ![256, 1]⟩
abbrev S256x16 : Shape := ⟨2, ![256, 16]⟩
abbrev S1x256x128 : Shape := ⟨3, ![1, 256, 128]⟩
abbrev S256x64 : Shape := ⟨2, ![256, 64]⟩
abbrev S1x256 : Shape := ⟨2, ![1, 256]⟩
abbrev S1x256x1 : Shape := ⟨3, ![1, 256, 1]⟩
abbrev S1 : Shape := ⟨1, ![1]⟩
abbrev S1x1x1 : Shape := ⟨3, ![1, 1, 1]⟩
abbrev S128x128 : Shape := ⟨2, ![128, 128]⟩
abbrev S1x128x128 : Shape := ⟨3, ![1, 128, 128]⟩
abbrev S256 : Shape := ⟨1, ![256]⟩

abbrev nBuf : Space → Nat
  | .hbm => 29
  | .vmem => 18
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8192x16x64, .f32⟩
  | .hbm, ⟨4, _⟩ => ⟨S8192x64, .f32⟩
  | .hbm, ⟨5, _⟩ => ⟨S8192x16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x8x128, .f32⟩
  | .hbm, ⟨14, _⟩ => ⟨S8192x8x128, .f32⟩
  | .hbm, ⟨15, _⟩ => ⟨S8x8192x128, .f32⟩
  | .hbm, ⟨16, _⟩ => ⟨S8x8192x128, .bf16⟩
  | .hbm, ⟨17, _⟩ => ⟨S8192x80, .f32⟩
  | .hbm, ⟨18, _⟩ => ⟨S_, .i32⟩
  | .hbm, ⟨19, _⟩ => ⟨S_, .f32⟩
  | .hbm, ⟨20, _⟩ => ⟨S8192x128, .f32⟩
  | .hbm, ⟨21, _⟩ => ⟨S8192x1024, .f32⟩
  | .hbm, ⟨22, _⟩ => ⟨S8192x1024, .bf16⟩
  | .hbm, ⟨23, _⟩ => ⟨S8192x64, .bf16⟩
  | .hbm, ⟨24, _⟩ => ⟨S8x8192x128, .f32⟩
  | .hbm, ⟨25, _⟩ => ⟨S8x8192x128, .bf16⟩
  | .hbm, ⟨26, _⟩ => ⟨S8x8192x128, .f32⟩
  | .hbm, ⟨27, _⟩ => ⟨S8x8192x128, .bf16⟩
  | .hbm, ⟨28, _⟩ => ⟨S8192x1024, .bf16⟩
  | .local _ .vmem, ⟨0, _⟩ => ⟨S8x256x128, .bf16⟩
  | .local _ .vmem, ⟨1, _⟩ => ⟨S8x256x128, .bf16⟩
  | .local _ .vmem, ⟨2, _⟩ => ⟨S256x1024, .bf16⟩
  | .local _ .vmem, ⟨3, _⟩ => ⟨S256x1024, .bf16⟩
  | .local _ .vmem, ⟨4, _⟩ => ⟨S256x128, .f32⟩
  | .local _ .vmem, ⟨5, _⟩ => ⟨S256x128, .f32⟩
  | .local _ .vmem, ⟨6, _⟩ => ⟨S8192x64, .bf16⟩
  | .local _ .vmem, ⟨7, _⟩ => ⟨S8x8192x128, .bf16⟩
  | .local _ .vmem, ⟨8, _⟩ => ⟨S8x8192x128, .bf16⟩
  | .local _ .vmem, ⟨9, _⟩ => ⟨S256x1024, .bf16⟩
  | .local _ .vmem, ⟨10, _⟩ => ⟨S256x1024, .bf16⟩
  | .local _ .vmem, ⟨11, _⟩ => ⟨S16x256x128, .f32⟩
  | .local _ .vmem, ⟨12, _⟩ => ⟨S64x256x128, .f32⟩
  | .local _ .vmem, ⟨13, _⟩ => ⟨S256x128, .f32⟩
  | .local _ .vmem, ⟨14, _⟩ => ⟨S256x256, .f32⟩
  | .local _ .vmem, ⟨15, _⟩ => ⟨S8x256x128, .f32⟩
  | .local _ .vmem, ⟨16, _⟩ => ⟨S8x256x128, .f32⟩
  | .local _ .vmem, ⟨17, _⟩ => ⟨S8x256x128, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

@[reducible] def k0_t1_loop (i : grid0.Coords) : Scf.Loop 32 :=
  let c0_i32_41 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v124 : BitVec 32 := Scalar.subi v20 c0_i32_41
  let c1_i32_42 : BitVec 32 := 1#32
  let v126 : BitVec 32 := Scalar.divsi v124 c1_i32_42
  let v127 : BitVec 32 := Scalar.muli v126 c1_i32_42
  let v128 : BitVec 32 := Scalar.addi c0_i32_41 v127
  let c1_i32_43 : BitVec 32 := 1#32
  ⟨c0_i32_41, v128, c1_i32_43⟩
def k0_mult1 (i : grid0.Coords) (k0_t1 : Fin (k0_t1_loop i).trips) : BitVec 32 :=
  let c0_i32_41 : BitVec 32 := 0#32
  let c1_i32_43 : BitVec 32 := 1#32
  let arg15 : BitVec 32 := Scf.iv c0_i32_41 c1_i32_43 k0_t1
  let c512_i32_133 : BitVec 32 := 512#32
  let v240 : BitVec 32 := Scalar.muli arg15 c512_i32_133
  let c0_i32_134 : BitVec 32 := 0#32
  let v241 : BitVec 32 := Scalar.addi v240 c0_i32_134
  v241
def k0_off1 (i : grid0.Coords) (k0_t1 : Fin (k0_t1_loop i).trips) (c0_i32_134 : BitVec 32) : Fin 2 → Nat :=
  let c0_i32_41 : BitVec 32 := 0#32
  let c1_i32_43 : BitVec 32 := 1#32
  let arg15 : BitVec 32 := Scf.iv c0_i32_41 c1_i32_43 k0_t1
  let c512_i32_133 : BitVec 32 := 512#32
  let v240 : BitVec 32 := Scalar.muli arg15 c512_i32_133
  let v241 : BitVec 32 := Scalar.addi v240 c0_i32_134
  let v242 : BitVec 32 := v241
  let v243 : Index := Scalar.indexCast v242
  let c0_135 : Index := 0#32
  ![v243.toNat, 0]
def k0_off2 (i : grid0.Coords) (k0_t1 : Fin (k0_t1_loop i).trips) (c0_i32_245 : BitVec 32) (c0_i32_246 : BitVec 32) : Fin 3 → Nat :=
  let c0_i32_41 : BitVec 32 := 0#32
  let c1_i32_43 : BitVec 32 := 1#32
  let arg15 : BitVec 32 := Scf.iv c0_i32_41 c1_i32_43 k0_t1
  let c4_i32 : BitVec 32 := 4#32
  let v419 : BitVec 32 := Scalar.muli arg15 c4_i32
  let v420 : BitVec 32 := Scalar.addi v419 c0_i32_245
  let v422 : BitVec 32 := Scalar.addi v420 c0_i32_246
  let v423 : Index := Scalar.indexCast v422
  let c0_247 : Index := 0#32
  let c0_248 : Index := 0#32
  ![v423.toNat, 0, 0]
def k0_mult2 (i : grid0.Coords) (k0_t1 : Fin (k0_t1_loop i).trips) : BitVec 32 :=
  let c0_i32_41 : BitVec 32 := 0#32
  let c1_i32_43 : BitVec 32 := 1#32
  let arg15 : BitVec 32 := Scf.iv c0_i32_41 c1_i32_43 k0_t1
  let c512_i32_252 : BitVec 32 := 512#32
  let v433 : BitVec 32 := Scalar.muli arg15 c512_i32_252
  let c256_i32_253 : BitVec 32 := 256#32
  let v434 : BitVec 32 := Scalar.addi v433 c256_i32_253
  v434
@[reducible] def k0_t2_loop (i : grid0.Coords) : Scf.Loop 32 :=
  let c0_i32_41 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v124 : BitVec 32 := Scalar.subi v20 c0_i32_41
  let c1_i32_42 : BitVec 32 := 1#32
  let v126 : BitVec 32 := Scalar.divsi v124 c1_i32_42
  let v127 : BitVec 32 := Scalar.muli v126 c1_i32_42
  let v128 : BitVec 32 := Scalar.addi c0_i32_41 v127
  let v125 : BitVec 32 := Scalar.addi c0_i32_41 v124
  let c1_i32_44 : BitVec 32 := 1#32
  ⟨v128, v125, c1_i32_44⟩
def k0_mult3 (i : grid0.Coords) (k0_t2 : Fin (k0_t2_loop i).trips) : BitVec 32 :=
  let c0_i32_41 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v124 : BitVec 32 := Scalar.subi v20 c0_i32_41
  let c1_i32_42 : BitVec 32 := 1#32
  let v126 : BitVec 32 := Scalar.divsi v124 c1_i32_42
  let v127 : BitVec 32 := Scalar.muli v126 c1_i32_42
  let v128 : BitVec 32 := Scalar.addi c0_i32_41 v127
  let c1_i32_44 : BitVec 32 := 1#32
  let arg15 : BitVec 32 := Scf.iv v128 c1_i32_44 k0_t2
  let c512_i32_133 : BitVec 32 := 512#32
  let v240 : BitVec 32 := Scalar.muli arg15 c512_i32_133
  let c0_i32_134 : BitVec 32 := 0#32
  let v241 : BitVec 32 := Scalar.addi v240 c0_i32_134
  v241
def k0_off3 (i : grid0.Coords) (k0_t2 : Fin (k0_t2_loop i).trips) (c0_i32_134 : BitVec 32) : Fin 2 → Nat :=
  let c0_i32_41 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v124 : BitVec 32 := Scalar.subi v20 c0_i32_41
  let c1_i32_42 : BitVec 32 := 1#32
  let v126 : BitVec 32 := Scalar.divsi v124 c1_i32_42
  let v127 : BitVec 32 := Scalar.muli v126 c1_i32_42
  let v128 : BitVec 32 := Scalar.addi c0_i32_41 v127
  let c1_i32_44 : BitVec 32 := 1#32
  let arg15 : BitVec 32 := Scf.iv v128 c1_i32_44 k0_t2
  let c512_i32_133 : BitVec 32 := 512#32
  let v240 : BitVec 32 := Scalar.muli arg15 c512_i32_133
  let v241 : BitVec 32 := Scalar.addi v240 c0_i32_134
  let v242 : BitVec 32 := v241
  let v243 : Index := Scalar.indexCast v242
  let c0_135 : Index := 0#32
  ![v243.toNat, 0]
def k0_off4 (i : grid0.Coords) (k0_t2 : Fin (k0_t2_loop i).trips) (c0_i32_245 : BitVec 32) (c0_i32_246 : BitVec 32) : Fin 3 → Nat :=
  let c0_i32_41 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v124 : BitVec 32 := Scalar.subi v20 c0_i32_41
  let c1_i32_42 : BitVec 32 := 1#32
  let v126 : BitVec 32 := Scalar.divsi v124 c1_i32_42
  let v127 : BitVec 32 := Scalar.muli v126 c1_i32_42
  let v128 : BitVec 32 := Scalar.addi c0_i32_41 v127
  let c1_i32_44 : BitVec 32 := 1#32
  let arg15 : BitVec 32 := Scf.iv v128 c1_i32_44 k0_t2
  let c4_i32 : BitVec 32 := 4#32
  let v419 : BitVec 32 := Scalar.muli arg15 c4_i32
  let v420 : BitVec 32 := Scalar.addi v419 c0_i32_245
  let v422 : BitVec 32 := Scalar.addi v420 c0_i32_246
  let v423 : Index := Scalar.indexCast v422
  let c0_247 : Index := 0#32
  let c0_248 : Index := 0#32
  ![v423.toNat, 0, 0]
def k0_mult4 (i : grid0.Coords) (k0_t2 : Fin (k0_t2_loop i).trips) : BitVec 32 :=
  let c0_i32_41 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v124 : BitVec 32 := Scalar.subi v20 c0_i32_41
  let c1_i32_42 : BitVec 32 := 1#32
  let v126 : BitVec 32 := Scalar.divsi v124 c1_i32_42
  let v127 : BitVec 32 := Scalar.muli v126 c1_i32_42
  let v128 : BitVec 32 := Scalar.addi c0_i32_41 v127
  let c1_i32_44 : BitVec 32 := 1#32
  let arg15 : BitVec 32 := Scf.iv v128 c1_i32_44 k0_t2
  let c512_i32_252 : BitVec 32 := 512#32
  let v433 : BitVec 32 := Scalar.muli arg15 c512_i32_252
  let c256_i32_253 : BitVec 32 := 256#32
  let v434 : BitVec 32 := Scalar.addi v433 c256_i32_253
  v434
@[reducible] def k0_t3_loop (i : grid0.Coords) : Scf.Loop 32 :=
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_74 : BitVec 32 := 1#32
  ⟨c0_i32_72, v183, c1_i32_74⟩
def k0_mult5 (i : grid0.Coords) (k0_t3 : Fin (k0_t3_loop i).trips) : BitVec 32 :=
  let c0_i32_72 : BitVec 32 := 0#32
  let c1_i32_74 : BitVec 32 := 1#32
  let arg15 : BitVec 32 := Scf.iv c0_i32_72 c1_i32_74 k0_t3
  let c256_i32_133 : BitVec 32 := 256#32
  let v240 : BitVec 32 := Scalar.muli arg15 c256_i32_133
  v240
def k0_off5 (i : grid0.Coords) (k0_t3 : Fin (k0_t3_loop i).trips) (c0_i32_136 : BitVec 32) : Fin 3 → Nat :=
  let c0_i32_72 : BitVec 32 := 0#32
  let c1_i32_74 : BitVec 32 := 1#32
  let arg15 : BitVec 32 := Scf.iv c0_i32_72 c1_i32_74 k0_t3
  let c2_i32 : BitVec 32 := 2#32
  let v247 : BitVec 32 := Scalar.muli arg15 c2_i32
  let v248 : BitVec 32 := Scalar.addi v247 c0_i32_136
  let v249 : Index := Scalar.indexCast v248
  let c0_137 : Index := 0#32
  let c0_138 : Index := 0#32
  ![v249.toNat, 0, 0]
def k0_off6 (i : grid0.Coords) (k0_t3 : Fin (k0_t3_loop i).trips) : Fin 3 → Nat :=
  let c0_150 : Index := 0#32
  let c0_i32_72 : BitVec 32 := 0#32
  let c1_i32_74 : BitVec 32 := 1#32
  let arg15 : BitVec 32 := Scf.iv c0_i32_72 c1_i32_74 k0_t3
  let c256_i32_133 : BitVec 32 := 256#32
  let v240 : BitVec 32 := Scalar.muli arg15 c256_i32_133
  let v241 : BitVec 32 := v240
  let v271 : Index := Scalar.indexCast v241
  let c0_151 : Index := 0#32
  ![0, v271.toNat, 0]
def k0_off7 (i : grid0.Coords) (k0_t3 : Fin (k0_t3_loop i).trips) : Fin 3 → Nat :=
  let c1_181 : Index := 1#32
  let c0_i32_72 : BitVec 32 := 0#32
  let c1_i32_74 : BitVec 32 := 1#32
  let arg15 : BitVec 32 := Scf.iv c0_i32_72 c1_i32_74 k0_t3
  let c256_i32_133 : BitVec 32 := 256#32
  let v240 : BitVec 32 := Scalar.muli arg15 c256_i32_133
  let v241 : BitVec 32 := v240
  let v315 : Index := Scalar.indexCast v241
  let c0_182 : Index := 0#32
  ![1, v315.toNat, 0]
def k0_off8 (i : grid0.Coords) (k0_t3 : Fin (k0_t3_loop i).trips) : Fin 3 → Nat :=
  let c2_212 : Index := 2#32
  let c0_i32_72 : BitVec 32 := 0#32
  let c1_i32_74 : BitVec 32 := 1#32
  let arg15 : BitVec 32 := Scf.iv c0_i32_72 c1_i32_74 k0_t3
  let c256_i32_133 : BitVec 32 := 256#32
  let v240 : BitVec 32 := Scalar.muli arg15 c256_i32_133
  let v241 : BitVec 32 := v240
  let v359 : Index := Scalar.indexCast v241
  let c0_213 : Index := 0#32
  ![2, v359.toNat, 0]
def k0_off9 (i : grid0.Coords) (k0_t3 : Fin (k0_t3_loop i).trips) : Fin 3 → Nat :=
  let c3_243 : Index := 3#32
  let c0_i32_72 : BitVec 32 := 0#32
  let c1_i32_74 : BitVec 32 := 1#32
  let arg15 : BitVec 32 := Scf.iv c0_i32_72 c1_i32_74 k0_t3
  let c256_i32_133 : BitVec 32 := 256#32
  let v240 : BitVec 32 := Scalar.muli arg15 c256_i32_133
  let v241 : BitVec 32 := v240
  let v403 : Index := Scalar.indexCast v241
  let c0_244 : Index := 0#32
  ![3, v403.toNat, 0]
def k0_off10 (i : grid0.Coords) (k0_t3 : Fin (k0_t3_loop i).trips) : Fin 3 → Nat :=
  let c4_274 : Index := 4#32
  let c0_i32_72 : BitVec 32 := 0#32
  let c1_i32_74 : BitVec 32 := 1#32
  let arg15 : BitVec 32 := Scf.iv c0_i32_72 c1_i32_74 k0_t3
  let c256_i32_133 : BitVec 32 := 256#32
  let v240 : BitVec 32 := Scalar.muli arg15 c256_i32_133
  let v241 : BitVec 32 := v240
  let v447 : Index := Scalar.indexCast v241
  let c0_275 : Index := 0#32
  ![4, v447.toNat, 0]
def k0_off11 (i : grid0.Coords) (k0_t3 : Fin (k0_t3_loop i).trips) : Fin 3 → Nat :=
  let c5_305 : Index := 5#32
  let c0_i32_72 : BitVec 32 := 0#32
  let c1_i32_74 : BitVec 32 := 1#32
  let arg15 : BitVec 32 := Scf.iv c0_i32_72 c1_i32_74 k0_t3
  let c256_i32_133 : BitVec 32 := 256#32
  let v240 : BitVec 32 := Scalar.muli arg15 c256_i32_133
  let v241 : BitVec 32 := v240
  let v491 : Index := Scalar.indexCast v241
  let c0_306 : Index := 0#32
  ![5, v491.toNat, 0]
def k0_off12 (i : grid0.Coords) (k0_t3 : Fin (k0_t3_loop i).trips) : Fin 3 → Nat :=
  let c6_336 : Index := 6#32
  let c0_i32_72 : BitVec 32 := 0#32
  let c1_i32_74 : BitVec 32 := 1#32
  let arg15 : BitVec 32 := Scf.iv c0_i32_72 c1_i32_74 k0_t3
  let c256_i32_133 : BitVec 32 := 256#32
  let v240 : BitVec 32 := Scalar.muli arg15 c256_i32_133
  let v241 : BitVec 32 := v240
  let v535 : Index := Scalar.indexCast v241
  let c0_337 : Index := 0#32
  ![6, v535.toNat, 0]
def k0_off13 (i : grid0.Coords) (k0_t3 : Fin (k0_t3_loop i).trips) : Fin 3 → Nat :=
  let c7_367 : Index := 7#32
  let c0_i32_72 : BitVec 32 := 0#32
  let c1_i32_74 : BitVec 32 := 1#32
  let arg15 : BitVec 32 := Scf.iv c0_i32_72 c1_i32_74 k0_t3
  let c256_i32_133 : BitVec 32 := 256#32
  let v240 : BitVec 32 := Scalar.muli arg15 c256_i32_133
  let v241 : BitVec 32 := v240
  let v579 : Index := Scalar.indexCast v241
  let c0_368 : Index := 0#32
  ![7, v579.toNat, 0]
@[reducible] def k0_t4_loop (i : grid0.Coords) : Scf.Loop 32 :=
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let v180 : BitVec 32 := Scalar.addi c0_i32_72 v179
  let c1_i32_75 : BitVec 32 := 1#32
  ⟨v183, v180, c1_i32_75⟩
def k0_mult6 (i : grid0.Coords) (k0_t4 : Fin (k0_t4_loop i).trips) : BitVec 32 :=
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_75 : BitVec 32 := 1#32
  let arg15 : BitVec 32 := Scf.iv v183 c1_i32_75 k0_t4
  let c256_i32_133 : BitVec 32 := 256#32
  let v240 : BitVec 32 := Scalar.muli arg15 c256_i32_133
  v240
def k0_off14 (i : grid0.Coords) (k0_t4 : Fin (k0_t4_loop i).trips) (c0_i32_136 : BitVec 32) : Fin 3 → Nat :=
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_75 : BitVec 32 := 1#32
  let arg15 : BitVec 32 := Scf.iv v183 c1_i32_75 k0_t4
  let c2_i32 : BitVec 32 := 2#32
  let v247 : BitVec 32 := Scalar.muli arg15 c2_i32
  let v248 : BitVec 32 := Scalar.addi v247 c0_i32_136
  let v249 : Index := Scalar.indexCast v248
  let c0_137 : Index := 0#32
  let c0_138 : Index := 0#32
  ![v249.toNat, 0, 0]
def k0_off15 (i : grid0.Coords) (k0_t4 : Fin (k0_t4_loop i).trips) : Fin 3 → Nat :=
  let c0_150 : Index := 0#32
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_75 : BitVec 32 := 1#32
  let arg15 : BitVec 32 := Scf.iv v183 c1_i32_75 k0_t4
  let c256_i32_133 : BitVec 32 := 256#32
  let v240 : BitVec 32 := Scalar.muli arg15 c256_i32_133
  let v241 : BitVec 32 := v240
  let v271 : Index := Scalar.indexCast v241
  let c0_151 : Index := 0#32
  ![0, v271.toNat, 0]
def k0_off16 (i : grid0.Coords) (k0_t4 : Fin (k0_t4_loop i).trips) : Fin 3 → Nat :=
  let c1_181 : Index := 1#32
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_75 : BitVec 32 := 1#32
  let arg15 : BitVec 32 := Scf.iv v183 c1_i32_75 k0_t4
  let c256_i32_133 : BitVec 32 := 256#32
  let v240 : BitVec 32 := Scalar.muli arg15 c256_i32_133
  let v241 : BitVec 32 := v240
  let v315 : Index := Scalar.indexCast v241
  let c0_182 : Index := 0#32
  ![1, v315.toNat, 0]
def k0_off17 (i : grid0.Coords) (k0_t4 : Fin (k0_t4_loop i).trips) : Fin 3 → Nat :=
  let c2_212 : Index := 2#32
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_75 : BitVec 32 := 1#32
  let arg15 : BitVec 32 := Scf.iv v183 c1_i32_75 k0_t4
  let c256_i32_133 : BitVec 32 := 256#32
  let v240 : BitVec 32 := Scalar.muli arg15 c256_i32_133
  let v241 : BitVec 32 := v240
  let v359 : Index := Scalar.indexCast v241
  let c0_213 : Index := 0#32
  ![2, v359.toNat, 0]
def k0_off18 (i : grid0.Coords) (k0_t4 : Fin (k0_t4_loop i).trips) : Fin 3 → Nat :=
  let c3_243 : Index := 3#32
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_75 : BitVec 32 := 1#32
  let arg15 : BitVec 32 := Scf.iv v183 c1_i32_75 k0_t4
  let c256_i32_133 : BitVec 32 := 256#32
  let v240 : BitVec 32 := Scalar.muli arg15 c256_i32_133
  let v241 : BitVec 32 := v240
  let v403 : Index := Scalar.indexCast v241
  let c0_244 : Index := 0#32
  ![3, v403.toNat, 0]
def k0_off19 (i : grid0.Coords) (k0_t4 : Fin (k0_t4_loop i).trips) : Fin 3 → Nat :=
  let c4_274 : Index := 4#32
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_75 : BitVec 32 := 1#32
  let arg15 : BitVec 32 := Scf.iv v183 c1_i32_75 k0_t4
  let c256_i32_133 : BitVec 32 := 256#32
  let v240 : BitVec 32 := Scalar.muli arg15 c256_i32_133
  let v241 : BitVec 32 := v240
  let v447 : Index := Scalar.indexCast v241
  let c0_275 : Index := 0#32
  ![4, v447.toNat, 0]
def k0_off20 (i : grid0.Coords) (k0_t4 : Fin (k0_t4_loop i).trips) : Fin 3 → Nat :=
  let c5_305 : Index := 5#32
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_75 : BitVec 32 := 1#32
  let arg15 : BitVec 32 := Scf.iv v183 c1_i32_75 k0_t4
  let c256_i32_133 : BitVec 32 := 256#32
  let v240 : BitVec 32 := Scalar.muli arg15 c256_i32_133
  let v241 : BitVec 32 := v240
  let v491 : Index := Scalar.indexCast v241
  let c0_306 : Index := 0#32
  ![5, v491.toNat, 0]
def k0_off21 (i : grid0.Coords) (k0_t4 : Fin (k0_t4_loop i).trips) : Fin 3 → Nat :=
  let c6_336 : Index := 6#32
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_75 : BitVec 32 := 1#32
  let arg15 : BitVec 32 := Scf.iv v183 c1_i32_75 k0_t4
  let c256_i32_133 : BitVec 32 := 256#32
  let v240 : BitVec 32 := Scalar.muli arg15 c256_i32_133
  let v241 : BitVec 32 := v240
  let v535 : Index := Scalar.indexCast v241
  let c0_337 : Index := 0#32
  ![6, v535.toNat, 0]
def k0_off22 (i : grid0.Coords) (k0_t4 : Fin (k0_t4_loop i).trips) : Fin 3 → Nat :=
  let c7_367 : Index := 7#32
  let c0_i32_72 : BitVec 32 := 0#32
  let arg0 : BitVec 32 := BitVec.ofNat 32 (i 0).val
  let c256_i32 : BitVec 32 := 256#32
  let v0 : BitVec 32 := Scalar.muli arg0 c256_i32
  let c256_i32_61 : BitVec 32 := 256#32
  let v159 : BitVec 32 := Scalar.addi v0 c256_i32_61
  let c256_i32_62 : BitVec 32 := 256#32
  let v160 : BitVec 32 := Scalar.addi v159 c256_i32_62
  let c1_i32_63 : BitVec 32 := 1#32
  let v161 : BitVec 32 := Scalar.subi v160 c1_i32_63
  let c0_i32_65 : BitVec 32 := 0#32
  let v163 : BitVec 1 := Scalar.cmpi .sgt v161 c0_i32_65
  let v164 : BitVec 32 := Scalar.extui v163
  let c0_i32_66 : BitVec 32 := 0#32
  let v165 : BitVec 1 := Scalar.cmpi .slt v161 c0_i32_66
  let v166 : BitVec 32 := Scalar.extui v165
  let v167 : BitVec 32 := Scalar.subi v164 v166
  let c256_i32_64 : BitVec 32 := 256#32
  let c0_i32_67 : BitVec 32 := 0#32
  let v168 : BitVec 1 := Scalar.cmpi .sgt c256_i32_64 c0_i32_67
  let v169 : BitVec 32 := Scalar.extui v168
  let c0_i32_68 : BitVec 32 := 0#32
  let v170 : BitVec 1 := Scalar.cmpi .slt c256_i32_64 c0_i32_68
  let v171 : BitVec 32 := Scalar.extui v170
  let v172 : BitVec 32 := Scalar.subi v169 v171
  let v173 : BitVec 1 := Scalar.cmpi .ne v167 v172
  let v174 : BitVec 32 := Scalar.remsi v161 c256_i32_64
  let c0_i32_69 : BitVec 32 := 0#32
  let v175 : BitVec 1 := Scalar.cmpi .ne v174 c0_i32_69
  let v176 : BitVec 1 := Scalar.andi v173 v175
  let v162 : BitVec 32 := Scalar.divsi v161 c256_i32_64
  let c1_i32_70 : BitVec 32 := 1#32
  let v177 : BitVec 32 := Scalar.subi v162 c1_i32_70
  let v178 : BitVec 32 := Scalar.select v176 v177 v162
  let v179 : BitVec 32 := Scalar.subi v178 c0_i32_72
  let c1_i32_73 : BitVec 32 := 1#32
  let v181 : BitVec 32 := Scalar.divsi v179 c1_i32_73
  let v182 : BitVec 32 := Scalar.muli v181 c1_i32_73
  let v183 : BitVec 32 := Scalar.addi c0_i32_72 v182
  let c1_i32_75 : BitVec 32 := 1#32
  let arg15 : BitVec 32 := Scf.iv v183 c1_i32_75 k0_t4
  let c256_i32_133 : BitVec 32 := 256#32
  let v240 : BitVec 32 := Scalar.muli arg15 c256_i32_133
  let v241 : BitVec 32 := v240
  let v579 : Index := Scalar.indexCast v241
  let c0_368 : Index := 0#32
  ![7, v579.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8192x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8192x8x128 : Shape := ⟨3, ![8192, 8, 128]⟩
abbrev S8192x16x64 : Shape := ⟨3, ![8192, 16, 64]⟩
abbrev S8192x64 : Shape := ⟨2, ![8192, 64]⟩
abbrev S8192x16 : Shape := ⟨2, ![8192, 16]⟩
abbrev S8192x16x8192 : Shape := ⟨3, ![8192, 16, 8192]⟩
abbrev S_ : Shape := ⟨0, ![]⟩
abbrev S8192x8192 : Shape := ⟨2, ![8192, 8192]⟩
abbrev S8192 : Shape := ⟨1, ![8192]⟩
abbrev S1x8192 : Shape := ⟨2, ![1, 8192]⟩
abbrev S8192x1 : Shape := ⟨2, ![8192, 1]⟩
abbrev S8192x256 : Shape := ⟨2, ![8192, 256]⟩
abbrev S8192x256x1 : Shape := ⟨3, ![8192, 256, 1]⟩
abbrev S8192x256x8x128 : Shape := ⟨4, ![8192, 256, 8, 128]⟩
abbrev S8192x8x256 : Shape := ⟨3, ![8192, 8, 256]⟩
abbrev S8192x1x256 : Shape := ⟨3, ![8192, 1, 256]⟩
abbrev S8192x8 : Shape := ⟨2, ![8192, 8]⟩
abbrev S8192x8x1 : Shape := ⟨3, ![8192, 8, 1]⟩
abbrev S8192x1024 : Shape := ⟨2, ![8192, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S8192x8x128, .f32⟩
  | .hbm, ⟨3, _⟩ => ⟨S8192x16x64, .f32⟩
  | .hbm, ⟨4, _⟩ => ⟨S8192x64, .f32⟩
  | .hbm, ⟨5, _⟩ => ⟨S8192x16, .f32⟩
  | .hbm, ⟨6, _⟩ => ⟨S8192x16x8192, .f32⟩
  | .hbm, ⟨7, _⟩ => ⟨S_, .f32⟩
  | .hbm, ⟨8, _⟩ => ⟨S8192x16x8192, .f32⟩
  | .hbm, ⟨9, _⟩ => ⟨S8192x16x8192, .f32⟩
  | .hbm, ⟨10, _⟩ => ⟨S_, .f32⟩
  | .hbm, ⟨11, _⟩ => ⟨S8192x16x8192, .f32⟩
  | .hbm, ⟨12, _⟩ => ⟨S8192x16x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x256, .f32⟩
  | .hbm, ⟨28, _⟩ => ⟨S8192x256, .i32⟩
  | .hbm, ⟨29, _⟩ => ⟨S_, .i32⟩
  | .hbm, ⟨30, _⟩ => ⟨S8192x256, .i32⟩
  | .hbm, ⟨31, _⟩ => ⟨S8192x256, .i1⟩
  | .hbm, ⟨32, _⟩ => ⟨S_, .i32⟩
  | .hbm, ⟨33, _⟩ => ⟨S8192x256, .i32⟩
  | .hbm, ⟨34, _⟩ => ⟨S8192x256, .i32⟩
  | .hbm, ⟨35, _⟩ => ⟨S8192x256, .i32⟩
  | .hbm, ⟨36, _⟩ => ⟨S8192x256x1, .i32⟩
  | .hbm, ⟨37, _⟩ => ⟨S8192x256x8x128, .f32⟩
  | .hbm, ⟨38, _⟩ => ⟨S_, .i32⟩
  | .hbm, ⟨39, _⟩ => ⟨S8192x256, .i32⟩
  | .hbm, ⟨40, _⟩ => ⟨S8192x256, .i1⟩
  | .hbm, ⟨41, _⟩ => ⟨S_, .i32⟩
  | .hbm, ⟨42, _⟩ => ⟨S8192x256, .i32⟩
  | .hbm, ⟨43, _⟩ => ⟨S8192x256, .i32⟩
  | .hbm, ⟨44, _⟩ => ⟨S8192x256, .i32⟩
  | .hbm, ⟨45, _⟩ => ⟨S8192x256x1, .i32⟩
  | .hbm, ⟨46, _⟩ => ⟨S8192x256x8x128, .f32⟩
  | .hbm, ⟨47, _⟩ => ⟨S8192x8x256, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192x8x256, .f32⟩
  | .hbm, ⟨53, _⟩ => ⟨S8192x8x256, .f32⟩
  | .hbm, ⟨54, _⟩ => ⟨S8192, .i32⟩
  | .hbm, ⟨55, _⟩ => ⟨S8192x1, .i32⟩
  | .hbm, ⟨56, _⟩ => ⟨S8192x256, .i32⟩
  | .hbm, ⟨57, _⟩ => ⟨S8192x256, .i1⟩
  | .hbm, ⟨58, _⟩ => ⟨S8192x1x256, .i1⟩
  | .hbm, ⟨59, _⟩ => ⟨S_, .f32⟩
  | .hbm, ⟨60, _⟩ => ⟨S_, .f32⟩
  | .hbm, ⟨61, _⟩ => ⟨S8192x8x256, .i1⟩
  | .hbm, ⟨62, _⟩ => ⟨S8192x8x256, .f32⟩
  | .hbm, ⟨63, _⟩ => ⟨S8192x8x256, .f32⟩
  | .hbm, ⟨64, _⟩ => ⟨S_, .f32⟩
  | .hbm, ⟨65, _⟩ => ⟨S8192x8, .f32⟩
  | .hbm, ⟨66, _⟩ => ⟨S_, .f32⟩
  | .hbm, ⟨67, _⟩ => ⟨S8192x8, .f32⟩
  | .hbm, ⟨68, _⟩ => ⟨S8192x8, .f32⟩
  | .hbm, ⟨69, _⟩ => ⟨S8192x8x1, .f32⟩
  | .hbm, ⟨70, _⟩ => ⟨S8192x8x256, .f32⟩
  | .hbm, ⟨71, _⟩ => ⟨S8192x8x256, .f32⟩
  | .hbm, ⟨72, _⟩ => ⟨S8192x8x256, .f32⟩
  | .hbm, ⟨73, _⟩ => ⟨S_, .f32⟩
  | .hbm, ⟨74, _⟩ => ⟨S8192x8, .f32⟩
  | .hbm, ⟨75, _⟩ => ⟨S8192x8x1, .f32⟩
  | .hbm, ⟨76, _⟩ => ⟨S8192x8x256, .f32⟩
  | .hbm, ⟨77, _⟩ => ⟨S8192x8x256, .f32⟩
  | .hbm, ⟨78, _⟩ => ⟨S8192x8x128, .f32⟩
  | .hbm, ⟨79, _⟩ => ⟨S8192x1024, .f32⟩
  | .hbm, ⟨80, _⟩ => ⟨S8192x1024, .bf16⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_values : Ref sig .tc := ⟨.hbm, 27, rfl⟩
abbrev main_indices : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Kernel2.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S8192x2048, .bf16⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S8192x1024, .bf16⟩
  | .hbm, ⟨10, _⟩ => ⟨S8192x1024, .bf16⟩
  | .hbm, ⟨11, _⟩ => ⟨S1024x2048, .bf16⟩
  | .hbm, ⟨12, _⟩ => ⟨S1024x2048, .bf16⟩
  | .hbm, ⟨13, _⟩ => ⟨S2048x2048, .bf16⟩
  | .hbm, ⟨14, _⟩ => ⟨S1x2048, .f32⟩
  | .hbm, ⟨15, _⟩ => ⟨S8192x2048, .f32⟩
  | .hbm, ⟨16, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8192x2048 : Shape := ⟨2, ![8192, 2048]⟩
abbrev S8192x1024 : Shape := ⟨2, ![8192, 1024]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S8192x2048 : Shape := ⟨2, ![8192, 2048]⟩
abbrev S2048x1024 : Shape := ⟨2, ![2048, 1024]⟩
abbrev S8192x1024 : Shape := ⟨2, ![8192, 1024]⟩
abbrev S8x8192x128 : Shape := ⟨3, ![8, 8192, 128]⟩
abbrev S1024x2048 : Shape := ⟨2, ![1024, 2048]⟩
abbrev S1024x1024 : Shape := ⟨2, ![1024, 1024]⟩
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S2048x1024, .bf16⟩
  | .hbm, ⟨4, _⟩ => ⟨S8192x1024, .f32⟩
  | .hbm, ⟨5, _⟩ => ⟨S8x8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S8x1024x128, .bf16⟩
  | .local _ .vmem, ⟨6, _⟩ => ⟨S8x1024x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S2048x1024 : Shape := ⟨2, ![2048, 1024]⟩
abbrev S8192x1024 : Shape := ⟨2, ![8192, 1024]⟩
abbrev S8192x8x128 : Shape := ⟨3, ![8192, 8, 128]⟩
abbrev S8x8192x128 : Shape := ⟨3, ![8, 8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x8x128, .f32⟩
  | .hbm, ⟨4, _⟩ => ⟨S8x8192x128, .f32⟩
  | .hbm, ⟨5, _⟩ => ⟨S8x8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x128, .f32⟩
  | .hbm, ⟨2, _⟩ => ⟨S8192x2048, .bf16⟩
  | .hbm, ⟨3, _⟩ => ⟨S2048x128, .bf16⟩
  | .hbm, ⟨4, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x128, .f32⟩
  | .hbm, ⟨2, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S2048x1024, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S2048x1024, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S8192x2048 : Shape := ⟨2, ![8192, 2048]⟩
abbrev S2048x1024 : Shape := ⟨2, ![2048, 1024]⟩
abbrev S8x8192x128 : Shape := ⟨3, ![8, 8192, 128]⟩
abbrev S1024x2048 : Shape := ⟨2, ![1024, 2048]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S2048x1024, .bf16⟩
  | .hbm, ⟨4, _⟩ => ⟨S8x8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S8x1024x128, .bf16⟩
  | .local _ .vmem, ⟨4, _⟩ => ⟨S8x1024x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x2048 : Shape := ⟨2, ![8192, 2048]⟩
abbrev S2048x1024 : Shape := ⟨2, ![2048, 1024]⟩
abbrev S8192x1024 : Shape := ⟨2, ![8192, 1024]⟩
abbrev S8192x8x128 : Shape := ⟨3, ![8192, 8, 128]⟩
abbrev S_ : Shape := ⟨0, ![]⟩
abbrev S8x8192x128 : Shape := ⟨3, ![8, 8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x8x128, .f32⟩
  | .hbm, ⟨4, _⟩ => ⟨S_, .f32⟩
  | .hbm, ⟨5, _⟩ => ⟨S8192x8x128, .f32⟩
  | .hbm, ⟨6, _⟩ => ⟨S8192x8x128, .f32⟩
  | .hbm, ⟨7, _⟩ => ⟨S8x8192x128, .f32⟩
  | .hbm, ⟨8, _⟩ => ⟨S8x8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Kit.lean ====
/- The launch of the prompt's sparse attention, up to the kernel's body: the host code before the region, the blocks the
   windows stage, the scratch buffers, and the run of the whole program from ANY triple of the body that names what it
   leaves in the output's block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Prompt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body calls one function, the bisection's loop; its calls descend along the natural numbers. -/
abbrev 𝒱₀ : Variants := Variants.nat

variable (m : (ℓ : Loc nD τ sig) → Buf (Elt F) ℓ) (ρ : Dev nD → PrngReg)

/-! ## The host code before the region -/

/-- Core `c`'s buffers when the region is entered. -/
abbrev V (c : Dev nD) (b : Ref sig .tc) : Buf (Elt F) ((c : Thread nD τ).loc b) :=
  StableHlo.after (List.flatten [hostOps0, hostOps0_1, hostOps0_2]) (fun b => m (c, b)) b

/-- No host operation asks for a fresh buffer. -/
theorem host_fresh : ([hostOps0, hostOps0_1, hostOps0_2] : List (List (HloOp τ sig (Elt F)))).Forall
    fun ops => ops.Forall fun op => op.fresh = ∅ := by
  simp only [List.Forall]; repeat' constructor

set_option maxHeartbeats 800000 in
/-- The program up to the region is its host operations. -/
theorem host_main : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩) host_fresh main_chain

/-- The six arguments are found at the region as launched: no host operation writes one. -/
theorem V_args (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5) := by
  refine ⟨?_, ?_, ?_, ?_, ?_, ?_⟩
  all_goals
    refine StableHlo.after_of_forall_not_mem (b := Proc.devRef .tc _) _ _ (List.forall_iff_forall_mem.mp ?_)
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

/-! ## The blocks -/

/-- Window `w`'s block at point `t`, of its array as the region finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The staging memrefs at point `t`, and their wholeness. -/
abbrev ms0 (t : Fin (cfg0 (F := F)).N) : Memref sig .tc .vmem S8x256x128 .bf16 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S256x1024 .bf16 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S256x128 .f32 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S8192x64 .bf16 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S8x8192x128 .bf16 := win0_4.stage ((cfg0 (F := F)).slots t 4)
abbrev hs4 (t : Fin (cfg0 (F := F)).N) : (ms4 t).IsWhole := hstage0_4 (((cfg0 (F := F)).slots t 4).cast nbuf0_4)
abbrev ms5 (t : Fin (cfg0 (F := F)).N) : Memref sig .tc .vmem S8x8192x128 .bf16 := win0_5.stage ((cfg0 (F := F)).slots t 5)
abbrev hs5 (t : Fin (cfg0 (F := F)).N) : (ms5 t).IsWhole := hstage0_5 (((cfg0 (F := F)).slots t 5).cast nbuf0_5)
abbrev ms6 (t : Fin (cfg0 (F := F)).N) : Memref sig .tc .vmem S256x1024 .bf16 := win0_6.stage ((cfg0 (F := F)).slots t 6)
abbrev hs6 (t : Fin (cfg0 (F := F)).N) : (ms6 t).IsWhole := hstage0_6 (((cfg0 (F := F)).slots t 6).cast nbuf0_6)

/-- The scratch buffers: the broadcast weights, the scores, the thresholds, the bias, and the running maximum, sum and
    weighted values. -/
abbrev sc0 : Memref sig .tc .vmem S16x256x128 .f32 := Memref.whole cc0_scratch0
abbrev sc1 : Memref sig .tc .vmem S64x256x128 .f32 := Memref.whole cc0_scratch1
abbrev sc2 : Memref sig .tc .vmem S256x128 .f32 := Memref.whole cc0_scratch2
abbrev sc3 : Memref sig .tc .vmem S256x256 .f32 := Memref.whole cc0_scratch3
abbrev sc4 : Memref sig .tc .vmem S8x256x128 .f32 := Memref.whole cc0_scratch4
abbrev sc5 : Memref sig .tc .vmem S8x256x128 .f32 := Memref.whole cc0_scratch5
abbrev sc6 : Memref sig .tc .vmem S8x256x128 .f32 := Memref.whole cc0_scratch6

/-- The scratch buffers, each at some contents. -/
def scratch (c : Dev nD) : sProp 𝕄 :=
  iprop((∃ d, owns (c : Thread nD τ) sc0 fullShare d) ∗ (∃ d, owns (c : Thread nD τ) sc1 fullShare d)
    ∗ (∃ d, owns (c : Thread nD τ) sc2 fullShare d) ∗ (∃ d, owns (c : Thread nD τ) sc3 fullShare d)
    ∗ (∃ d, owns (c : Thread nD τ) sc4 fullShare d) ∗ (∃ d, owns (c : Thread nD τ) sc5 fullShare d)
    ∗ (∃ d, owns (c : Thread nD τ) sc6 fullShare d))

/-- The pipeline's invariant is the scratch buffers and the generator's register. -/
theorem inv_eq (c : Dev nD) : (Pipeline.ΦA spec0 c : sProp 𝕄) = iprop(scratch c ∗ (∃ r, prngReg c r)) := by
  unfold Pipeline.ΦA scratch; rw [scopedRest0_eq]
  simp only [sc0, sc1, sc2, sc3, sc4, sc5, sc6, owns_whole]; try rfl

/-- The six input blocks in their staging memrefs. -/
def inputs (c : Dev nD) (t : Fin (cfg0 (F := F)).N) : sProp 𝕄 :=
  iprop(owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare (iblk m c 4 t) ∗ owns (c : Thread nD τ) (ms5 t) fullShare (iblk m c 5 t))

/-- THE BODY'S TRIPLE for an output named by `out`: from the input blocks, an output block at anything and the scratch at
    anything it leaves the inputs, `out` in the output's block, and the scratch at something. -/
def BodyOk (out : Dev nD → Fin (cfg0 (F := F)).N → Vec F S256x1024 .bf16) : Prop :=
  ∀ (c : Dev nD) (t : Fin (cfg0 (F := F)).N) (K : PUnit → sProp 𝕄),
    iprop(inputs m c t ∗ (∃ d, owns (c : Thread nD τ) (ms6 t) fullShare d) ∗ scratch c
        ∗ (iprop(inputs m c t ∗ owns (c : Thread nD τ) (ms6 t) fullShare (out c t) ∗ scratch c) -∗ K ⟨⟩))
      ⊢ wp frame (wpE (defs₀ (F := F)) 𝒱₀ c none) Set.univ (bodyAt0 t) K

variable (out : Dev nD → Fin (cfg0 (F := F)).N → Vec F S256x1024 .bf16)

/-- The proof data: every input's buffer keeps its block, the output's holds `out`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out c t
  Φ _ := Pipeline.ΦA spec0 c
  q _ := fullShare
  owed _ := 0

theorem A_eq (c : Dev nD) (w : Fin (cfg0 (F := F)).W) : (dats m out 0 c).A w = V m c (Pipeline.arrRef spec0 w) := by
  dsimp only [dats]

theorem after_eq (c : Dev nD) (t : Fin (cfg0 (F := F)).N) :
    (dats m out 0 c).after 0 t = iblk m c 0 t ∧ (dats m out 0 c).after 1 t = iblk m c 1 t
    ∧ (dats m out 0 c).after 2 t = iblk m c 2 t ∧ (dats m out 0 c).after 3 t = iblk m c 3 t
    ∧ (dats m out 0 c).after 4 t = iblk m c 4 t ∧ (dats m out 0 c).after 5 t = iblk m c 5 t
    ∧ (dats m out 0 c).after 6 t = out c t := by
  refine ⟨?_, ?_, ?_, ?_, ?_, ?_, ?_⟩ <;> (dsimp only [dats]; rfl)

/-- An input window's buffer holds its block before the body, fetched at this point or kept from an earlier one. -/
theorem before_in (c : Dev nD) (w : Fin (cfg0 (F := F)).W) (hw : ((cfg0 (F := F)).win w).isOut = false)
    (hlive : ∀ i, (cfg0 (F := F)).idle w i = false)
    (hclip : ∀ t t' : Fin (cfg0 (F := F)).N, ((cfg0 (F := F)).win w).index t = ((cfg0 (F := F)).win w).index t' →
      ((cfg0 (F := F)).win w).clip ((cfg0 (F := F)).grid.coords t) = ((cfg0 (F := F)).win w).clip ((cfg0 (F := F)).grid.coords t'))
    (hkeep : ∀ t, ((cfg0 (F := F)).win w).cut ((cfg0 (F := F)).grid.coords t) ((dats m out 0 c).after w t) = iblk m c w t)
    (t : Fin (cfg0 (F := F)).N) (d) :
    (dats m out 0 c).before w t d = (dats m out 0 c).fetched w t d :=
  (dats m out 0 c).before_in_eq_fetched w hw hlive hclip
    (fun t => by rw [hkeep]; unfold Dat.blockOf iblk; rw [A_eq]) t d

theorem before_eq (c : Dev nD) (t : Fin (cfg0 (F := F)).N) :
    (∀ d, (dats m out 0 c).before 0 t d = iblk m c 0 t) ∧ (∀ d, (dats m out 0 c).before 1 t d = iblk m c 1 t)
    ∧ (∀ d, (dats m out 0 c).before 2 t d = iblk m c 2 t) ∧ (∀ d, (dats m out 0 c).before 3 t d = iblk m c 3 t)
    ∧ (∀ d, (dats m out 0 c).before 4 t d = iblk m c 4 t) ∧ (∀ d, (dats m out 0 c).before 5 t d = iblk m c 5 t) := by
  refine ⟨fun d => ?_, fun d => ?_, fun d => ?_, fun d => ?_, fun d => ?_, fun d => ?_⟩
  all_goals
    refine (before_in m out c _ rfl (fun _ => rfl) (fun _ _ _ => rfl) (fun t => ?_) t d).trans ?_
    · dsimp only [dats]; rfl
    · unfold Dat.fetched Dat.blockOf iblk; rw [A_eq]; rfl

/-! ## The run -/

set_option maxHeartbeats 1200000 in
/-- The body at any point, from its triple. -/
theorem body_obligation (hbody : BodyOk m out) (c : Dev nD) :
    BodyObligation (dats (F := F) m out 0 c) (defs₀ (F := F)) 𝒱₀ () Set.univ := fun t => by
  obtain ⟨b0, b1, b2, b3, b4, b5⟩ := before_eq m out c t
  obtain ⟨a0, a1, a2, a3, a4, a5, a6⟩ := after_eq m out c t
  rw [bigSep_W0, bigSep_W0, show defs₀ (F := F) .tc cfg0.body (cfg0.bodyArgs t ((cfg0 (F := F)).slots t)) = bodyAt0 t by
    unfold defs₀; rw [Defs.onTc_tc]]
  refine triple_restated (P := iprop((dats m out 0 c).Φ t.castSucc ∗ (dats m out 0 c).owesAt () t.castSucc
      ∗ (∃ d, owns (c : Thread nD τ) (ms0 t) fullShare ((dats m out 0 c).before 0 t d))
      ∗ (∃ d, owns (c : Thread nD τ) (ms1 t) fullShare ((dats m out 0 c).before 1 t d))
      ∗ (∃ d, owns (c : Thread nD τ) (ms2 t) fullShare ((dats m out 0 c).before 2 t d))
      ∗ (∃ d, owns (c : Thread nD τ) (ms3 t) fullShare ((dats m out 0 c).before 3 t d))
      ∗ (∃ d, owns (c : Thread nD τ) (ms4 t) fullShare ((dats m out 0 c).before 4 t d))
      ∗ (∃ d, owns (c : Thread nD τ) (ms5 t) fullShare ((dats m out 0 c).before 5 t d))
      ∗ (∃ d, owns (c : Thread nD τ) (ms6 t) fullShare ((dats m out 0 c).before 6 t d))))
    (Q := fun _ => iprop((dats m out 0 c).Φ t.succ ∗ (dats m out 0 c).owesAt () t.succ
      ∗ owns (c : Thread nD τ) (ms0 t) fullShare ((dats m out 0 c).after 0 t)
      ∗ owns (c : Thread nD τ) (ms1 t) fullShare ((dats m out 0 c).after 1 t)
      ∗ owns (c : Thread nD τ) (ms2 t) fullShare ((dats m out 0 c).after 2 t)
      ∗ owns (c : Thread nD τ) (ms3 t) fullShare ((dats m out 0 c).after 3 t)
      ∗ owns (c : Thread nD τ) (ms4 t) fullShare ((dats m out 0 c).after 4 t)
      ∗ owns (c : Thread nD τ) (ms5 t) fullShare ((dats m out 0 c).after 5 t)
      ∗ owns (c : Thread nD τ) (ms6 t) fullShare ((dats m out 0 c).after 6 t))) ?_ rfl .rfl fun _ => .rfl
  simp only [b0, b1, b2, b3, b4, b5]
  rw [a0, a1, a2, a3, a4, a5, a6,
    show (dats m out 0 c).Φ t.succ = (dats m out 0 c).Φ t.castSucc from rfl,
    show (dats m out 0 c).owesAt () t.succ = (dats m out 0 c).owesAt () t.castSucc from rfl,
    show (dats m out 0 c).Φ t.castSucc = Pipeline.ΦA spec0 c from rfl, inv_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (hbody c t _)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [HS]; · iexact HS
  iintro ⟨⟨H0, H1, H2, H3, H4, H5⟩, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- THE RUN from a triple of the body: every execution ends, the pipeline's arrays at what the proof data say, every other
    buffer as the region found it, every semaphore at zero. -/
theorem run_pipeline (hbody : BodyOk m out) : θ_run defs (onTc (τ := τ) (main (F := F))) (s₀ m ρ)
    (fun r => (Pipeline.FramePost cfgs (dats m out) 0 (V m)) r ∧ r.2.sem = fun _ => 0) :=
  Pipeline.θ_run_frame (Q' := _) cfgs (dats m out) (0 : Fin 1) launch0 defs₀ 𝒱₀ m ρ main
    (hbody := fun c => (body_obligation m out hbody c).loose) (hshare := fun c => (dats m out 0 c).share_full fun _ => rfl)
    (howed := fun _ _ => rfl) (V := V m) (hmain := host_main m) (hA := A_eq m out) (hΦ := fun _ _ => rfl)

/-- Distinct points write distinct blocks of the output. -/
theorem out_index_inj : ∀ t t' : Fin grid0.N, win0_6.index t = win0_6.index t' → t = t' := by decide +kernel

/-- Every point writes its block back. -/
theorem out_flush : ∀ t : Fin grid0.N, win0_6.flush t = true := by decide +kernel

/-- THE RUN, READ: the result holds in every block what the body left there, the arguments are as launched, every semaphore
    is at zero. -/
theorem run_main (hbody : BodyOk m out) : θ_run defs (onTc (τ := τ) (main (F := F))) ⟨m, fun _ => 0, ρ⟩ (fun r =>
    (∀ c : Dev nD,
      (∀ t : Fin (cfg0 (F := F)).N, (((cfg0 (F := F)).win 6).blk t).view.read (Elt F) (r.2.mem ((c : Thread nD τ).loc main_v17))
          = ((cfg0 (F := F)).win 6).cut (grid0.coords t) (out c t))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) := by
  refine (θ_run defs _ _).mono (fun r h => ⟨fun c => ?_, h.2⟩) (run_pipeline m ρ out hbody)
  obtain ⟨v0, v1, v2, v3, v4, v5⟩ := V_args m c
  refine ⟨fun t => ?_, ?_, ?_, ?_, ?_, ?_, ?_⟩
  · rw [show r.2.mem ((c : Thread nD τ).loc main_v17) = (dats m out 0 c).arrAt 6 (cfg0 (F := F)).N from (h.1 c).1 6,
      (dats m out 0 c).read_blk_arrAt_eq_flushed 6
        (fun t t' _ _ hne => ((cfg0 (F := F)).win 6).disjoint_blk fun he => hne (out_index_inj t t' he)) _ t t.isLt
        (out_flush t)]
    show ((cfg0 (F := F)).win 6).cut (grid0.coords t) ((dats m out 0 c).after 6 t) = _
    rw [(after_eq m out c t).2.2.2.2.2.2]
  · exact ((h.1 c).2 main_arg0 (Pipeline.mem_restRefs_of main_arg0 (by decide) (show ∀ w : Fin 7, (spec0 w).arr.view.ref ≠ main_arg0 by decide))).trans v0
  · exact ((h.1 c).2 main_arg1 (Pipeline.mem_restRefs_of main_arg1 (by decide) (show ∀ w : Fin 7, (spec0 w).arr.view.ref ≠ main_arg1 by decide))).trans v1
  · exact ((h.1 c).2 main_arg2 (Pipeline.mem_restRefs_of main_arg2 (by decide) (show ∀ w : Fin 7, (spec0 w).arr.view.ref ≠ main_arg2 by decide))).trans v2
  · exact ((h.1 c).2 main_arg3 (Pipeline.mem_restRefs_of main_arg3 (by decide) (show ∀ w : Fin 7, (spec0 w).arr.view.ref ≠ main_arg3 by decide))).trans v3
  · exact ((h.1 c).2 main_arg4 (Pipeline.mem_restRefs_of main_arg4 (by decide) (show ∀ w : Fin 7, (spec0 w).arr.view.ref ≠ main_arg4 by decide))).trans v4
  · exact ((h.1 c).2 main_arg5 (Pipeline.mem_restRefs_of main_arg5 (by decide) (show ∀ w : Fin 7, (spec0 w).arr.view.ref ≠ main_arg5 by decide))).trans v5

end Cert.KernelIdeal.Prompt

end
-- ==== Proof.Scores.lean ====
/- The scores as the kernel's first loop leaves them: what one trip stores, and the array of all of them. -/
module

public import proofs.«01_k».proof.Proof.Kit
public import proofs.«01_k».proof.Proof.Gen.KernelIdeal.Loops
public import Idealize.ShloMosaic.Lib.Pointwise

@[expose] public section

set_option maxRecDepth 65536

noncomputable section

namespace Cert.KernelIdeal.Prompt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Head `h`'s sixty-four lanes of the index queries. -/
theorem query_inb (h : ℕ) : ∀ d, (![0, 64 * (h % 16)] : Fin 2 → ℕ) d + S256x64.size d ≤ S256x1024.size d := by
  have := Nat.mod_lt h (show 0 < 16 by decide)
  intro d; fin_cases d
  · show 0 + 256 ≤ 256; omega
  · show 64 * (h % 16) + 64 ≤ 1024; omega

/-- Head `h`'s weights. -/
theorem weight_inb (h : ℕ) : ∀ d, (![h % 16, 0, 0] : Fin 3 → ℕ) d + S1x256x128.size d ≤ S16x256x128.size d := by
  have := Nat.mod_lt h (show 0 < 16 by decide)
  intro d; fin_cases d
  · show h % 16 + 1 ≤ 16; omega
  · show 0 + 256 ≤ 256; omega
  · show 0 + 128 ≤ 128; omega

/-- The first `n` heads' sum of rectified products, weighted, of 256 rows against 256 keys. -/
def headSum (x2 : Vec F S256x1024 .bf16) (x8 : Vec F S16x256x128 .f32) (kk : Vec F S256x64 .bf16) : ℕ → FVec F S256x256 .f32
  | 0 => broadcast S256x256 (Scalar.ofBits .f32 0x00000000#32)
  | h + 1 =>
    addf (headSum x2 x8 kk h)
      (mulf (maximumf (matmul dot_S256x64_S256x64_S256x256_1_1_0_0_n_n none
          (shapeCast S256x64 (View.ld x2 (Rect.unit (s := S256x1024) ![0, 64 * (h % 16)] S256x64.size (query_inb h))) shapeCasts_S256x64_S256x64)
          (shapeCast S256x64 kk shapeCasts_S256x64_S256x64) (constant S256x256 .f32 0x00000000#32))
        (broadcast S256x256 (Scalar.ofBits .f32 0x00000000#32)))
      (concatenate S256x256 1
        [⟨S256x128, shapeCast S256x128 (View.ld x8 (Rect.unit (s := S16x256x128) ![h % 16, 0, 0] S1x256x128.size (weight_inb h))) shapeCasts_S1x256x128_S256x128⟩,
         ⟨S256x128, shapeCast S256x128 (View.ld x8 (Rect.unit (s := S16x256x128) ![h % 16, 0, 0] S1x256x128.size (weight_inb h))) shapeCasts_S1x256x128_S256x128⟩]
        concatenates_S256x128_S256x128_S256x256_d1))

/-- The scores of 256 rows against 256 keys from column `col` on: zero for either zero, minus infinity past the row. -/
def chunk (i : grid0.Coords) (x2 : Vec F S256x1024 .bf16) (x8 : Vec F S16x256x128 .f32) (kk : Vec F S256x64 .bf16) (col : BitVec 32) :
    FVec F S256x256 .f32 :=
  select (cmpi .sle (broadcastTo S256x256 (addi (broadcast S1x256 col) (iota .tc S1x256 32 [1] iota_S1x256_d1_w32)) broadcasts_S1x256_S256x256)
      (broadcastTo S256x256 (k0_pay219 i) broadcasts_S256x1_S256x256))
    (select (cmpf .oeq (headSum x2 x8 kk 16) (broadcast S256x256 (Scalar.ofBits .f32 0x00000000#32)))
      (broadcast S256x256 (Scalar.ofBits .f32 0x00000000#32)) (headSum x2 x8 kk 16))
    (broadcast S256x256 (Scalar.ofBits .f32 0xFF800000#32))

theorem keysAt_inb (n : ℕ) : ∀ d, (![256 * (n % 32), 0] : Fin 2 → ℕ) d + S256x64.size d ≤ S8192x64.size d := by
  have := Nat.mod_lt n (show 0 < 32 by decide)
  intro d; fin_cases d
  · show 256 * (n % 32) + 256 ≤ 8192; omega
  · show 0 + 64 ≤ 64; omega

/-- The `n`th 256 keys. -/
def keysAt (x4 : Vec F S8192x64 .bf16) (n : ℕ) : Vec F S256x64 .bf16 :=
  View.ld x4 (Rect.unit (s := S8192x64) ![256 * (n % 32), 0] S256x64.size (keysAt_inb n))

theorem scoreAt_lt (y : S64x256x128.Idx) : 128 * ((y 0).val % 2) + (y 2).val < 256 := by
  have : (y 2).val < 128 := (y 2).isLt
  omega

/-- The scores: block `b` of the buffer is columns `128 b` and on. -/
def scoreAt (i : grid0.Coords) (x2 : Vec F S256x1024 .bf16) (x4 : Vec F S8192x64 .bf16) (x8 : Vec F S16x256x128 .f32) :
    Vec F S64x256x128 .f32 := fun y =>
  chunk i x2 x8 (keysAt x4 ((y 0).val / 2)) (BitVec.ofNat 32 (256 * ((y 0).val / 2)))
    (ix2 ⟨(y 1).val, (y 1).isLt⟩ ⟨128 * ((y 0).val % 2) + (y 2).val, scoreAt_lt y⟩)

/-- Loads of one size at equal offsets are equal. -/
theorem ld_unit_congr {s : Shape} {e : EltTy} (x : Vec F s e) {off off' size : Fin s.rank → ℕ} (h : off = off')
    (h1 : ∀ a, off a + size a ≤ s.size a) (h2 : ∀ a, off' a + size a ≤ s.size a) :
    View.ld x (Rect.unit (s := s) off size h1) = View.ld x (Rect.unit (s := s) off' size h2) := by
  subst h; rfl

theorem pay37_apply (v : FVec F S256x256 .f32) (x : S1x256x128.Idx) :
    k0_pay37 v x = v (ix2 (x 1) ⟨(x 2).val, Nat.lt_trans (x 2).isLt (by decide)⟩) := by
  refine (shapeCast_addUnit_apply _ _ _ x).trans (extractStridedSlice_apply _ _ _ _ _ fun a => ?_)
  match a with
  | ⟨0, _⟩ => exact (Nat.zero_add _).symm
  | ⟨1, _⟩ => exact (Nat.zero_add _).symm

theorem pay38_apply (v : FVec F S256x256 .f32) (x : S1x256x128.Idx) :
    k0_pay38 v x = v (ix2 (x 1) ⟨128 * 1 + (x 2).val, by have : (x 2).val < 128 := (x 2).isLt; omega⟩) := by
  refine (shapeCast_addUnit_apply _ _ _ x).trans (extractStridedSlice_apply _ _ _ _ _ fun a => ?_)
  match a with
  | ⟨0, _⟩ => exact (Nat.zero_add _).symm
  | ⟨1, _⟩ => rfl

section Trip

variable (c : Dev nD) (i : grid0.Coords) (arg1 : Memref sig .tc .vmem S8x256x128 .bf16) (harg1 : arg1.IsWhole)
  (arg2 : Memref sig .tc .vmem S256x1024 .bf16) (harg2 : arg2.IsWhole)
  (arg3 : Memref sig .tc .vmem S256x128 .f32) (harg3 : arg3.IsWhole)
  (arg4 : Memref sig .tc .vmem S8192x64 .bf16) (harg4 : arg4.IsWhole)
  (arg5 : Memref sig .tc .vmem S8x8192x128 .bf16) (harg5 : arg5.IsWhole)
  (arg6 : Memref sig .tc .vmem S8x8192x128 .bf16) (harg6 : arg6.IsWhole)
  (arg7 : Memref sig .tc .vmem S256x1024 .bf16) (harg7 : arg7.IsWhole)
  (arg8 : Memref sig .tc .vmem S16x256x128 .f32) (harg8 : arg8.IsWhole)
  (arg9 : Memref sig .tc .vmem S64x256x128 .f32) (harg9 : arg9.IsWhole)
  (arg10 : Memref sig .tc .vmem S256x128 .f32) (harg10 : arg10.IsWhole)
  (arg11 : Memref sig .tc .vmem S256x256 .f32) (harg11 : arg11.IsWhole)
  (arg12 : Memref sig .tc .vmem S8x256x128 .f32) (harg12 : arg12.IsWhole)
  (arg13 : Memref sig .tc .vmem S8x256x128 .f32) (harg13 : arg13.IsWhole)
  (arg14 : Memref sig .tc .vmem S8x256x128 .f32) (harg14 : arg14.IsWhole)

/-- The keys a trip's half `r` reads, and the scores it makes. -/
def tripChunk (X2 : BufTy.Contents (Elt F) arg2.view.ty) (X4 : BufTy.Contents (Elt F) arg4.view.ty)
    (X8 : BufTy.Contents (Elt F) arg8.view.ty) (k : Fin (k0_t1_loop i).trips) (r : Fin 2) : FVec F S256x256 .f32 :=
  chunk i (arg2.view.read (Elt F) X2) (arg8.view.read (Elt F) X8)
    (View.ld (arg4.view.read (Elt F) X4) (Rect.unit (s := S8192x64) (k0_off1 i k (BitVec.ofNat 32 (256 * r.val))) S256x64.size (k0_off1_inb i k r)))
    (Scalar.addi (Scalar.muli (Scf.iv 0#32 1#32 k) 512#32) (BitVec.ofNat 32 (256 * r.val)))

/-- A trip's rectangle of the scores: block `2 * r + l` of the trip's four. -/
def tripRect (k : Fin (k0_t1_loop i).trips) (r l : Fin 2) : Rect S64x256x128 :=
  Rect.unit (s := S64x256x128) (k0_off2 i k (BitVec.ofNat 32 (2 * r.val)) (BitVec.ofNat 32 l.val)) S1x256x128.size (k0_off2_inb i k r l)

/-- What one trip stores. -/
theorem trip1_eq (v20 : BitVec 32) (v27 : FVec F S256x16 .f32) (v108 : FVec F S256x128 .f32) (v109 : Vec F S1x256x128 .f32)
    (X2 : BufTy.Contents (Elt F) arg2.view.ty) (X4 : BufTy.Contents (Elt F) arg4.view.ty)
    (X8 : BufTy.Contents (Elt F) arg8.view.ty) (k : Fin (k0_t1_loop i).trips) :
    (trip_k0_t1 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v20 (k0_pay219 i) v27 v108 v109 X2 X4 X8 k).1
      = [⟨tripRect i k 1 1, k0_pay38 (tripChunk i arg2 arg4 arg8 X2 X4 X8 k 1)⟩,
         ⟨tripRect i k 1 0, k0_pay37 (tripChunk i arg2 arg4 arg8 X2 X4 X8 k 1)⟩,
         ⟨tripRect i k 0 1, k0_pay38 (tripChunk i arg2 arg4 arg8 X2 X4 X8 k 0)⟩,
         ⟨tripRect i k 0 0, k0_pay37 (tripChunk i arg2 arg4 arg8 X2 X4 X8 k 0)⟩] := by
  sl_kernel_rfl

/-- A trip's half `r`, at its block `l`, is the array of the scores there. -/
theorem tripChunk_eq (X2 : BufTy.Contents (Elt F) arg2.view.ty) (X4 : BufTy.Contents (Elt F) arg4.view.ty)
    (X8 : BufTy.Contents (Elt F) arg8.view.ty) (k : Fin (k0_t1_loop i).trips) (r l : Fin 2) (x : S1x256x128.Idx) (b : Fin 256)
    (hb : b.val = 128 * l.val + (x 2).val) :
    tripChunk i arg2 arg4 arg8 X2 X4 X8 k r (ix2 (x 1) b)
      = scoreAt i (arg2.view.read (Elt F) X2) (arg4.view.read (Elt F) X4) (arg8.view.read (Elt F) X8) ((tripRect i k r l).emb x) := by
  have hk : k.val < 16 := Nat.lt_of_lt_of_le k.isLt (k0_t1_abs i).2.1
  have h0 : (x 0).val = 0 := by have := (x 0).isLt; simp at this; omega
  have h2 : (x 2).val < 128 := (x 2).isLt
  have hr := r.isLt
  have hl := l.isLt
  have hoff : k0_off2 i k (BitVec.ofNat 32 (2 * r.val)) (BitVec.ofNat 32 l.val) = ![4 * k.val + 2 * r.val + l.val, 0, 0] := k0_off2_eq i k r l
  have e0 : ((tripRect i k r l).emb x 0).val = 4 * k.val + 2 * r.val + l.val := by
    show k0_off2 i k (BitVec.ofNat 32 (2 * r.val)) (BitVec.ofNat 32 l.val) 0 + 1 * (x 0).val = _
    rw [hoff, h0]; rfl
  have e1 : ((tripRect i k r l).emb x 1).val = (x 1).val := by
    show k0_off2 i k (BitVec.ofNat 32 (2 * r.val)) (BitVec.ofNat 32 l.val) 1 + 1 * (x 1).val = _
    rw [hoff]; show 0 + 1 * (x 1).val = _; omega
  have e2 : ((tripRect i k r l).emb x 2).val = (x 2).val := by
    show k0_off2 i k (BitVec.ofNat 32 (2 * r.val)) (BitVec.ofNat 32 l.val) 2 + 1 * (x 2).val = _
    rw [hoff]; show 0 + 1 * (x 2).val = _; omega
  unfold scoreAt tripChunk
  have d : ((tripRect i k r l).emb x 0).val / 2 = 2 * k.val + r.val := by rw [e0]; omega
  have hix : (ix2 (x 1) b : S256x256.Idx) = ix2 ⟨((tripRect i k r l).emb x 1).val, ((tripRect i k r l).emb x 1).isLt⟩
      ⟨128 * (((tripRect i k r l).emb x 0).val % 2) + ((tripRect i k r l).emb x 2).val, scoreAt_lt _⟩ := by
    funext a
    match a with
    | ⟨0, _⟩ => exact Fin.ext e1.symm
    | ⟨1, _⟩ => exact Fin.ext (by show b.val = 128 * (((tripRect i k r l).emb x 0).val % 2) + ((tripRect i k r l).emb x 2).val; rw [e0, e2, hb]; omega)
  rw [hix]
  have hcol : Scalar.addi (Scalar.muli (Scf.iv 0#32 1#32 k) 512#32) (BitVec.ofNat 32 (256 * r.val))
      = BitVec.ofNat 32 (256 * (((tripRect i k r l).emb x 0).val / 2)) := by
    rw [d]
    apply BitVec.eq_of_toNat_eq
    simp [Scalar.addi, Scalar.muli, Scf.iv, IntOp.addi, IntOp.muli]
    omega
  rw [hcol]
  congr 1
  unfold keysAt
  have hoff1 : k0_off1 i k (BitVec.ofNat 32 (256 * r.val)) = ![256 * (((tripRect i k r l).emb x 0).val / 2 % 32), 0] := by
    rw [k0_off1_eq i k r, d]
    congr 1
    omega
  exact ld_unit_congr (s := S8192x64) _ hoff1 _ _

theorem piece37 (X2 : BufTy.Contents (Elt F) arg2.view.ty) (X4 : BufTy.Contents (Elt F) arg4.view.ty)
    (X8 : BufTy.Contents (Elt F) arg8.view.ty) (k : Fin (k0_t1_loop i).trips) (r : Fin 2) (x : S1x256x128.Idx) :
    k0_pay37 (tripChunk i arg2 arg4 arg8 X2 X4 X8 k r) x
      = scoreAt i (arg2.view.read (Elt F) X2) (arg4.view.read (Elt F) X4) (arg8.view.read (Elt F) X8) ((tripRect i k r 0).emb x) :=
  (pay37_apply _ x).trans (tripChunk_eq i arg2 arg4 arg8 X2 X4 X8 k r 0 x ⟨(x 2).val, Nat.lt_trans (x 2).isLt (by decide)⟩ (by show (x 2).val = 128 * 0 + (x 2).val; omega))

theorem piece38 (X2 : BufTy.Contents (Elt F) arg2.view.ty) (X4 : BufTy.Contents (Elt F) arg4.view.ty)
    (X8 : BufTy.Contents (Elt F) arg8.view.ty) (k : Fin (k0_t1_loop i).trips) (r : Fin 2) (x : S1x256x128.Idx) :
    k0_pay38 (tripChunk i arg2 arg4 arg8 X2 X4 X8 k r) x
      = scoreAt i (arg2.view.read (Elt F) X2) (arg4.view.read (Elt F) X4) (arg8.view.read (Elt F) X8) ((tripRect i k r 1).emb x) :=
  (pay38_apply _ x).trans (tripChunk_eq i arg2 arg4 arg8 X2 X4 X8 k r 1 x ⟨128 * 1 + (x 2).val, by have : (x 2).val < 128 := (x 2).isLt; omega⟩ rfl)

/-- The scores after `n` trips: every piece stored is of the array of the scores, and the first `4 n` blocks are stored. -/
theorem scores_after (v20 : BitVec 32) (v27 : FVec F S256x16 .f32) (v108 : FVec F S256x128 .f32) (v109 : Vec F S1x256x128 .f32)
    (X2 : BufTy.Contents (Elt F) arg2.view.ty) (X4 : BufTy.Contents (Elt F) arg4.view.ty)
    (X8 : BufTy.Contents (Elt F) arg8.view.ty) (n : ℕ) (hn : n ≤ (k0_t1_loop i).trips) :
    (∀ p ∈ pb_k0_t1 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v20 (k0_pay219 i) v27 v108 v109 X2 X4 X8 n, ∀ x : p.1.shape.Idx,
        p.2 x = scoreAt i (arg2.view.read (Elt F) X2) (arg4.view.read (Elt F) X4) (arg8.view.read (Elt F) X8) (p.1.emb x))
    ∧ ∀ y : S64x256x128.Idx, (y 0).val < 4 * n →
        ∃ p ∈ pb_k0_t1 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v20 (k0_pay219 i) v27 v108 v109 X2 X4 X8 n, y ∈ p.1.set := by
  induction n with
  | zero => exact ⟨fun p hp => absurd hp List.not_mem_nil, fun y hy => absurd hy (by omega)⟩
  | succ n ih =>
    obtain ⟨ih1, ih2⟩ := ih (by omega)
    have hs := pb_k0_t1_succ (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v20 (k0_pay219 i) v27 v108 v109 X2 X4 X8 ⟨n, by omega⟩
    unfold tripL_k0_t1 at hs
    rw [trip1_eq] at hs
    rw [hs]
    refine ⟨fun p hp x => ?_, fun y hy => ?_⟩
    · rcases List.mem_append.1 hp with hp | hp
      · simp only [List.mem_cons, List.not_mem_nil, or_false] at hp
        rcases hp with rfl | rfl | rfl | rfl
        · exact piece38 i arg2 arg4 arg8 X2 X4 X8 ⟨n, by omega⟩ 1 x
        · exact piece37 i arg2 arg4 arg8 X2 X4 X8 ⟨n, by omega⟩ 1 x
        · exact piece38 i arg2 arg4 arg8 X2 X4 X8 ⟨n, by omega⟩ 0 x
        · exact piece37 i arg2 arg4 arg8 X2 X4 X8 ⟨n, by omega⟩ 0 x
      · exact ih1 p hp x
    · by_cases h : (y 0).val < 4 * n
      · obtain ⟨p, hp, hy'⟩ := ih2 y h
        exact ⟨p, List.mem_append_right _ hp, hy'⟩
      · have hmem : ∀ r l : Fin 2, (y 0).val = 4 * n + 2 * r.val + l.val → y ∈ (tripRect i ⟨n, by omega⟩ r l).set := by
          intro r l h
          refine Rect.mem_set_unit.2 fun a => ?_
          rw [k0_off2_eq i ⟨n, by omega⟩ r l]
          match a with
          | ⟨0, _⟩ => exact ⟨by show 4 * n + 2 * r.val + l.val ≤ (y 0).val; omega, by show (y 0).val < 4 * n + 2 * r.val + l.val + 1; omega⟩
          | ⟨1, _⟩ => exact ⟨Nat.zero_le _, by show (y 1).val < 0 + 256; have := (y 1).isLt; simp at this; omega⟩
          | ⟨2, _⟩ => exact ⟨Nat.zero_le _, by show (y 2).val < 0 + 128; have := (y 2).isLt; simp at this; omega⟩
        obtain h | h | h | h : (y 0).val = 4 * n + 2 * 0 + 0 ∨ (y 0).val = 4 * n + 2 * 0 + 1 ∨ (y 0).val = 4 * n + 2 * 1 + 0
            ∨ (y 0).val = 4 * n + 2 * 1 + 1 := by omega
        · exact ⟨_, List.mem_append_left _ (.tail _ (.tail _ (.tail _ (.head _)))), hmem 0 0 h⟩
        · exact ⟨_, List.mem_append_left _ (.tail _ (.tail _ (.head _))), hmem 0 1 h⟩
        · exact ⟨_, List.mem_append_left _ (.tail _ (.head _)), hmem 1 0 h⟩
        · exact ⟨_, List.mem_append_left _ (.head _), hmem 1 1 h⟩

end Trip

end Cert.KernelIdeal.Prompt

end
-- ==== Proof.While.lean ====
/- The bisection for the 256th best score of every row: its loop, one call of a function at a time, and in it the count of the
   scores at or above a candidate, in one of sixteen bodies by how many columns are causal. -/
module

public import proofs.«01_k».proof.Proof.Kit

@[expose] public section

set_option maxRecDepth 65536

noncomputable section

namespace Cert.KernelIdeal.Prompt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Block `b` of the scores (of the sixty-four), rows `128 * h` on. -/
theorem block_inb (b : ℕ) (h : Fin 2) :
    ∀ d, (![b % 64, 128 * h.val, 0] : Fin 3 → ℕ) d + S1x128x128.size d ≤ S64x256x128.size d := by
  have h1 := Nat.mod_lt b (show 0 < 64 by decide)
  have h2 := h.isLt
  intro d; fin_cases d
  · show b % 64 + 1 ≤ 64; omega
  · show 128 * h.val + 128 ≤ 256; omega
  · show 0 + 128 ≤ 128; omega

theorem half_slices (h : Fin 2) : S256x128.Slices ![128 * h.val, 0] S128x128 := by
  revert h; decide

/-- How many of the first `n` blocks' scores reach the candidate, in rows `128 * h` on, lane by lane. -/
def countHalf (arg9 : Memref sig .tc .vmem S64x256x128 .f32) (X : BufTy.Contents (Elt F) arg9.view.ty)
    (v : FVec F S256x128 .f32) (h : Fin 2) : ℕ → IVec S128x128 32
  | 0 => broadcast S128x128 0#32
  | b + 1 => addi (countHalf arg9 X v h b)
      (select (cmpf .oge (shapeCast S128x128 (View.readAt (Elt F) arg9.view
          (Rect.unit (s := S64x256x128) ![b % 64, 128 * h.val, 0] S1x128x128.size (block_inb b h)).toLoadRect X)
          shapeCasts_S1x128x128_S128x128) (extractStridedSlice S128x128 ![128 * h.val, 0] v (half_slices h)))
        (broadcast S128x128 1#32) (broadcast S128x128 0#32))

/-- The count of the first `n` blocks, both halves. -/
def count (arg9 : Memref sig .tc .vmem S64x256x128 .f32) (X : BufTy.Contents (Elt F) arg9.view.ty)
    (v : FVec F S256x128 .f32) (n : ℕ) : IVec S256x128 32 :=
  concatenate S256x128 0 [⟨S128x128, countHalf arg9 X v 0 n⟩, ⟨S128x128, countHalf arg9 X v 1 n⟩]
    concatenates_S128x128_S128x128_S256x128_d0

/-- Which body counts at grid point `i`: the last of them from point 30 on. -/
def which (i : grid0.Coords) : BitVec 32 :=
  let arg0 : BitVec 32 := BitVec.ofNat 32 (i 0).val
  let v0 : BitVec 32 := Scalar.muli arg0 256#32
  let v1 : BitVec 32 := Scalar.addi v0 256#32
  let v2 : BitVec 32 := Scalar.addi v1 512#32
  let v3 : BitVec 32 := Scalar.subi v2 1#32
  let v5 : BitVec 1 := Scalar.cmpi .sgt v3 0#32
  let v6 : BitVec 32 := Scalar.extui v5
  let v7 : BitVec 1 := Scalar.cmpi .slt v3 0#32
  let v8 : BitVec 32 := Scalar.extui v7
  let v9 : BitVec 32 := Scalar.subi v6 v8
  let v10 : BitVec 1 := Scalar.cmpi .sgt 512#32 0#32
  let v11 : BitVec 32 := Scalar.extui v10
  let v12 : BitVec 1 := Scalar.cmpi .slt 512#32 0#32
  let v13 : BitVec 32 := Scalar.extui v12
  let v14 : BitVec 32 := Scalar.subi v11 v13
  let v15 : BitVec 1 := Scalar.cmpi .ne v9 v14
  let v16 : BitVec 32 := Scalar.remsi v3 512#32
  let v17 : BitVec 1 := Scalar.cmpi .ne v16 0#32
  let v18 : BitVec 1 := Scalar.andi v15 v17
  let v4 : BitVec 32 := Scalar.divsi v3 512#32
  let v19 : BitVec 32 := Scalar.subi v4 1#32
  let v20 : BitVec 32 := Scalar.select v18 v19 v4
  let v256 : BitVec 32 := Scalar.subi v20 1#32
  let v257 : BitVec 32 := Scalar.maxsi v256 0#32
  Scalar.minsi v257 15#32

/-- The loop runs on while bits remain and some row's recorded count is not 256. -/
def goesOn (it : BitVec 32) (cnt : IVec S256x1 32) : Prop :=
  Scalar.andi (Scalar.cmpi .slt it 32#32) (Scalar.cmpf .ogt (k0_pay2 (F := F) cnt) (Scalar.ofBits .f32 0x00000000#32)) = 1#1

/-- `k` taken off a word, one at a time. -/
def dec : ℕ → BitVec 32 → BitVec 32
  | 0, x => x
  | k + 1, x => Scalar.subi (dec k x) 1#32

/-- At body `w` the first `w` tests go on and the next one stops. -/
theorem dec_tests (w : Fin 16) : (∀ k : Fin 16, k < w → Scalar.cmpi .ne (dec k (BitVec.ofNat 32 w)) 0#32 = 1#1)
    ∧ ¬ Scalar.cmpi .ne (dec w (BitVec.ofNat 32 w)) 0#32 = 1#1 := by
  revert w; decide +kernel

theorem tests (i : grid0.Coords) (w : Fin 16) (hw : which i = BitVec.ofNat 32 w) :
    (∀ k : Fin 16, k < w → Scalar.cmpi .ne (dec k (which i)) 0#32 = 1#1)
    ∧ ¬ Scalar.cmpi .ne (dec w (which i)) 0#32 = 1#1 := by
  rw [hw]; exact dec_tests w

set_option maxHeartbeats 2000000 in
theorem pass (c : Dev nD) (i : grid0.Coords) (arg9 : Memref sig .tc .vmem S64x256x128 .f32) (harg9 : arg9.IsWhole)
    (X : BufTy.Contents (Elt F) arg9.view.ty) (it : BitVec 32) (order cnt : IVec S256x1 32)
    (hc : goesOn (F := F) it cnt) (w : Fin 16) (hw : which i = BitVec.ofNat 32 w)
    (K : BitVec 32 × IVec S256x1 32 × IVec S256x1 32 → sProp 𝕄) (n : ℕ) :
    iprop((arg9.view.loc (c : Thread nD τ) ↦[arg9.view.set]{fullShare} X)
      ∗ (iprop(arg9.view.loc (c : Thread nD τ) ↦[arg9.view.set]{fullShare} X) -∗
        wp frame (wpE (defs₀ (F := F)) 𝒱₀ (c : Thread nD τ) (some n)) Set.univ
          (Prog.op (TpuEff.call (1 : (Λ₀ F).Label) ⟨i, arg9, harg9, Scalar.addi it 1#32,
            k0_pay23 (F := F) it order (count arg9 X (k0_pay4 it order) (4 * (w.val + 1))),
            k0_pay24 (F := F) cnt (count arg9 X (k0_pay4 it order) (4 * (w.val + 1)))⟩) Prog.ret) K))
    ⊢ wp frame (wpE (defs₀ (F := F)) 𝒱₀ (c : Thread nD τ) (some n)) Set.univ (cc0_while1 i arg9 harg9 it order cnt) K := by
  simp only [cc0_while1_eq_skeleton]; unfold cc0_while1_skel
  unfold goesOn at hc
  have hs := tests i _ hw
  obtain ⟨w, hlt⟩ := w
  have hs1 : ∀ k : ℕ, k < w → Scalar.cmpi .ne (dec k (which i)) 0#32 = 1#1 :=
    fun k hk => hs.1 ⟨k, hk.trans hlt⟩ hk
  have hs2 : ¬ Scalar.cmpi .ne (dec w (which i)) 0#32 = 1#1 := hs.2
  clear hs hw
  iintro ⟨H, Hk⟩
  interval_cases w
  all_goals
  · sl_exec (disch := first | sl_exact hs2 | sl_exact hs1 0 (by decide) | sl_exact hs1 1 (by decide) | sl_exact hs1 2 (by decide) | sl_exact hs1 3 (by decide) | sl_exact hs1 4 (by decide) | sl_exact hs1 5 (by decide) | sl_exact hs1 6 (by decide) | sl_exact hs1 7 (by decide) | sl_exact hs1 8 (by decide) | sl_exact hs1 9 (by decide) | sl_exact hs1 10 (by decide) | sl_exact hs1 11 (by decide) | sl_exact hs1 12 (by decide) | sl_exact hs1 13 (by decide) | sl_exact hs1 14 (by decide))
    iapply Hk
    iexact H

end Cert.KernelIdeal.Prompt

end
-- ==== Proof.Search.lean ====
/- The bisection for the 256th best score of every row: its loop, one call of a function at a time, and in it the count of the
   scores at or above a candidate, in one of sixteen bodies by how many columns are causal. -/
module

public import proofs.«01_k».proof.Proof.While

@[expose] public section

set_option maxRecDepth 65536

noncomputable section

namespace Cert.KernelIdeal.Prompt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The number of the counting body: half the grid point's number. -/
theorem which_eq (i : grid0.Coords) : which i = BitVec.ofNat 32 ((i 0).val / 2) := by
  have h : ∀ n : Fin 32, ∀ i : grid0.Coords, (i 0).val = n.val → which i = BitVec.ofNat 32 (n.val / 2) := by
    intro n i hn
    unfold which
    rw [hn]
    clear hn i
    revert n
    decide +kernel
  exact h ⟨(i 0).val, (i 0).isLt⟩ i rfl

/-- How many blocks of keys are counted at a grid point. -/
def nblk (i : grid0.Coords) : ℕ := 4 * ((i 0).val / 2 + 1)

/-- What the search goes on with: the bit's number, the order codes, the recorded counts. -/
abbrev St := BitVec 32 × IVec S256x1 32 × IVec S256x1 32

/-- The counts of the scores reaching this pass's candidates. -/
def reach (arg9 : Memref sig .tc .vmem S64x256x128 .f32) (X : BufTy.Contents (Elt F) arg9.view.ty)
    (i : grid0.Coords) (s : St) : IVec S256x128 32 :=
  count arg9 X (k0_pay4 s.1 s.2.1) (nblk i)

/-- One pass of the search. -/
def next (arg9 : Memref sig .tc .vmem S64x256x128 .f32) (X : BufTy.Contents (Elt F) arg9.view.ty)
    (i : grid0.Coords) (s : St) : St :=
  (Scalar.addi s.1 1#32, k0_pay23 (F := F) s.1 s.2.1 (reach arg9 X i s), k0_pay24 (F := F) s.2.2 (reach arg9 X i s))

open Classical in
/-- The search, at most `n` passes of it. -/
def search (arg9 : Memref sig .tc .vmem S64x256x128 .f32) (X : BufTy.Contents (Elt F) arg9.view.ty)
    (i : grid0.Coords) : ℕ → St → St
  | 0, s => s
  | n + 1, s => if goesOn (F := F) s.1 s.2.2 then search arg9 X i n (next arg9 X i s) else s

/-- With every bit decided the search is over. -/
theorem not_goesOn_32 (cnt : IVec S256x1 32) : ¬ goesOn (F := F) 32#32 cnt := by
  unfold goesOn
  rw [show Scalar.cmpi .slt (32#32) 32#32 = 0#1 from by decide]
  show ¬ (0#1 &&& _ = 1#1)
  rw [BitVec.zero_and]
  decide

set_option maxHeartbeats 2000000 in
/-- The search as a call: it gives the scores back and returns what `search` finds. -/
theorem while_spec (c : Dev nD) (i : grid0.Coords) (arg9 : Memref sig .tc .vmem S64x256x128 .f32) (harg9 : arg9.IsWhole)
    (X : BufTy.Contents (Elt F) arg9.view.ty) (n : ℕ) :
    ∀ (s : St) (_ : n ≤ 32) (_ : s.1 = BitVec.ofNat 32 (32 - n)) (K : St → sProp 𝕄),
    iprop((arg9.view.loc (c : Thread nD τ) ↦[arg9.view.set]{fullShare} X)
      ∗ (iprop(arg9.view.loc (c : Thread nD τ) ↦[arg9.view.set]{fullShare} X) -∗ K (search arg9 X i n s)))
    ⊢ wp frame (wpE (defs₀ (F := F)) 𝒱₀ (c : Thread nD τ) (some n)) Set.univ
        (defs₀ (F := F) (c : Thread nD τ).2 1 ⟨i, arg9, harg9, s.1, s.2.1, s.2.2⟩) K := by
  have hstop : ∀ (n : ℕ) (s : St) (_ : ¬ goesOn (F := F) s.1 s.2.2) (K : St → sProp 𝕄),
      iprop((arg9.view.loc (c : Thread nD τ) ↦[arg9.view.set]{fullShare} X)
        ∗ (iprop(arg9.view.loc (c : Thread nD τ) ↦[arg9.view.set]{fullShare} X) -∗ K s))
      ⊢ wp frame (wpE (defs₀ (F := F)) 𝒱₀ (c : Thread nD τ) (some n)) Set.univ
        (cc0_while1 i arg9 harg9 s.1 s.2.1 s.2.2) K := by
    intro n s hn K
    simp only [cc0_while1_eq_skeleton]; unfold cc0_while1_skel
    unfold goesOn at hn
    iintro ⟨H, Hk⟩
    sl_exec (disch := sl_exact hn)
    iapply (le_wp_ret _ _ _ _ _)
    iapply Hk
    iexact H
  induction n with
  | zero =>
    intro s hn32 hs K
    have hn : ¬ goesOn (F := F) s.1 s.2.2 := by
      rw [hs]
      exact not_goesOn_32 _
    exact hstop 0 s hn K
  | succ n ih =>
    intro s hn32 hs K
    unfold search
    by_cases hg : goesOn (F := F) s.1 s.2.2
    · rw [if_pos hg]
      have hs' : (next arg9 X i s).1 = BitVec.ofNat 32 (32 - n) := by
        show s.1 + 1#32 = _
        rw [hs, show (1#32) = BitVec.ofNat 32 1 from rfl, ← BitVec.ofNat_add]
        congr 1
        omega
      have hw : which i = BitVec.ofNat 32 ((⟨(i 0).val / 2, by have := (i 0).isLt; change _ < 32 at this; omega⟩ : Fin 16) : ℕ) :=
        which_eq i
      refine BIBase.Entails.trans ?_ (pass c i arg9 harg9 X s.1 s.2.1 s.2.2 hg _ hw K (n + 1))
      iintro ⟨H, Hk⟩
      isplitl [H]
      · iexact H
      iintro H
      iapply (wp_call 𝒱₀ (c : Thread nD τ) (some (n + 1)) Set.univ n (fun u hu => by cases hu; exact Nat.lt_succ_self n))
      iapply (ih (next arg9 X i s) (by omega) hs' _)
      isplitl [H]
      · iexact H
      iintro H
      iapply (le_wp_ret _ _ _ _ _)
      iapply Hk
      iexact H
    · rw [if_neg hg]
      exact hstop (n + 1) s hg K

end Cert.KernelIdeal.Prompt

end
-- ==== Proof.Attend.lean ====
/- The attention's loop: what one trip, 256 keys of all eight heads, stores. -/
module

public import proofs.«01_k».proof.Proof.Kit
public import proofs.«01_k».proof.Proof.Gen.KernelIdeal.Loops
public import Idealize.ShloMosaic.Lib.Pointwise
public import Idealize.ShloMosaic.Lib.VecWindow

@[expose] public section

set_option maxRecDepth 65536

noncomputable section

namespace Cert.KernelIdeal.Prompt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Head `h`'s block of a buffer of eight heads' rows. -/
theorem head_inb (h : Fin 8) : ∀ d, (![h.val, 0, 0] : Fin 3 → ℕ) d + S1x256x128.size d ≤ S8x256x128.size d := by
  have := h.isLt
  intro d; fin_cases d
  · show h.val + 1 ≤ 8; omega
  · show 0 + 256 ≤ 256; omega
  · show 0 + 128 ≤ 128; omega

abbrev headRect (h : Fin 8) : Rect S8x256x128 := Rect.unit (s := S8x256x128) ![h.val, 0, 0] S1x256x128.size (head_inb h)

/-- The rows of the keys' or values' buffer a trip's head reads. -/
theorem keys_inb (i : grid0.Coords) (k : Fin (k0_t3_loop i).trips) (h : Fin 8) :
    ∀ d, (![h.val, 256 * k.val, 0] : Fin 3 → ℕ) d + S1x256x128.size d ≤ S8x8192x128.size d := by
  have h1 := h.isLt
  have h2 : k.val < 32 := Nat.lt_of_lt_of_le k.isLt (k0_t3_abs i).2.1
  intro d; fin_cases d
  · show h.val + 1 ≤ 8; omega
  · show 256 * k.val + 256 ≤ 8192; omega
  · show 0 + 128 ≤ 128; omega

/-- The trip's offset into keys and values, head by head, as the program computes it. -/
def keyOff (i : grid0.Coords) (k : Fin (k0_t3_loop i).trips) : Fin 8 → Fin 3 → ℕ
  | 0 => k0_off6 i k | 1 => k0_off7 i k | 2 => k0_off8 i k | 3 => k0_off9 i k
  | 4 => k0_off10 i k | 5 => k0_off11 i k | 6 => k0_off12 i k | 7 => k0_off13 i k

theorem keyOff_eq (i : grid0.Coords) (k : Fin (k0_t3_loop i).trips) (h : Fin 8) : keyOff i k h = ![h.val, 256 * k.val, 0] := by
  fin_cases h
  · exact k0_off6_eq i k
  · exact k0_off7_eq i k
  · exact k0_off8_eq i k
  · exact k0_off9_eq i k
  · exact k0_off10_eq i k
  · exact k0_off11_eq i k
  · exact k0_off12_eq i k
  · exact k0_off13_eq i k

abbrev keyRect (i : grid0.Coords) (k : Fin (k0_t3_loop i).trips) (h : Fin 8) : Rect S8x8192x128 :=
  Rect.unit (s := S8x8192x128) (keyOff i k h) S1x256x128.size (by rw [keyOff_eq]; exact keys_inb i k h)

/-- A trip's two blocks of the scores. -/
abbrev scoreRect (i : grid0.Coords) (k : Fin (k0_t3_loop i).trips) (r : Fin 2) : Rect S64x256x128 :=
  Rect.unit (s := S64x256x128) (k0_off5 i k (BitVec.ofNat 32 r.val)) S1x256x128.size (k0_off5_inb i k r)

/-! ## A trip, of what the buffers read as -/

/-- The running maxima, sums and weighted values of every head. -/
abbrev Att (F : FTy → Type) := Vec F S8x256x128 .f32 × Vec F S8x256x128 .f32 × Vec F S8x256x128 .f32

/-- An index of a buffer of eight heads' rows within its head. -/
def inHead (y : S8x256x128.Idx) : S1x256x128.Idx := ix3 0 ⟨(y 1).val, (y 1).isLt⟩ ⟨(y 2).val, (y 2).isLt⟩

def headOf (y : S8x256x128.Idx) : Fin 8 := ⟨(y 0).val, (y 0).isLt⟩

/-- A trip's bias: zero at a selected key, the mask elsewhere. -/
def attBias (i : grid0.Coords) (thr : Vec F S256x128 .f32) (g : Vec F S64x256x128 .f32) (k : Fin (k0_t3_loop i).trips) : FVec F S256x256 .f32 :=
  k0_pay73 i (k0_pay219 i) 0#32 1#32 k (View.ld thr (Rect.unit (s := S256x128) ![0, 0] S256x128.size inb_S256x128_S256x128_0_0))
    (View.ld g (scoreRect i k 0)) (View.ld g (scoreRect i k 1))

/-- A head's products of its queries with the trip's keys. -/
def attDot (i : grid0.Coords) (x1 : Vec F S8x256x128 .bf16) (x5 : Vec F S8x8192x128 .bf16) (k : Fin (k0_t3_loop i).trips) (h : Fin 8) :
    FVec F S256x256 .f32 :=
  k0_pay74 (View.ld x1 (headRect h)) (View.ld x5 (keyRect i k h))

def attStep (i : grid0.Coords) (x1 : Vec F S8x256x128 .bf16) (x5 x6 : Vec F S8x8192x128 .bf16) (thr : Vec F S256x128 .f32)
    (g : Vec F S64x256x128 .f32) (k : Fin (k0_t3_loop i).trips) (s : Att F) : Att F :=
  (fun y => k0_pay82 (k0_pay77 (attDot i x1 x5 k (headOf y)) (attBias i thr g k) (View.ld s.1 (headRect (headOf y)))) (inHead y),
   fun y => k0_pay80 (attDot i x1 x5 k (headOf y)) (attBias i thr g k) (View.ld s.1 (headRect (headOf y)))
     (View.ld s.2.1 (headRect (headOf y))) (inHead y),
   fun y => k0_pay81 (attDot i x1 x5 k (headOf y)) (attBias i thr g k) (View.ld s.1 (headRect (headOf y)))
     (View.ld s.2.2 (headRect (headOf y))) (View.ld x6 (keyRect i k (headOf y))) (inHead y))

/-- The running maxima, sums and weighted values after `n` trips. -/
def att (i : grid0.Coords) (x1 : Vec F S8x256x128 .bf16) (x5 x6 : Vec F S8x8192x128 .bf16) (thr : Vec F S256x128 .f32)
    (g : Vec F S64x256x128 .f32) : ℕ → Att F
  | 0 => (k0_pay250, k0_pay251, k0_pay252)
  | n + 1 => if h : n < (k0_t3_loop i).trips then attStep i x1 x5 x6 thr g ⟨n, h⟩ (att i x1 x5 x6 thr g n) else att i x1 x5 x6 thr g n

theorem att_congr (i : grid0.Coords) (x1 : Vec F S8x256x128 .bf16) (x5 x6 : Vec F S8x8192x128 .bf16) (thr : Vec F S256x128 .f32)
    (g g' : Vec F S64x256x128 .f32) (m : ℕ) (hm : 2 * (k0_t3_loop i).trips ≤ m)
    (hg : ∀ y : S64x256x128.Idx, (y 0).val < m → g y = g' y) (n : ℕ) : att i x1 x5 x6 thr g n = att i x1 x5 x6 thr g' n := by
  have hl : ∀ (k : Fin (k0_t3_loop i).trips) (r : Fin 2), View.ld g (scoreRect i k r) = View.ld g' (scoreRect i k r) := by
    intro k r
    funext x
    refine hg _ ?_
    have h0 : (x 0).val < 1 := (x 0).isLt
    have hk := k.isLt
    have hr := r.isLt
    show k0_off5 i k (BitVec.ofNat 32 r.val) 0 + 1 * (x 0).val < m
    rw [k0_off5_eq i k r]
    show 2 * k.val + r.val + 1 * (x 0).val < m
    omega
  induction n with
  | zero => rfl
  | succ n ih =>
    unfold att
    rw [ih]
    unfold attStep attBias
    simp only [hl]

theorem head_ok (w : Fin 8 → FVec F S1x256x128 .f32) (h : Fin 8) (x : S1x256x128.Idx) :
    w h x = w (headOf ((headRect h).emb x)) (inHead ((headRect h).emb x)) := by
  have h0 : (x 0).val < 1 := (x 0).isLt
  have e1 : headOf ((headRect h).emb x) = h := Fin.ext (by show h.val + 1 * (x 0).val = h.val; omega)
  have e2 : inHead ((headRect h).emb x) = x := by
    funext a
    match a with
    | ⟨0, _⟩ => exact Fin.ext (by show 0 = (x 0).val; omega)
    | ⟨1, _⟩ => exact Fin.ext (by show 0 + 1 * (x 1).val = (x 1).val; omega)
    | ⟨2, _⟩ => exact Fin.ext (by show 0 + 1 * (x 2).val = (x 2).val; omega)
  rw [e1, e2]

theorem head_mem (y : S8x256x128.Idx) : y ∈ (headRect (headOf y)).set := by
  refine Rect.mem_set_unit.2 fun a => ?_
  match a with
  | ⟨0, _⟩ => exact ⟨le_refl _, Nat.lt_succ_self _⟩
  | ⟨1, _⟩ => exact ⟨Nat.zero_le _, by show (y 1).val < 0 + 256; have : (y 1).val < 256 := (y 1).isLt; omega⟩
  | ⟨2, _⟩ => exact ⟨Nat.zero_le _, by show (y 2).val < 0 + 128; have : (y 2).val < 128 := (y 2).isLt; omega⟩

/-- A buffer of eight heads' rows into which every head's block is stored. -/
theorem heads_read (v : View sig .tc .vmem S8x256x128 .f32) (f : v.ty.Contents (Elt F)) (w : Fin 8 → FVec F S1x256x128 .f32) :
    v.read (Elt F) (v.writes (Elt F) f (List.map (fun h => (⟨headRect h, w h⟩ : View.Piece (Elt F) S8x256x128 .f32)) [7, 6, 5, 4, 3, 2, 1, 0]))
      = fun y => w (headOf y) (inHead y) := by
  funext y
  refine View.read_writes_apply_of_pieces (Val := Elt F) v f (fun y => w (headOf y) (inHead y)) _ (fun p hp x => ?_) y ?_
  · obtain ⟨h, -, rfl⟩ := List.mem_map.1 hp
    exact head_ok w h x
  · have : ∀ h : Fin 8, h ∈ ([7, 6, 5, 4, 3, 2, 1, 0] : List (Fin 8)) := by decide
    exact ⟨_, List.mem_map_of_mem (this (headOf y)), head_mem y⟩

section Trip

variable (c : Dev nD) (i : grid0.Coords) (arg1 : Memref sig .tc .vmem S8x256x128 .bf16) (harg1 : arg1.IsWhole)
  (arg2 : Memref sig .tc .vmem S256x1024 .bf16) (harg2 : arg2.IsWhole)
  (arg3 : Memref sig .tc .vmem S256x128 .f32) (harg3 : arg3.IsWhole)
  (arg4 : Memref sig .tc .vmem S8192x64 .bf16) (harg4 : arg4.IsWhole)
  (arg5 : Memref sig .tc .vmem S8x8192x128 .bf16) (harg5 : arg5.IsWhole)
  (arg6 : Memref sig .tc .vmem S8x8192x128 .bf16) (harg6 : arg6.IsWhole)
  (arg7 : Memref sig .tc .vmem S256x1024 .bf16) (harg7 : arg7.IsWhole)
  (arg8 : Memref sig .tc .vmem S16x256x128 .f32) (harg8 : arg8.IsWhole)
  (arg9 : Memref sig .tc .vmem S64x256x128 .f32) (harg9 : arg9.IsWhole)
  (arg10 : Memref sig .tc .vmem S256x128 .f32) (harg10 : arg10.IsWhole)
  (arg11 : Memref sig .tc .vmem S256x256 .f32) (harg11 : arg11.IsWhole)
  (arg12 : Memref sig .tc .vmem S8x256x128 .f32) (harg12 : arg12.IsWhole)
  (arg13 : Memref sig .tc .vmem S8x256x128 .f32) (harg13 : arg13.IsWhole)
  (arg14 : Memref sig .tc .vmem S8x256x128 .f32) (harg14 : arg14.IsWhole)

section Pieces

variable (X1 : BufTy.Contents (Elt F) arg1.view.ty) (X5 : BufTy.Contents (Elt F) arg5.view.ty) (X6 : BufTy.Contents (Elt F) arg6.view.ty)
    (X9 : BufTy.Contents (Elt F) arg9.view.ty) (X10 : BufTy.Contents (Elt F) arg10.view.ty) (k : Fin (k0_t3_loop i).trips)
    (f12 : BufTy.Contents (Elt F) arg12.view.ty) (f13 : BufTy.Contents (Elt F) arg13.view.ty) (f14 : BufTy.Contents (Elt F) arg14.view.ty)

/-- The trip's bias: zero at a selected key, the mask elsewhere. -/
def tripBias0 : FVec F S256x256 .f32 :=
  k0_pay73 i (k0_pay219 i) 0#32 1#32 k
    (View.readAt (Elt F) arg10.view (Rect.unit (s := S256x128) ![0, 0] S256x128.size inb_S256x128_S256x128_0_0).toLoadRect X10)
    (View.readAt (Elt F) arg9.view (scoreRect i k 0).toLoadRect X9) (View.readAt (Elt F) arg9.view (scoreRect i k 1).toLoadRect X9)

/-- The bias as every head reads it back. -/
def tripBias : FVec F S256x256 .f32 :=
  View.readCov (Val := Elt F) arg11.view [⟨Rect.unit (s := S256x256) ![0, 0] S256x256.size inb_S256x256_S256x256_0_0, tripBias0 i arg9 arg10 X9 X10 k⟩]
    (Rect.unit (s := S256x256) ![0, 0] S256x256.size inb_S256x256_S256x256_0_0).toLoadRect

/-- A head's products of its queries with the trip's keys. -/
def tripDot (h : Fin 8) : FVec F S256x256 .f32 :=
  k0_pay74 (View.readAt (Elt F) arg1.view (headRect h).toLoadRect X1) (View.readAt (Elt F) arg5.view (keyRect i k h).toLoadRect X5)

def piece12 (h : Fin 8) : View.Piece (Elt F) S8x256x128 .f32 :=
  ⟨headRect h, k0_pay82 (k0_pay77 (tripDot i arg1 arg5 X1 X5 k h) (tripBias i arg9 arg10 arg11 X9 X10 k)
    (View.readAt (Elt F) arg12.view (headRect h).toLoadRect f12))⟩

def piece13 (h : Fin 8) : View.Piece (Elt F) S8x256x128 .f32 :=
  ⟨headRect h, k0_pay80 (tripDot i arg1 arg5 X1 X5 k h) (tripBias i arg9 arg10 arg11 X9 X10 k)
    (View.readAt (Elt F) arg12.view (headRect h).toLoadRect f12) (View.readAt (Elt F) arg13.view (headRect h).toLoadRect f13)⟩

def piece14 (h : Fin 8) : View.Piece (Elt F) S8x256x128 .f32 :=
  ⟨headRect h, k0_pay81 (tripDot i arg1 arg5 X1 X5 k h) (tripBias i arg9 arg10 arg11 X9 X10 k)
    (View.readAt (Elt F) arg12.view (headRect h).toLoadRect f12) (View.readAt (Elt F) arg14.view (headRect h).toLoadRect f14)
    (View.readAt (Elt F) arg6.view (keyRect i k h).toLoadRect X6)⟩

end Pieces

/-- What one trip stores into the maxima, the sums and the weighted values: every head's step, each from what it found there. -/
theorem trip3_eq (v178 : BitVec 32)
    (X1 : BufTy.Contents (Elt F) arg1.view.ty) (X5 : BufTy.Contents (Elt F) arg5.view.ty) (X6 : BufTy.Contents (Elt F) arg6.view.ty)
    (X9 : BufTy.Contents (Elt F) arg9.view.ty) (X10 : BufTy.Contents (Elt F) arg10.view.ty) (k : Fin (k0_t3_loop i).trips)
    (f11 : BufTy.Contents (Elt F) arg11.view.ty) (f12 : BufTy.Contents (Elt F) arg12.view.ty) (f13 : BufTy.Contents (Elt F) arg13.view.ty) (f14 : BufTy.Contents (Elt F) arg14.view.ty) :
    (tripL_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 k f11 f12 f13 f14).2
      = (List.map (piece12 i arg1 arg5 arg9 arg10 arg11 arg12 X1 X5 X9 X10 k f12) [7, 6, 5, 4, 3, 2, 1, 0],
         List.map (piece13 i arg1 arg5 arg9 arg10 arg11 arg12 arg13 X1 X5 X9 X10 k f12 f13) [7, 6, 5, 4, 3, 2, 1, 0],
         List.map (piece14 i arg1 arg5 arg6 arg9 arg10 arg11 arg12 arg14 X1 X5 X6 X9 X10 k f12 f14) [7, 6, 5, 4, 3, 2, 1, 0]) := by
  sl_kernel_rfl

theorem tripBias_eq (X9 : BufTy.Contents (Elt F) arg9.view.ty) (X10 : BufTy.Contents (Elt F) arg10.view.ty) (k : Fin (k0_t3_loop i).trips) :
    tripBias i arg9 arg10 arg11 X9 X10 k = attBias i (arg10.view.read (Elt F) X10) (arg9.view.read (Elt F) X9) k :=
  View.readCov_full (Val := Elt F) arg11.view _ _ _ _

/-- What the maxima, sums and weighted values read as after `n` trips. -/
theorem att_read (v178 : BitVec 32)
    (X1 : BufTy.Contents (Elt F) arg1.view.ty) (X5 : BufTy.Contents (Elt F) arg5.view.ty) (X6 : BufTy.Contents (Elt F) arg6.view.ty)
    (X9 : BufTy.Contents (Elt F) arg9.view.ty) (X10 : BufTy.Contents (Elt F) arg10.view.ty)
    (f11 : BufTy.Contents (Elt F) arg11.view.ty) (f12 : BufTy.Contents (Elt F) arg12.view.ty) (f13 : BufTy.Contents (Elt F) arg13.view.ty) (f14 : BufTy.Contents (Elt F) arg14.view.ty)
    (h12 : arg12.view.read (Elt F) f12 = k0_pay250) (h13 : arg13.view.read (Elt F) f13 = k0_pay251)
    (h14 : arg14.view.read (Elt F) f14 = k0_pay252) (n : ℕ) (hn : n ≤ (k0_t3_loop i).trips) :
    (arg12.view.read (Elt F) (arg12.view.writes (Elt F) f12 (pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 f12 f13 f14 n).2.1),
     arg13.view.read (Elt F) (arg13.view.writes (Elt F) f13 (pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 f12 f13 f14 n).2.2.1),
     arg14.view.read (Elt F) (arg14.view.writes (Elt F) f14 (pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 f12 f13 f14 n).2.2.2))
      = att i (arg1.view.read (Elt F) X1) (arg5.view.read (Elt F) X5) (arg6.view.read (Elt F) X6) (arg10.view.read (Elt F) X10) (arg9.view.read (Elt F) X9) n := by
  induction n with
  | zero => unfold att; rw [← h12, ← h13, ← h14]; rfl
  | succ n ih =>
    have ih := ih (by omega)
    have hs := pb_k0_t3_succ (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 f12 f13 f14 ⟨n, by omega⟩
    generalize pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 f12 f13 f14 (n + 1) = P' at hs ⊢
    have ht := fun a b d e => trip3_eq (F := F) c i arg1 harg1 arg2 harg2 arg3 harg3 arg4 harg4 arg5 harg5 arg6 harg6 arg7 harg7 arg8 harg8 arg9 harg9 arg10 harg10 arg11 harg11 arg12 harg12 arg13 harg13 arg14 harg14 v178 X1 X5 X6 X9 X10 ⟨n, by omega⟩ a b d e
    generalize tripL_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 ⟨n, by omega⟩ = T at hs ht
    subst hs
    simp only [ht]
    generalize pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 f12 f13 f14 n = P at ih ⊢
    unfold att
    rw [dif_pos (show n < (k0_t3_loop i).trips by omega), ← ih]
    simp only [View.writes_append]
    unfold piece12 piece13 piece14
    simp only [heads_read, tripBias_eq]
    rfl

end Trip

end Cert.KernelIdeal.Prompt

end
-- ==== Proof.Reads.lean ====
/- What the body's buffers read as when its loops are done: the weights, the scores, and the search's result from them. -/
module

public import proofs.«01_k».proof.Proof.Scores
public import proofs.«01_k».proof.Proof.Search
public import proofs.«01_k».proof.Proof.Attend

@[expose] public section

set_option maxRecDepth 65536

noncomputable section

namespace Cert.KernelIdeal.Prompt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The weights, one head per block -/

theorem lane_slices (h : Fin 16) : S256x16.Slices ![0, h.val] S256x1 := by
  revert h; decide

theorem lane_inb (h : Fin 16) : ∀ d, (![h.val, 0, 0] : Fin 3 → ℕ) d + S1x256x128.size d ≤ S16x256x128.size d := by
  have := h.isLt
  intro d; fin_cases d
  · show h.val + 1 ≤ 16; omega
  · show 0 + 256 ≤ 256; omega
  · show 0 + 128 ≤ 128; omega

/-- Head `h`'s weights along every lane, as the body stores them. -/
def laneVec (v27 : FVec F S256x16 .f32) (h : Fin 16) : FVec F S1x256x128 .f32 :=
  shapeCast S1x256x128 (broadcastTo S256x128 (shapeCast S256x1 (extractStridedSlice S256x1 ![0, h.val] v27 (lane_slices h))
    shapeCasts_S256x1_S256x1) broadcasts_S256x1_S256x128) shapeCasts_S256x128_S1x256x128

def lanePiece (v27 : FVec F S256x16 .f32) (h : Fin 16) : View.Piece (Elt F) S16x256x128 .f32 :=
  ⟨Rect.unit (s := S16x256x128) ![h.val, 0, 0] S1x256x128.size (lane_inb h), laneVec v27 h⟩

/-- The weights' buffer, from the sixteen columns of weights. -/
def weightsAt (x3 : Vec F S256x128 .f32) : Vec F S16x256x128 .f32 := fun y =>
  k0_pay220 (View.ld x3 (Rect.unit (s := S256x128) ![0, 64] S256x16.size inb_S256x128_S256x16_0_64))
    (ix2 (⟨(y 1).val, (y 1).isLt⟩ : Fin 256) (⟨(y 0).val, (y 0).isLt⟩ : Fin 16))

theorem laneVec_apply (v27 : FVec F S256x16 .f32) (h : Fin 16) (x : S1x256x128.Idx) :
    laneVec v27 h x = v27 (ix2 (x 1) h) := by
  unfold laneVec
  refine (shapeCast_addUnit_apply _ _ _ x).trans ?_
  refine (broadcastTo_apply _ _ _ (ix2 (x 1) (0 : Fin 1)) fun a => ?_).trans ?_
  · match a with
    | ⟨0, _⟩ => rfl
    | ⟨1, _⟩ => rfl
  refine (shapeCast_apply _ _ _ (ix2 (x 1) (0 : Fin 1)) rfl).trans ?_
  refine extractStridedSlice_apply _ _ _ _ _ fun a => ?_
  match a with
  | ⟨0, _⟩ => exact (Nat.zero_add _).symm
  | ⟨1, _⟩ => rfl

theorem lane_ok (x3 : Vec F S256x128 .f32) (h : Fin 16) (x : S1x256x128.Idx) :
    laneVec (k0_pay220 (View.ld x3 (Rect.unit (s := S256x128) ![0, 64] S256x16.size inb_S256x128_S256x16_0_64))) h x
      = weightsAt x3 ((Rect.unit (s := S16x256x128) ![h.val, 0, 0] S1x256x128.size (lane_inb h)).emb x) := by
  rw [laneVec_apply (F := F)]
  unfold weightsAt
  congr 1
  have h0 : (x 0).val = 0 := by have : (x 0).val < 1 := (x 0).isLt; omega
  funext a
  match a with
  | ⟨0, _⟩ => exact Fin.ext (by show (x 1).val = 0 + 1 * (x 1).val; omega)
  | ⟨1, _⟩ => exact Fin.ext (by show h.val = h.val + 1 * (x 0).val; omega)

theorem lane_mem (y : S16x256x128.Idx) :
    y ∈ (Rect.unit (s := S16x256x128) ![(y 0).val, 0, 0] S1x256x128.size (lane_inb ⟨(y 0).val, (y 0).isLt⟩)).set := by
  refine Rect.mem_set_unit.2 fun a => ?_
  match a with
  | ⟨0, _⟩ => exact ⟨le_refl _, Nat.lt_succ_self _⟩
  | ⟨1, _⟩ => exact ⟨Nat.zero_le _, by show (y 1).val < 0 + 256; have : (y 1).val < 256 := (y 1).isLt; omega⟩
  | ⟨2, _⟩ => exact ⟨Nat.zero_le _, by show (y 2).val < 0 + 128; have : (y 2).val < 128 := (y 2).isLt; omega⟩

theorem weights_read (arg8 : Memref sig .tc .vmem S16x256x128 .f32) (f : BufTy.Contents (Elt F) arg8.view.ty) (x3 : Vec F S256x128 .f32) :
    arg8.view.read (Elt F) (arg8.view.writes (Elt F) f
      (List.map (lanePiece (k0_pay220 (View.ld x3 (Rect.unit (s := S256x128) ![0, 64] S256x16.size inb_S256x128_S256x16_0_64))))
        [15, 14, 13, 12, 11, 10, 9, 8, 7, 6, 5, 4, 3, 2, 1, 0])) = weightsAt x3 := by
  funext y
  refine View.read_writes_apply_of_pieces (Val := Elt F) arg8.view f (weightsAt x3) _ (fun p hp x => ?_) y ?_
  · obtain ⟨h, -, rfl⟩ := List.mem_map.1 hp
    exact lane_ok x3 h x
  · have : ∀ h : Fin 16, h ∈ ([15, 14, 13, 12, 11, 10, 9, 8, 7, 6, 5, 4, 3, 2, 1, 0] : List (Fin 16)) := by decide
    exact ⟨_, List.mem_map_of_mem (this ⟨(y 0).val, (y 0).isLt⟩), lane_mem y⟩

/-! ## How often the loops run -/

theorem trips1 (i : grid0.Coords) : (k0_t1_loop i).trips = (i 0).val / 2 + 1 := by
  have h : ∀ n : Fin 32, ∀ i : grid0.Coords, (i 0).val = n.val → (k0_t1_loop i).trips = n.val / 2 + 1 := by
    intro n i hn
    unfold k0_t1_loop
    rw [hn]
    clear hn i
    revert n
    decide +kernel
  exact h ⟨(i 0).val, (i 0).isLt⟩ i rfl

theorem trips2 (i : grid0.Coords) : (k0_t2_loop i).trips = 0 := by
  have h : ∀ n : Fin 32, ∀ i : grid0.Coords, (i 0).val = n.val → (k0_t2_loop i).trips = 0 := by
    intro n i hn
    unfold k0_t2_loop
    rw [hn]
    clear hn i
    revert n
    decide +kernel
  exact h ⟨(i 0).val, (i 0).isLt⟩ i rfl

theorem trips3 (i : grid0.Coords) : (k0_t3_loop i).trips = (i 0).val + 1 := by
  have h : ∀ n : Fin 32, ∀ i : grid0.Coords, (i 0).val = n.val → (k0_t3_loop i).trips = n.val + 1 := by
    intro n i hn
    unfold k0_t3_loop
    rw [hn]
    clear hn i
    revert n
    decide +kernel
  exact h ⟨(i 0).val, (i 0).isLt⟩ i rfl

theorem trips4 (i : grid0.Coords) : (k0_t4_loop i).trips = 0 := by
  have h : ∀ n : Fin 32, ∀ i : grid0.Coords, (i 0).val = n.val → (k0_t4_loop i).trips = 0 := by
    intro n i hn
    unfold k0_t4_loop
    rw [hn]
    clear hn i
    revert n
    decide +kernel
  exact h ⟨(i 0).val, (i 0).isLt⟩ i rfl

/-! ## Counts and search, of an array of scores -/

/-- `countHalf`, of an array of scores. -/
def countHalfOf (g : Vec F S64x256x128 .f32) (v : FVec F S256x128 .f32) (h : Fin 2) : ℕ → IVec S128x128 32
  | 0 => broadcast S128x128 0#32
  | b + 1 => addi (countHalfOf g v h b)
      (select (cmpf .oge (shapeCast S128x128 (View.ld g
          (Rect.unit (s := S64x256x128) ![b % 64, 128 * h.val, 0] S1x128x128.size (block_inb b h)))
          shapeCasts_S1x128x128_S128x128) (extractStridedSlice S128x128 ![128 * h.val, 0] v (half_slices h)))
        (broadcast S128x128 1#32) (broadcast S128x128 0#32))

/-- The count of the first `n` blocks, of an array of scores. -/
def countOf (g : Vec F S64x256x128 .f32) (v : FVec F S256x128 .f32) (n : ℕ) : IVec S256x128 32 :=
  concatenate S256x128 0 [⟨S128x128, countHalfOf g v 0 n⟩, ⟨S128x128, countHalfOf g v 1 n⟩]
    concatenates_S128x128_S128x128_S256x128_d0

/-- One pass of the search, of an array of scores. -/
def nextOf (g : Vec F S64x256x128 .f32) (n : ℕ) (s : St) : St :=
  (Scalar.addi s.1 1#32, k0_pay23 (F := F) s.1 s.2.1 (countOf g (k0_pay4 s.1 s.2.1) n),
    k0_pay24 (F := F) s.2.2 (countOf g (k0_pay4 s.1 s.2.1) n))

open Classical in
/-- The search, at most `m` passes of it, over the first `n` blocks of an array of scores. -/
def searchOf (g : Vec F S64x256x128 .f32) (n : ℕ) : ℕ → St → St
  | 0, s => s
  | m + 1, s => if goesOn (F := F) s.1 s.2.2 then searchOf g n m (nextOf g n s) else s

theorem countHalf_eq (arg9 : Memref sig .tc .vmem S64x256x128 .f32) (X : BufTy.Contents (Elt F) arg9.view.ty)
    (v : FVec F S256x128 .f32) (h : Fin 2) (n : ℕ) : countHalf arg9 X v h n = countHalfOf (arg9.view.read (Elt F) X) v h n := by
  induction n with
  | zero => rfl
  | succ b ih => unfold countHalf countHalfOf; rw [ih]; rfl

theorem next_eq (arg9 : Memref sig .tc .vmem S64x256x128 .f32) (X : BufTy.Contents (Elt F) arg9.view.ty) (i : grid0.Coords) (s : St) :
    next arg9 X i s = nextOf (arg9.view.read (Elt F) X) (nblk i) s := by
  unfold next nextOf reach count countOf
  rw [countHalf_eq, countHalf_eq]

theorem search_eq (arg9 : Memref sig .tc .vmem S64x256x128 .f32) (X : BufTy.Contents (Elt F) arg9.view.ty) (i : grid0.Coords) (m : ℕ) :
    ∀ s, search arg9 X i m s = searchOf (arg9.view.read (Elt F) X) (nblk i) m s := by
  induction m with
  | zero => intro s; rfl
  | succ m ih => intro s; unfold search searchOf; rw [next_eq, ih]

/-- A count depends on the blocks counted only. -/
theorem countHalfOf_congr (g g' : Vec F S64x256x128 .f32) (v : FVec F S256x128 .f32) (h : Fin 2) (n : ℕ) (hn : n ≤ 64)
    (hg : ∀ y : S64x256x128.Idx, (y 0).val < n → g y = g' y) : countHalfOf g v h n = countHalfOf g' v h n := by
  induction n with
  | zero => rfl
  | succ b ih =>
    have hl : View.ld g (Rect.unit (s := S64x256x128) ![b % 64, 128 * h.val, 0] S1x128x128.size (block_inb b h))
        = View.ld g' (Rect.unit (s := S64x256x128) ![b % 64, 128 * h.val, 0] S1x128x128.size (block_inb b h)) := by
      funext x
      refine hg _ ?_
      have h0 : (x 0).val < 1 := (x 0).isLt
      show b % 64 + 1 * (x 0).val < b + 1
      omega
    unfold countHalfOf
    rw [ih (by omega) fun y hy => hg y (by omega), hl]

theorem nextOf_congr (g g' : Vec F S64x256x128 .f32) (n : ℕ) (hn : n ≤ 64)
    (hg : ∀ y : S64x256x128.Idx, (y 0).val < n → g y = g' y) (s : St) : nextOf g n s = nextOf g' n s := by
  unfold nextOf countOf
  rw [countHalfOf_congr g g' _ 0 n hn hg, countHalfOf_congr g g' _ 1 n hn hg]

theorem searchOf_congr (g g' : Vec F S64x256x128 .f32) (n : ℕ) (hn : n ≤ 64)
    (hg : ∀ y : S64x256x128.Idx, (y 0).val < n → g y = g' y) (m : ℕ) : ∀ s, searchOf g n m s = searchOf g' n m s := by
  induction m with
  | zero => intro s; rfl
  | succ m ih => intro s; unfold searchOf; rw [nextOf_congr g g' n hn hg, ih]

theorem nblk_le (i : grid0.Coords) : nblk i ≤ 64 := by
  have : (i 0).val < 32 := (i 0).isLt
  unfold nblk
  omega

/-! ## The whole body -/

/-- What the result's buffer reads as, from the running sums and weighted values: head `h` in columns `128 h` on. -/
def outOf (s : Att F) : Vec F S256x1024 .bf16 := fun y =>
  have h : Fin 8 := ⟨(y 1).val / 128, by have : (y 1).val < 1024 := (y 1).isLt; omega⟩
  k0_pay1 (View.ld s.2.2 (headRect h)) (View.ld s.2.1 (headRect h)) (ix2 ⟨(y 0).val, (y 0).isLt⟩ ⟨(y 1).val % 128, Nat.mod_lt _ (by decide)⟩)

/-- The threshold of every row, from the scores. -/
def threshold (i : grid0.Coords) (g : Vec F S64x256x128 .f32) : Vec F S256x128 .f32 :=
  k0_pay249 (k0_pay248 (searchOf g (nblk i) 32 (0#32, k0_pay246, k0_pay247)).2.1)

/-- What the body leaves in the result's buffer. -/
def promptOut (i : grid0.Coords) (x1 : Vec F S8x256x128 .bf16) (x2 : Vec F S256x1024 .bf16) (x3 : Vec F S256x128 .f32)
    (x4 : Vec F S8192x64 .bf16) (x5 x6 : Vec F S8x8192x128 .bf16) : Vec F S256x1024 .bf16 :=
  outOf (att i x1 x5 x6 (threshold i (scoreAt i x2 x4 (weightsAt x3))) (scoreAt i x2 x4 (weightsAt x3)) ((i 0).val + 1))

theorem out_inb (h : Fin 8) : ∀ d, (![0, 128 * h.val] : Fin 2 → ℕ) d + S256x128.size d ≤ S256x1024.size d := by
  have := h.isLt
  intro d; fin_cases d
  · show 0 + 256 ≤ 256; omega
  · show 128 * h.val + 128 ≤ 1024; omega

abbrev outRect (h : Fin 8) : Rect S256x1024 := Rect.unit (s := S256x1024) ![0, 128 * h.val] S256x128.size (out_inb h)

theorem out_ok (s : Att F) (h : Fin 8) (x : S256x128.Idx) :
    k0_pay1 (View.ld s.2.2 (headRect h)) (View.ld s.2.1 (headRect h)) x = outOf s ((outRect h).emb x) := by
  have h1 : (x 1).val < 128 := (x 1).isLt
  unfold outOf
  have e : (⟨((outRect h).emb x 1).val / 128, by have : ((outRect h).emb x 1).val < 1024 := ((outRect h).emb x 1).isLt; omega⟩ : Fin 8) = h :=
    Fin.ext (by show (128 * h.val + 1 * (x 1).val) / 128 = h.val; omega)
  rw [e]
  show _ = k0_pay1 (View.ld s.2.2 (headRect h)) (View.ld s.2.1 (headRect h)) _
  congr 1
  funext a
  match a with
  | ⟨0, _⟩ => exact Fin.ext (by show (x 0).val = 0 + 1 * (x 0).val; omega)
  | ⟨1, _⟩ => exact Fin.ext (by show (x 1).val = (128 * h.val + 1 * (x 1).val) % 128; omega)

theorem out_mem (y : S256x1024.Idx) :
    y ∈ (outRect ⟨(y 1).val / 128, by have : (y 1).val < 1024 := (y 1).isLt; omega⟩).set := by
  refine Rect.mem_set_unit.2 fun a => ?_
  match a with
  | ⟨0, _⟩ => exact ⟨Nat.zero_le _, by show (y 0).val < 0 + 256; have : (y 0).val < 256 := (y 0).isLt; omega⟩
  | ⟨1, _⟩ => exact ⟨by show 128 * ((y 1).val / 128) ≤ (y 1).val; omega, by show (y 1).val < 128 * ((y 1).val / 128) + 128; omega⟩

/-- The result's buffer, every head's block stored. -/
theorem out_read (v : View sig .tc .vmem S256x1024 .bf16) (f : v.ty.Contents (Elt F)) (s : Att F) :
    v.read (Elt F) (v.writes (Elt F) f (List.map (fun h => (⟨outRect h, k0_pay1 (View.ld s.2.2 (headRect h)) (View.ld s.2.1 (headRect h))⟩ :
      View.Piece (Elt F) S256x1024 .bf16)) [7, 6, 5, 4, 3, 2, 1, 0])) = outOf s := by
  funext y
  refine View.read_writes_apply_of_pieces (Val := Elt F) v f (outOf s) _ (fun p hp x => ?_) y ?_
  · obtain ⟨h, -, rfl⟩ := List.mem_map.1 hp
    exact out_ok s h x
  · have : ∀ h : Fin 8, h ∈ ([7, 6, 5, 4, 3, 2, 1, 0] : List (Fin 8)) := by decide
    exact ⟨_, List.mem_map_of_mem (this _), out_mem y⟩

section Loops

variable (c : Dev nD) (i : grid0.Coords) (arg1 : Memref sig .tc .vmem S8x256x128 .bf16) (harg1 : arg1.IsWhole)
  (arg2 : Memref sig .tc .vmem S256x1024 .bf16) (harg2 : arg2.IsWhole)
  (arg3 : Memref sig .tc .vmem S256x128 .f32) (harg3 : arg3.IsWhole)
  (arg4 : Memref sig .tc .vmem S8192x64 .bf16) (harg4 : arg4.IsWhole)
  (arg5 : Memref sig .tc .vmem S8x8192x128 .bf16) (harg5 : arg5.IsWhole)
  (arg6 : Memref sig .tc .vmem S8x8192x128 .bf16) (harg6 : arg6.IsWhole)
  (arg7 : Memref sig .tc .vmem S256x1024 .bf16) (harg7 : arg7.IsWhole)
  (arg8 : Memref sig .tc .vmem S16x256x128 .f32) (harg8 : arg8.IsWhole)
  (arg9 : Memref sig .tc .vmem S64x256x128 .f32) (harg9 : arg9.IsWhole)
  (arg10 : Memref sig .tc .vmem S256x128 .f32) (harg10 : arg10.IsWhole)
  (arg11 : Memref sig .tc .vmem S256x256 .f32) (harg11 : arg11.IsWhole)
  (arg12 : Memref sig .tc .vmem S8x256x128 .f32) (harg12 : arg12.IsWhole)
  (arg13 : Memref sig .tc .vmem S8x256x128 .f32) (harg13 : arg13.IsWhole)
  (arg14 : Memref sig .tc .vmem S8x256x128 .f32) (harg14 : arg14.IsWhole)

theorem scores_read (v20 : BitVec 32) (v27 : FVec F S256x16 .f32) (v108 : FVec F S256x128 .f32) (v109 : Vec F S1x256x128 .f32) (v128 : BitVec 32)
    (X2 : BufTy.Contents (Elt F) arg2.view.ty) (X4 : BufTy.Contents (Elt F) arg4.view.ty)
    (X8 : BufTy.Contents (Elt F) arg8.view.ty) (X9 : BufTy.Contents (Elt F) arg9.view.ty)
    (y : S64x256x128.Idx) (hy : (y 0).val < nblk i) :
    arg9.view.read (Elt F) (arg9.view.writes (Elt F) X9
      (pb_k0_t2 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v20 (k0_pay219 i) v27 v108 v109 v128 X2 X4 X8 (k0_t2_loop i).trips
        ++ pb_k0_t1 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v20 (k0_pay219 i) v27 v108 v109 X2 X4 X8 (k0_t1_loop i).trips)) y
      = scoreAt i (arg2.view.read (Elt F) X2) (arg4.view.read (Elt F) X4) (arg8.view.read (Elt F) X8) y := by
  rw [trips2 i]
  obtain ⟨h1, h2⟩ := scores_after (F := F) c i arg1 harg1 arg2 harg2 arg3 harg3 arg4 harg4 arg5 harg5 arg6 harg6 arg7 harg7 arg8 harg8 arg9 harg9 arg10 harg10 arg11 harg11 arg12 harg12 arg13 harg13 arg14 harg14 v20 v27 v108 v109 X2 X4 X8 _ (le_refl _)
  exact View.read_writes_apply_of_pieces (Val := Elt F) arg9.view X9 _ _ h1 y
    (h2 y (by rw [trips1 i]; exact hy))

/-- The scores' buffer after both loops, its contents forgotten but for what the blocks counted read as. -/
theorem scores_own (v20 : BitVec 32) (v27 : FVec F S256x16 .f32) (v108 : FVec F S256x128 .f32) (v109 : Vec F S1x256x128 .f32) (v128 : BitVec 32)
    (X2 : BufTy.Contents (Elt F) arg2.view.ty) (X4 : BufTy.Contents (Elt F) arg4.view.ty)
    (X8 : BufTy.Contents (Elt F) arg8.view.ty) (X9 : BufTy.Contents (Elt F) arg9.view.ty)
    (x3 : Vec F S256x128 .f32) (h8 : arg8.view.read (Elt F) X8 = weightsAt x3) :
    iprop(arg9.view.loc (c : Thread nD τ) ↦[arg9.view.set]{fullShare} (arg9.view.writes (Elt F) X9
      (pb_k0_t2 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v20 (k0_pay219 i) v27 v108 v109 v128 X2 X4 X8 (k0_t2_loop i).trips
        ++ pb_k0_t1 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 v20 (k0_pay219 i) v27 v108 v109 X2 X4 X8 (k0_t1_loop i).trips)))
      ⊢ (iprop(∃ Y, (arg9.view.loc (c : Thread nD τ) ↦[arg9.view.set]{fullShare} Y)
        ∗ ⌜∀ y : S64x256x128.Idx, (y 0).val < nblk i → arg9.view.read (Elt F) Y y
            = scoreAt i (arg2.view.read (Elt F) X2) (arg4.view.read (Elt F) X4) (weightsAt x3) y⌝) : sProp 𝕄) := by
  iintro H
  iexists _
  isplitl [H]
  · iexact H
  · ipureintro
    intro y hy
    rw [← h8]
    exact scores_read (F := F) c i arg1 harg1 arg2 harg2 arg3 harg3 arg4 harg4 arg5 harg5 arg6 harg6 arg7 harg7 arg8 harg8 arg9 harg9 arg10 harg10 arg11 harg11 arg12 harg12 arg13 harg13 arg14 harg14 v20 v27 v108 v109 v128 X2 X4 X8 X9 y hy

/-- The attention's buffers after both loops. -/
theorem att_end (v178 v183 : BitVec 32)
    (X1 : BufTy.Contents (Elt F) arg1.view.ty) (X5 : BufTy.Contents (Elt F) arg5.view.ty) (X6 : BufTy.Contents (Elt F) arg6.view.ty)
    (X9 : BufTy.Contents (Elt F) arg9.view.ty) (X10 : BufTy.Contents (Elt F) arg10.view.ty)
    (f11 : BufTy.Contents (Elt F) arg11.view.ty) (f12 : BufTy.Contents (Elt F) arg12.view.ty) (f13 : BufTy.Contents (Elt F) arg13.view.ty) (f14 : BufTy.Contents (Elt F) arg14.view.ty)
    (h12 : arg12.view.read (Elt F) f12 = k0_pay250) (h13 : arg13.view.read (Elt F) f13 = k0_pay251)
    (h14 : arg14.view.read (Elt F) f14 = k0_pay252) (Y11 : BufTy.Contents (Elt F) arg11.view.ty) (Y12 : BufTy.Contents (Elt F) arg12.view.ty)
    (Y13 : BufTy.Contents (Elt F) arg13.view.ty) (Y14 : BufTy.Contents (Elt F) arg14.view.ty)
    (x2 : Vec F S256x1024 .bf16) (x3 : Vec F S256x128 .f32) (x4 : Vec F S8192x64 .bf16)
    (h9 : ∀ y : S64x256x128.Idx, (y 0).val < nblk i → arg9.view.read (Elt F) X9 y = scoreAt i x2 x4 (weightsAt x3) y)
    (h10 : arg10.view.read (Elt F) X10 = threshold i (scoreAt i x2 x4 (weightsAt x3))) :
    (arg12.view.read (Elt F) (arg12.view.writes (Elt F) f12 ((pb_k0_t4 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 v183 X1 X5 X6 X9 X10 Y11 Y12 Y13 Y14 (k0_t4_loop i).trips).2.1
        ++ (pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 f12 f13 f14 (k0_t3_loop i).trips).2.1)),
     arg13.view.read (Elt F) (arg13.view.writes (Elt F) f13 ((pb_k0_t4 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 v183 X1 X5 X6 X9 X10 Y11 Y12 Y13 Y14 (k0_t4_loop i).trips).2.2.1
        ++ (pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 f12 f13 f14 (k0_t3_loop i).trips).2.2.1)),
     arg14.view.read (Elt F) (arg14.view.writes (Elt F) f14 ((pb_k0_t4 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 v183 X1 X5 X6 X9 X10 Y11 Y12 Y13 Y14 (k0_t4_loop i).trips).2.2.2
        ++ (pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 f12 f13 f14 (k0_t3_loop i).trips).2.2.2)))
      = att i (arg1.view.read (Elt F) X1) (arg5.view.read (Elt F) X5) (arg6.view.read (Elt F) X6)
          (threshold i (scoreAt i x2 x4 (weightsAt x3))) (scoreAt i x2 x4 (weightsAt x3)) ((i 0).val + 1) := by
  rw [trips4 i, ← trips3 i, ← att_congr i _ _ _ _ _ _ (nblk i) (by rw [trips3 i]; unfold nblk; omega) h9, ← h10]
  exact att_read (F := F) c i arg1 harg1 arg2 harg2 arg3 harg3 arg4 harg4 arg5 harg5 arg6 harg6 arg7 harg7 arg8 harg8 arg9 harg9 arg10 harg10 arg11 harg11 arg12 harg12 arg13 harg13 arg14 harg14 v178 X1 X5 X6 X9 X10 f11 f12 f13 f14 h12 h13 h14 _ (le_refl _)

/-- The sums after both loops, and what they read as. -/
theorem att_own13 (v178 v183 : BitVec 32)
    (X1 : BufTy.Contents (Elt F) arg1.view.ty) (X5 : BufTy.Contents (Elt F) arg5.view.ty) (X6 : BufTy.Contents (Elt F) arg6.view.ty)
    (X9 : BufTy.Contents (Elt F) arg9.view.ty) (X10 : BufTy.Contents (Elt F) arg10.view.ty)
    (f11 : BufTy.Contents (Elt F) arg11.view.ty) (f12 : BufTy.Contents (Elt F) arg12.view.ty) (f13 : BufTy.Contents (Elt F) arg13.view.ty) (f14 : BufTy.Contents (Elt F) arg14.view.ty)
    (L12 L13 L14 : List (View.Piece (Elt F) S8x256x128 .f32))
    (h12 : arg12.view.read (Elt F) (arg12.view.writes (Elt F) f12 L12) = k0_pay250)
    (h13 : arg13.view.read (Elt F) (arg13.view.writes (Elt F) f13 L13) = k0_pay251)
    (h14 : arg14.view.read (Elt F) (arg14.view.writes (Elt F) f14 L14) = k0_pay252)
    (Y11 : BufTy.Contents (Elt F) arg11.view.ty) (Y12 : BufTy.Contents (Elt F) arg12.view.ty)
    (Y13 : BufTy.Contents (Elt F) arg13.view.ty) (Y14 : BufTy.Contents (Elt F) arg14.view.ty)
    (x2 : Vec F S256x1024 .bf16) (x3 : Vec F S256x128 .f32) (x4 : Vec F S8192x64 .bf16)
    (h9 : ∀ y : S64x256x128.Idx, (y 0).val < nblk i → arg9.view.read (Elt F) X9 y = scoreAt i x2 x4 (weightsAt x3) y)
    (h10 : arg10.view.read (Elt F) X10 = threshold i (scoreAt i x2 x4 (weightsAt x3))) :
    iprop(arg13.view.loc (c : Thread nD τ) ↦[arg13.view.set]{fullShare} (arg13.view.writes (Elt F) f13
      ((pb_k0_t4 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 v183 X1 X5 X6 X9 X10 Y11 Y12 Y13 Y14 (k0_t4_loop i).trips).2.2.1
        ++ ((pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 (arg12.view.writes (Elt F) f12 L12) (arg13.view.writes (Elt F) f13 L13) (arg14.view.writes (Elt F) f14 L14) (k0_t3_loop i).trips).2.2.1 ++ L13))))
      ⊢ (iprop((arg13.view.loc (c : Thread nD τ) ↦[arg13.view.set]{fullShare} (arg13.view.writes (Elt F) f13
      ((pb_k0_t4 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 v183 X1 X5 X6 X9 X10 Y11 Y12 Y13 Y14 (k0_t4_loop i).trips).2.2.1
        ++ ((pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 (arg12.view.writes (Elt F) f12 L12) (arg13.view.writes (Elt F) f13 L13) (arg14.view.writes (Elt F) f14 L14) (k0_t3_loop i).trips).2.2.1 ++ L13))))
        ∗ ⌜arg13.view.read (Elt F) (arg13.view.writes (Elt F) f13
      ((pb_k0_t4 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 v183 X1 X5 X6 X9 X10 Y11 Y12 Y13 Y14 (k0_t4_loop i).trips).2.2.1
        ++ ((pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 (arg12.view.writes (Elt F) f12 L12) (arg13.view.writes (Elt F) f13 L13) (arg14.view.writes (Elt F) f14 L14) (k0_t3_loop i).trips).2.2.1 ++ L13)))
          = (att i (arg1.view.read (Elt F) X1) (arg5.view.read (Elt F) X5) (arg6.view.read (Elt F) X6)
          (threshold i (scoreAt i x2 x4 (weightsAt x3))) (scoreAt i x2 x4 (weightsAt x3)) ((i 0).val + 1)).2.1⌝) : sProp 𝕄) := by
  iintro H
  isplitl [H]
  · iexact H
  · ipureintro
    rw [← att_end (F := F) c i arg1 harg1 arg2 harg2 arg3 harg3 arg4 harg4 arg5 harg5 arg6 harg6 arg7 harg7 arg8 harg8 arg9 harg9 arg10 harg10 arg11 harg11 arg12 harg12 arg13 harg13 arg14 harg14 v178 v183 X1 X5 X6 X9 X10 f11 _ _ _ h12 h13 h14 Y11 Y12 Y13 Y14 x2 x3 x4 h9 h10]
    simp only [View.writes_append]

/-- The weighted values after both loops, and what they read as. -/
theorem att_own14 (v178 v183 : BitVec 32)
    (X1 : BufTy.Contents (Elt F) arg1.view.ty) (X5 : BufTy.Contents (Elt F) arg5.view.ty) (X6 : BufTy.Contents (Elt F) arg6.view.ty)
    (X9 : BufTy.Contents (Elt F) arg9.view.ty) (X10 : BufTy.Contents (Elt F) arg10.view.ty)
    (f11 : BufTy.Contents (Elt F) arg11.view.ty) (f12 : BufTy.Contents (Elt F) arg12.view.ty) (f13 : BufTy.Contents (Elt F) arg13.view.ty) (f14 : BufTy.Contents (Elt F) arg14.view.ty)
    (L12 L13 L14 : List (View.Piece (Elt F) S8x256x128 .f32))
    (h12 : arg12.view.read (Elt F) (arg12.view.writes (Elt F) f12 L12) = k0_pay250)
    (h13 : arg13.view.read (Elt F) (arg13.view.writes (Elt F) f13 L13) = k0_pay251)
    (h14 : arg14.view.read (Elt F) (arg14.view.writes (Elt F) f14 L14) = k0_pay252)
    (Y11 : BufTy.Contents (Elt F) arg11.view.ty) (Y12 : BufTy.Contents (Elt F) arg12.view.ty)
    (Y13 : BufTy.Contents (Elt F) arg13.view.ty) (Y14 : BufTy.Contents (Elt F) arg14.view.ty)
    (x2 : Vec F S256x1024 .bf16) (x3 : Vec F S256x128 .f32) (x4 : Vec F S8192x64 .bf16)
    (h9 : ∀ y : S64x256x128.Idx, (y 0).val < nblk i → arg9.view.read (Elt F) X9 y = scoreAt i x2 x4 (weightsAt x3) y)
    (h10 : arg10.view.read (Elt F) X10 = threshold i (scoreAt i x2 x4 (weightsAt x3))) :
    iprop(arg14.view.loc (c : Thread nD τ) ↦[arg14.view.set]{fullShare} (arg14.view.writes (Elt F) f14
      ((pb_k0_t4 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 v183 X1 X5 X6 X9 X10 Y11 Y12 Y13 Y14 (k0_t4_loop i).trips).2.2.2
        ++ ((pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 (arg12.view.writes (Elt F) f12 L12) (arg13.view.writes (Elt F) f13 L13) (arg14.view.writes (Elt F) f14 L14) (k0_t3_loop i).trips).2.2.2 ++ L14))))
      ⊢ (iprop((arg14.view.loc (c : Thread nD τ) ↦[arg14.view.set]{fullShare} (arg14.view.writes (Elt F) f14
      ((pb_k0_t4 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 v183 X1 X5 X6 X9 X10 Y11 Y12 Y13 Y14 (k0_t4_loop i).trips).2.2.2
        ++ ((pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 (arg12.view.writes (Elt F) f12 L12) (arg13.view.writes (Elt F) f13 L13) (arg14.view.writes (Elt F) f14 L14) (k0_t3_loop i).trips).2.2.2 ++ L14))))
        ∗ ⌜arg14.view.read (Elt F) (arg14.view.writes (Elt F) f14
      ((pb_k0_t4 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 v183 X1 X5 X6 X9 X10 Y11 Y12 Y13 Y14 (k0_t4_loop i).trips).2.2.2
        ++ ((pb_k0_t3 (F := F) 𝒱₀ c none i arg1 harg1 arg2 harg2 arg3 harg3 arg4 harg4 arg5 harg5 arg6 harg6 arg7 harg7 arg8 harg8 arg9 harg9 arg10 harg10 arg11 harg11 arg12 harg12 arg13 harg13 arg14 harg14 (k0_pay219 i) v178 X1 X5 X6 X9 X10 f11 (arg12.view.writes (Elt F) f12 L12) (arg13.view.writes (Elt F) f13 L13) (arg14.view.writes (Elt F) f14 L14) (k0_t3_loop i).trips).2.2.2 ++ L14)))
          = (att i (arg1.view.read (Elt F) X1) (arg5.view.read (Elt F) X5) (arg6.view.read (Elt F) X6)
          (threshold i (scoreAt i x2 x4 (weightsAt x3))) (scoreAt i x2 x4 (weightsAt x3)) ((i 0).val + 1)).2.2⌝) : sProp 𝕄) := by
  iintro H
  isplitl [H]
  · iexact H
  · ipureintro
    rw [← att_end (F := F) c i arg1 harg1 arg2 harg2 arg3 harg3 arg4 harg4 arg5 harg5 arg6 harg6 arg7 harg7 arg8 harg8 arg9 harg9 arg10 harg10 arg11 harg11 arg12 harg12 arg13 harg13 arg14 harg14 v178 v183 X1 X5 X6 X9 X10 f11 _ _ _ h12 h13 h14 Y11 Y12 Y13 Y14 x2 x3 x4 h9 h10]
    simp only [View.writes_append]

end Loops

end Cert.KernelIdeal.Prompt

end
-- ==== Proof.Run.lean ====
/- The body's run: from its six input blocks, whatever the other buffers hold, it leaves `promptOut` of those blocks in the
   output's block. -/
module

public import proofs.«01_k».proof.Proof.Reads
public import proofs.«01_k».proof.Proof.Gen.KernelIdeal.Loops

@[expose] public section

set_option maxRecDepth 65536

noncomputable section

namespace Cert.KernelIdeal.Prompt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body of one grid point, run once: the broadcast weights, the chunks of scores, the search for the threshold, the
    chunks of attention, and the eight heads' results. -/
theorem body_run (c : Dev nD) (i : grid0.Coords) (arg1 : Memref sig .tc .vmem S8x256x128 .bf16) (harg1 : arg1.IsWhole) (arg2 : Memref sig .tc .vmem S256x1024 .bf16) (harg2 : arg2.IsWhole) (arg3 : Memref sig .tc .vmem S256x128 .f32) (harg3 : arg3.IsWhole) (arg4 : Memref sig .tc .vmem S8192x64 .bf16) (harg4 : arg4.IsWhole) (arg5 : Memref sig .tc .vmem S8x8192x128 .bf16) (harg5 : arg5.IsWhole) (arg6 : Memref sig .tc .vmem S8x8192x128 .bf16) (harg6 : arg6.IsWhole) (arg7 : Memref sig .tc .vmem S256x1024 .bf16) (harg7 : arg7.IsWhole) (arg8 : Memref sig .tc .vmem S16x256x128 .f32) (harg8 : arg8.IsWhole) (arg9 : Memref sig .tc .vmem S64x256x128 .f32) (harg9 : arg9.IsWhole) (arg10 : Memref sig .tc .vmem S256x128 .f32) (harg10 : arg10.IsWhole) (arg11 : Memref sig .tc .vmem S256x256 .f32) (harg11 : arg11.IsWhole) (arg12 : Memref sig .tc .vmem S8x256x128 .f32) (harg12 : arg12.IsWhole) (arg13 : Memref sig .tc .vmem S8x256x128 .f32) (harg13 : arg13.IsWhole) (arg14 : Memref sig .tc .vmem S8x256x128 .f32) (harg14 : arg14.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜arg7.view.read (Elt F) f = promptOut i (arg1.view.read (Elt F) X1) (arg2.view.read (Elt F) X2) (arg3.view.read (Elt F) X3) (arg4.view.read (Elt F) X4) (arg5.view.read (Elt F) X5) (arg6.view.read (Elt F) X6)⌝) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
    ⊢ wp frame (wpE (defs₀ (F := F)) 𝒱₀ (c : Thread nD τ) none) Set.univ (cc0_prompt_sparse_attention i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_prompt_sparse_attention_eq_skeleton]; unfold cc0_prompt_sparse_attention_skel
  simp only [k0_part43_eq_skeleton, k0_part44_eq_skeleton, k0_part45_eq_skeleton, k0_part46_eq_skeleton, k0_part47_eq_skeleton, k0_part48_eq_skeleton, k0_part49_eq_skeleton]
  iintro ⟨H1, H2, H3, H4, H5, H6, H7, H8, H9, H10, H11, H12, H13, H14, Hk⟩
  sl_exec
  have h8 : arg8.view.read (Elt F) (arg8.view.writes (Elt F) arg8.view.junk (body_run.sl.H8_16 arg3 X3)) = weightsAt (arg3.view.read (Elt F) X3) :=
    (congrArg (fun L => arg8.view.read (Elt F) (arg8.view.writes (Elt F) arg8.view.junk L))
      (show body_run.sl.H8_16 arg3 X3 = List.map (lanePiece (k0_pay220 (View.ld (arg3.view.read (Elt F) X3)
        (Rect.unit (s := S256x128) ![0, 64] S256x16.size inb_S256x128_S256x16_0_64)))) [15, 14, 13, 12, 11, 10, 9, 8, 7, 6, 5, 4, 3, 2, 1, 0] from by
        sl_kernel_rfl)).trans (weights_read arg8 _ _)
  ihave H9 := (scores_own (F := F) c i arg1 harg1 arg2 harg2 arg3 harg3 arg4 harg4 arg5 harg5 arg6 harg6 arg7 harg7 arg8 harg8 arg9 harg9 arg10 harg10 arg11 harg11 arg12 harg12 arg13 harg13 arg14 harg14 _ _ _ _ _ X2 X4 _ X9 _ h8) $$ H9
  icases H9 with ⟨%Y9, H9, %h9⟩
  iapply (wp_call 𝒱₀ (c : Thread nD τ) none Set.univ 32 (fun u hu => nomatch hu))
  iapply (while_spec c i arg9 harg9 _ 32 (0#32, k0_pay246, k0_pay247) (le_refl _) rfl _)
  isplitl [H9]
  · iexact H9
  iintro H9
  sl_exec
  have h10 : arg10.view.read (Elt F) (arg10.view.writes (Elt F) arg10.view.junk (body_run.sl.H10_1 c i arg9 Y9))
      = threshold i (scoreAt i (arg2.view.read (Elt F) X2) (arg4.view.read (Elt F) X4) (weightsAt (arg3.view.read (Elt F) X3))) := by
    unfold threshold
    rw [← searchOf_congr _ _ _ (nblk_le i) h9, ← search_eq arg9 Y9 i 32]
    exact View.read_writes_full (Val := Elt F) arg10.view _ _ _ _
  have h12 : arg12.view.read (Elt F) (arg12.view.writes (Elt F) arg12.view.junk body_run.sl.H12_1) = (k0_pay250 (F := F)) :=
    View.read_writes_full (Val := Elt F) arg12.view _ _ _ _
  have h13 : arg13.view.read (Elt F) (arg13.view.writes (Elt F) arg13.view.junk body_run.sl.H13_1) = (k0_pay251 (F := F)) :=
    View.read_writes_full (Val := Elt F) arg13.view _ _ _ _
  have h14 : arg14.view.read (Elt F) (arg14.view.writes (Elt F) arg14.view.junk body_run.sl.H14_1) = (k0_pay252 (F := F)) :=
    View.read_writes_full (Val := Elt F) arg14.view _ _ _ _
  ihave H13 := (att_own13 (F := F) c i arg1 harg1 arg2 harg2 arg3 harg3 arg4 harg4 arg5 harg5 arg6 harg6 arg7 harg7 arg8 harg8 arg9 harg9 arg10 harg10 arg11 harg11 arg12 harg12 arg13 harg13 arg14 harg14 _ _ X1 X5 X6 Y9 _ X11 _ _ _ _ _ _ h12 h13 h14 _ _ _ _ _ _ _ h9 h10) $$ H13
  icases H13 with ⟨H13, %e13⟩
  ihave H14 := (att_own14 (F := F) c i arg1 harg1 arg2 harg2 arg3 harg3 arg4 harg4 arg5 harg5 arg6 harg6 arg7 harg7 arg8 harg8 arg9 harg9 arg10 harg10 arg11 harg11 arg12 harg12 arg13 harg13 arg14 harg14 _ _ X1 X5 X6 Y9 _ X11 _ _ _ _ _ _ h12 h13 h14 _ _ _ _ _ _ _ h9 h10) $$ H14
  icases H14 with ⟨H14, %e14⟩
  iapply (le_wp_ret _ _ _ _ _)
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexists _
    isplitl [H7]
    · iexact H7
    · ipureintro
      unfold promptOut
      rw [← out_read arg7.view X7, ← e13, ← e14]
      sl_kernel_rfl
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  · iexists _; iexact H14

end Cert.KernelIdeal.Prompt

end
-- ==== Proof.Frames.lean ====
/- The body's triple over memrefs read, and from it the frames of the idealized program and of the reference. -/
module

public import proofs.«01_k».proof.Proof.Run
public import proofs.«01_k».proof.Proof.Gen.ReferenceIdeal.Run
public import Idealize.ShloMosaic.Lib.Quiescent
public import proofs.«01_k».proof.Defs

@[expose] public section

set_option maxRecDepth 65536

noncomputable section

namespace Cert.KernelIdeal.Prompt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1000000 in
/-- The body's run over whole memrefs, in the contents they read as. -/
theorem body_owns (c : Dev nD) (i : grid0.Coords) (arg1 : Memref sig .tc .vmem S8x256x128 .bf16) (harg1 : arg1.IsWhole) (arg2 : Memref sig .tc .vmem S256x1024 .bf16) (harg2 : arg2.IsWhole) (arg3 : Memref sig .tc .vmem S256x128 .f32) (harg3 : arg3.IsWhole) (arg4 : Memref sig .tc .vmem S8192x64 .bf16) (harg4 : arg4.IsWhole) (arg5 : Memref sig .tc .vmem S8x8192x128 .bf16) (harg5 : arg5.IsWhole) (arg6 : Memref sig .tc .vmem S8x8192x128 .bf16) (harg6 : arg6.IsWhole) (arg7 : Memref sig .tc .vmem S256x1024 .bf16) (harg7 : arg7.IsWhole) (arg8 : Memref sig .tc .vmem S16x256x128 .f32) (harg8 : arg8.IsWhole) (arg9 : Memref sig .tc .vmem S64x256x128 .f32) (harg9 : arg9.IsWhole) (arg10 : Memref sig .tc .vmem S256x128 .f32) (harg10 : arg10.IsWhole) (arg11 : Memref sig .tc .vmem S256x256 .f32) (harg11 : arg11.IsWhole) (arg12 : Memref sig .tc .vmem S8x256x128 .f32) (harg12 : arg12.IsWhole) (arg13 : Memref sig .tc .vmem S8x256x128 .f32) (harg13 : arg13.IsWhole) (arg14 : Memref sig .tc .vmem S8x256x128 .f32) (harg14 : arg14.IsWhole)
    (x1 : Vec F S8x256x128 .bf16) (x2 : Vec F S256x1024 .bf16) (x3 : Vec F S256x128 .f32) (x4 : Vec F S8192x64 .bf16) (x5 : Vec F S8x8192x128 .bf16) (x6 : Vec F S8x8192x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6) ∗ owns (c : Thread nD τ) arg7 fullShare (promptOut i x1 x2 x3 x4 x5 x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) 𝒱₀ (c : Thread nD τ) none) Set.univ (cc0_prompt_sparse_attention i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  iapply (body_run c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 K)
  iframe H1 H2 H3 H4 H5 H6 H7 H8 H9 H10 H11 H12 H13 H14
  iintro ⟨H1, H2, H3, H4, H5, H6, ⟨%g7, H7, %e7⟩, ⟨%g8, H8⟩, ⟨%g9, H9⟩, ⟨%g10, H10⟩, ⟨%g11, H11⟩, ⟨%g12, H12⟩, ⟨%g13, H13⟩, ⟨%g14, H14⟩⟩
  iapply Hk
  isplitl [H1 H2 H3 H4 H5 H6]
  · isplitl [H1]
    · iexists f1; isplitr
      · ipureintro; exact h1
      · iexact H1
    isplitl [H2]
    · iexists f2; isplitr
      · ipureintro; exact h2
      · iexact H2
    isplitl [H3]
    · iexists f3; isplitr
      · ipureintro; exact h3
      · iexact H3
    isplitl [H4]
    · iexists f4; isplitr
      · ipureintro; exact h4
      · iexact H4
    isplitl [H5]
    · iexists f5; isplitr
      · ipureintro; exact h5
      · iexact H5
    iexists f6; isplitr
    · ipureintro; exact h6
    · iexact H6
  isplitl [H7]
  · iexists g7; isplitr
    · ipureintro; rw [e7, h1, h2, h3, h4, h5, h6]
    · iexact H7
  isplitl [H8]
  · iexists _, g8; isplitr; swap; · iexact H8
    ipureintro; rfl
  isplitl [H9]
  · iexists _, g9; isplitr; swap; · iexact H9
    ipureintro; rfl
  isplitl [H10]
  · iexists _, g10; isplitr; swap; · iexact H10
    ipureintro; rfl
  isplitl [H11]
  · iexists _, g11; isplitr; swap; · iexact H11
    ipureintro; rfl
  isplitl [H12]
  · iexists _, g12; isplitr; swap; · iexact H12
    ipureintro; rfl
  isplitl [H13]
  · iexists _, g13; isplitr; swap; · iexact H13
    ipureintro; rfl
  iexists _, g14; isplitr; swap; · iexact H14
  ipureintro; rfl

variable (m : (ℓ : Loc nD τ sig) → Buf (Elt F) ℓ) (ρ : Dev nD → PrngReg)

/-- What the launch's point `t` leaves in its output block. -/
def promptAt (c : Dev nD) (t : Fin (cfg0 (F := F)).N) : Vec F S256x1024 .bf16 :=
  promptOut (grid0.coords t) (iblk m c 0 t) (iblk m c 1 t) (iblk m c 2 t) (iblk m c 3 t) (iblk m c 4 t) (iblk m c 5 t)

set_option maxHeartbeats 1000000 in
/-- The body's triple, in the pipeline's blocks. -/
theorem bodyOk : BodyOk m (promptAt m) := by
  intro c t K
  unfold inputs scratch promptAt
  refine BIBase.Entails.trans ?_ (body_owns c (grid0.coords t) (ms0 t) (hs0 t) (ms1 t) (hs1 t) (ms2 t) (hs2 t) (ms3 t) (hs3 t) (ms4 t) (hs4 t) (ms5 t) (hs5 t)
    (ms6 t) (hs6 t) sc0 (Memref.isWhole_whole _) sc1 (Memref.isWhole_whole _) sc2 (Memref.isWhole_whole _) sc3 (Memref.isWhole_whole _)
    sc4 (Memref.isWhole_whole _) sc5 (Memref.isWhole_whole _) sc6 (Memref.isWhole_whole _) (iblk m c 0 t) (iblk m c 1 t)
    (iblk m c 2 t) (iblk m c 3 t) (iblk m c 4 t) (iblk m c 5 t) K)
  iintro ⟨⟨H1, H2, H3, H4, H5, H6⟩, H7, ⟨H8, H9, H10, H11, H12, H13, H14⟩, Hk⟩
  iframe H1 H2 H3 H4 H5 H6 H7 H8 H9 H10 H11 H12 H13 H14
  iexact Hk

end Cert.KernelIdeal.Prompt

namespace Cert.Proof.Claims

open Cert.KernelIdeal.Prompt Idealize.ShloMosaic Idealize.SL.Sem

theorem frame_ideal : Cert.quiescent_KernelIdeal := fun m ρ _ =>
  (θ_run Cert.KernelIdeal.defs _ _).mono (fun _ h => ⟨fun c => (h.1 c).2, h.2⟩)
    (run_main (F := Ideal) m ρ (promptAt m) (bodyOk m))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's value is named: minus infinity in place of the pattern that stands for it. -/
theorem preserves : Cert.preserves_Kernel_KernelIdeal :=
  IdealRules.named_const.statement Cert.KernelIdeal.κ "mask" .f32 0xF149F2CA#32 ⊥ rfl

end Cert.Proof.Claims

end
-- ==== Proof.Softmax.lean ====
/- The running softmax, chunk by chunk, and the softmax of a list: both are the quotient of two sums over the keys selected. -/
module

public import Idealize.ShloMosaic.PureOps.Ideal
public import Idealize.ShloMosaic.Lib.Pointwise

@[expose] public section

noncomputable section

namespace Cert.KernelIdeal.Prompt

open Idealize.ShloMosaic

theorem coe_sum' {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A value where selected, minus infinity elsewhere. -/
abbrev sel (p : Prop) [Decidable p] (x : ℝ) : EReal := if p then (x : EReal) else ⊥

theorem fold_none {ι : Type} [Fintype ι] (p : ι → Prop) [DecidablePred p] (x : ι → ℝ) (h : ∀ j, ¬ p j) :
    Finset.univ.fold max ⊥ (fun j => sel (p j) (x j)) = ⊥ := by
  show (Finset.univ : Finset ι).sup (fun j => sel (p j) (x j)) = ⊥
  rw [Finset.sup_eq_bot_iff]
  intro j _
  exact if_neg (h j)

theorem fold_some {ι : Type} [Fintype ι] (p : ι → Prop) [DecidablePred p] (x : ι → ℝ) (h : ∃ j, p j) :
    ∃ μ : ℝ, Finset.univ.fold max ⊥ (fun j => sel (p j) (x j)) = μ := by
  show ∃ μ : ℝ, (Finset.univ : Finset ι).sup (fun j => sel (p j) (x j)) = μ
  obtain ⟨j, hj⟩ := h
  obtain ⟨i, _, hi⟩ := Finset.exists_mem_eq_sup (Finset.univ : Finset ι) ⟨j, Finset.mem_univ j⟩ (fun j => sel (p j) (x j))
  have hle : (fun j => sel (p j) (x j)) j ≤ (Finset.univ : Finset ι).sup (fun j => sel (p j) (x j)) := Finset.le_sup (f := fun j => sel (p j) (x j)) (Finset.mem_univ j)
  rw [hi] at hle ⊢
  by_cases hp : p i
  · exact ⟨x i, if_pos hp⟩
  · simp only [sel, if_neg hp, if_pos hj] at hle
    exact absurd hle (by simp)

/-- The keys selected among the first `n` chunks of 256. -/
def picked (S : ℕ → Prop) [DecidablePred S] (n : ℕ) : Finset ℕ := (Finset.range (256 * n)).filter S

theorem sum_picked (S : ℕ → Prop) [DecidablePred S] (n : ℕ) (f : ℕ → ℝ) :
    ∑ s ∈ picked S (n + 1), f s = ∑ s ∈ picked S n, f s + ∑ j : Fin 256, if S (256 * n + j.val) then f (256 * n + j.val) else 0 := by
  unfold picked
  rw [Finset.sum_filter, Finset.sum_filter, Nat.mul_succ, Finset.sum_range_add, Finset.sum_range (n := 256)]

theorem picked_empty (S : ℕ → Prop) [DecidablePred S] (n : ℕ) :
    picked S (n + 1) = ∅ ↔ picked S n = ∅ ∧ ∀ j : Fin 256, ¬ S (256 * n + j.val) := by
  unfold picked
  simp only [Finset.filter_eq_empty_iff, Finset.mem_range]
  constructor
  · intro h
    exact ⟨fun s hs => h (by omega), fun j => h (by omega)⟩
  · rintro ⟨h1, h2⟩ s hs
    by_cases hl : s < 256 * n
    · exact h1 hl
    · have := h2 ⟨s - 256 * n, by omega⟩
      rwa [show 256 * n + (s - 256 * n) = s from by omega] at this

/-- What the running maximum, sum and weighted value are, of a set of keys. -/
def Sums (K : Finset ℕ) (x v : ℕ → ℝ) (m l a : EReal) : Prop :=
  (K = ∅ ∧ m = ⊥ ∧ l = 0 ∧ a = 0) ∨
  (K ≠ ∅ ∧ ∃ μ : ℝ, m = μ ∧ l = ((∑ s ∈ K, Real.rpow 2 (x s - μ) : ℝ) : EReal) ∧ a = ((∑ s ∈ K, Real.rpow 2 (x s - μ) * v s : ℝ) : EReal))

theorem rpow_shift (x μ ν : ℝ) : Real.rpow 2 (μ - ν) * Real.rpow 2 (x - μ) = Real.rpow 2 (x - ν) := by
  show (2 : ℝ) ^ (μ - ν) * (2 : ℝ) ^ (x - μ) = (2 : ℝ) ^ (x - ν)
  rw [← Real.rpow_add (by norm_num)]
  congr 1; ring

theorem sums_step (S : ℕ → Prop) [DecidablePred S] (n : ℕ) (x v : ℕ → ℝ) (m l a m' : EReal) (h : Sums (picked S n) x v m l a)
    (hm : m' = max m (Finset.univ.fold max ⊥ fun j : Fin 256 => sel (S (256 * n + j.val)) (x (256 * n + j.val)))) :
    Sums (picked S (n + 1)) x v m'
      (Ideal.exp2 (m - m') * l + ∑ j : Fin 256, Ideal.exp2 (sel (S (256 * n + j.val)) (x (256 * n + j.val)) - m'))
      (Ideal.exp2 (m - m') * a + ∑ j : Fin 256, Ideal.exp2 (sel (S (256 * n + j.val)) (x (256 * n + j.val)) - m')
        * ((v (256 * n + j.val) : ℝ) : EReal)) := by
  by_cases hK : picked S (n + 1) = ∅
  · obtain ⟨h1, h2⟩ := (picked_empty S n).1 hK
    rw [fold_none _ _ h2] at hm
    rcases h with ⟨_, rfl, rfl, rfl⟩ | ⟨hn, _⟩
    · left
      rw [max_self] at hm
      subst hm
      simp [sel, h2, hK]
    · exact absurd h1 hn
  · right
    refine ⟨hK, ?_⟩
    have hreal : ∃ ν : ℝ, m' = ν := by
      by_cases hj : ∃ j : Fin 256, S (256 * n + j.val)
      · obtain ⟨ν, hν⟩ := fold_some (fun j : Fin 256 => S (256 * n + j.val)) (fun j => x (256 * n + j.val)) hj
        rw [hν] at hm
        rcases h with ⟨_, rfl, _, _⟩ | ⟨_, μ, rfl, _, _⟩
        · exact ⟨ν, by rw [hm]; simp⟩
        · exact ⟨max μ ν, by rw [hm]; exact (EReal.coe_strictMono.monotone.map_max (a := μ) (b := ν)).symm⟩
      · push Not at hj
        rw [fold_none _ _ hj] at hm
        rcases h with ⟨h1, _⟩ | ⟨_, μ, rfl, _, _⟩
        · exact absurd ((picked_empty S n).2 ⟨h1, hj⟩) hK
        · exact ⟨μ, by rw [hm]; simp⟩
    obtain ⟨ν, rfl⟩ := hreal
    refine ⟨ν, rfl, ?_, ?_⟩
    · have e : ∀ j : Fin 256, Ideal.exp2 (sel (S (256 * n + j.val)) (x (256 * n + j.val)) - (ν : EReal))
          = (((if S (256 * n + j.val) then Real.rpow 2 (x (256 * n + j.val) - ν) else 0 : ℝ)) : EReal) := by
        intro j
        by_cases hs : S (256 * n + j.val)
        · simp only [sel, if_pos hs]; rw [← EReal.coe_sub, Ideal.exp2_coe]
        · simp [sel, if_neg hs]
      simp only [e]
      rw [coe_sum', sum_picked S n fun s => Real.rpow 2 (x s - ν), EReal.coe_add]
      congr 1
      rcases h with ⟨h1, rfl, rfl, rfl⟩ | ⟨_, μ, rfl, rfl, rfl⟩
      · rw [h1]; simp
      · rw [← EReal.coe_sub, Ideal.exp2_coe, ← EReal.coe_mul, Finset.mul_sum]
        simp only [rpow_shift]
    · have e : ∀ j : Fin 256, Ideal.exp2 (sel (S (256 * n + j.val)) (x (256 * n + j.val)) - (ν : EReal)) * ((v (256 * n + j.val) : ℝ) : EReal)
          = (((if S (256 * n + j.val) then Real.rpow 2 (x (256 * n + j.val) - ν) * v (256 * n + j.val) else 0 : ℝ)) : EReal) := by
        intro j
        by_cases hs : S (256 * n + j.val)
        · simp only [sel, if_pos hs]; rw [← EReal.coe_sub, Ideal.exp2_coe, ← EReal.coe_mul]
        · simp [sel, if_neg hs]
      simp only [e]
      rw [coe_sum', sum_picked S n fun s => Real.rpow 2 (x s - ν) * v s, EReal.coe_add]
      congr 1
      rcases h with ⟨h1, rfl, rfl, rfl⟩ | ⟨_, μ, rfl, rfl, rfl⟩
      · rw [h1]; simp
      · rw [← EReal.coe_sub, Ideal.exp2_coe, ← EReal.coe_mul, Finset.mul_sum]
        simp only [← mul_assoc, rpow_shift]

/-- The quotient the running sums end in. -/
theorem sums_div (K : Finset ℕ) (x v : ℕ → ℝ) (m l a : EReal) (hK : K.Nonempty) (h : Sums K x v m l a) :
    Ideal.div a l = (((∑ s ∈ K, Real.exp (Real.log 2 * x s) * v s) / (∑ s ∈ K, Real.exp (Real.log 2 * x s)) : ℝ) : EReal) := by
  rcases h with ⟨h, _⟩ | ⟨_, μ, _, rfl, rfl⟩
  · exact absurd h hK.ne_empty
  · have he : ∀ s, Real.rpow 2 (x s - μ) = Real.exp (-(Real.log 2 * μ)) * Real.exp (Real.log 2 * x s) := by
      intro s
      show (2 : ℝ) ^ (x s - μ) = _
      rw [Real.rpow_def_of_pos (by norm_num), ← Real.exp_add]
      congr 1; ring
    have hpos : 0 < ∑ s ∈ K, Real.rpow 2 (x s - μ) := Finset.sum_pos (fun s _ => Real.rpow_pos_of_pos (by norm_num) _) hK
    rw [Ideal.div_coe hpos.ne', ← EReal.coe_mul, one_div, ← div_eq_mul_inv]
    congr 1
    simp only [he, mul_assoc, ← Finset.mul_sum]
    rw [mul_div_mul_left _ _ (Real.exp_pos _).ne']

/-- The softmax of a list some of whose entries are masked, weighing values. -/
theorem list_softmax {ι : Type} [Fintype ι] (p : ι → Prop) [DecidablePred p] (y v : ι → ℝ) (h : ∃ j, p j) (M : EReal)
    (hM : M = Finset.univ.fold max ⊥ fun j => sel (p j) (y j)) :
    ∑ j, Ideal.div (Ideal.exp (sel (p j) (y j) - M)) (∑ k, Ideal.exp (sel (p k) (y k) - M)) * ((v j : ℝ) : EReal)
      = (((∑ j ∈ Finset.univ.filter p, Real.exp (y j) * v j) / (∑ j ∈ Finset.univ.filter p, Real.exp (y j)) : ℝ) : EReal) := by
  obtain ⟨ν, hν⟩ := fold_some p y h
  rw [hν] at hM
  subst hM
  have e : ∀ j, Ideal.exp (sel (p j) (y j) - (ν : EReal)) = ((Real.exp (-ν) * (if p j then Real.exp (y j) else 0) : ℝ) : EReal) := by
    intro j
    by_cases hs : p j
    · simp only [sel, if_pos hs]; rw [← EReal.coe_sub, Ideal.exp_coe, ← Real.exp_add]; congr 2; ring
    · simp [sel, if_neg hs]
  simp only [e]
  rw [coe_sum', ← Finset.mul_sum, ← Finset.sum_filter]
  have hne : (Finset.univ.filter p).Nonempty := by
    obtain ⟨j, hj⟩ := h; exact ⟨j, by simp [hj]⟩
  have hpos : 0 < ∑ j ∈ Finset.univ.filter p, Real.exp (y j) := Finset.sum_pos (fun s _ => Real.exp_pos _) hne
  generalize ∑ j ∈ Finset.univ.filter p, Real.exp (y j) = L at *
  have hL : Real.exp (-ν) * L ≠ 0 := mul_ne_zero (Real.exp_pos _).ne' hpos.ne'
  simp only [Ideal.div_coe hL, ← EReal.coe_mul]
  rw [coe_sum', Finset.sum_filter, Finset.sum_div]
  congr 1
  refine Finset.sum_congr rfl fun j _ => ?_
  have := (Real.exp_pos (-ν)).ne'
  split
  · field_simp
  · simp

end Cert.KernelIdeal.Prompt

end
-- ==== Proof.TopK.lean ====
/- The greatest entries of a row in order, and the rows gathered at their positions. -/
module

public import proofs.«01_k».proof.Proof.Softmax
public import proofs.«01_k».proof.Proof.Gen.ReferenceIdeal.Run
public import Idealize.ShloMosaic.Lib.SortFacts
public import Idealize.ShloMosaic.Lib.Pointwise

@[expose] public section

set_option maxRecDepth 16384

noncomputable section

namespace Cert.Prompt

open Idealize.ShloMosaic Idealize.ShloMosaic.Tactic

/-- Where the entry that the descending order of a row `g` puts at place `j` stands. -/
def place (g : Fin 8192 → EReal) (j : Fin 8192) : Fin 8192 :=
  sortedFrom (fun k k' => (FloatOps.cmpfTotal (F := Ideal) (φ := .f32) .gt (g k) (g k') : BitVec 1) == 1#1) j

theorem place_inj (g : Fin 8192 → EReal) : Function.Injective (place g) := sortedFrom_injective _

theorem place_sur (g : Fin 8192 → EReal) : Function.Surjective (place g) := sortedFrom_surjective _

theorem before_iff (a b : EReal) : ((FloatOps.cmpfTotal (F := Ideal) (φ := .f32) .gt a b : BitVec 1) == 1#1) = decide (b < a) := by
  show (BitVec.ofBool (decide (b < a)) == 1#1) = _
  cases decide (b < a) <;> rfl

theorem place_anti (g : Fin 8192 → EReal) (i j : Fin 8192) (h : i < j) : g (place g j) ≤ g (place g i) := by
  have := sortedFrom_noInversion (fun k k' => decide (g k' < g k)) (fun k k' => (FloatOps.cmpfTotal (F := Ideal) (φ := .f32) .gt (g k) (g k') : BitVec 1) == 1#1)
    (fun a b hab => by rw [before_iff, decide_eq_true_iff] at hab; simpa using hab.le)
    (fun a b hab => by rwa [before_iff])
    (fun a b c hab hbc => by
      simp only [decide_eq_false_iff_not, not_lt] at *
      exact hab.trans hbc) i j h
  simpa [place] using this

theorem along_row (t k k' : Fin 8192) : (ix2 t k : (⟨2, ![8192, 8192]⟩ : Shape).Idx).along 1 k' = ix2 t k' := by
  funext a
  match a with
  | ⟨0, _⟩ => rfl
  | ⟨1, _⟩ => rfl

/-- The first columns of an array. -/
theorem first_columns {α : Type} (n : ℕ) (hn : n ≤ 8192) (y : (⟨2, ![8192, 8192]⟩ : Shape).Idx → α)
    (h : (⟨2, ![8192, 8192]⟩ : Shape).Slices (fun _ => 0) ⟨2, ![8192, n]⟩) (t : Fin 8192) (j : Fin n) :
    extractStridedSlice ⟨2, ![8192, n]⟩ (fun _ => 0) y h (ix2 t j) = y (ix2 t ⟨j.val, by omega⟩) := by
  unfold extractStridedSlice
  congr 1
  funext a
  match a with
  | ⟨0, _⟩ => exact Fin.ext (by show 0 + t.val = t.val; omega)
  | ⟨1, _⟩ => exact Fin.ext (by show 0 + j.val = j.val; omega)

/-- The positions of a row's greatest entries, as words. -/
theorem topK_place (n : ℕ) (hn : n ≤ 8192) (x : Vec Ideal (⟨2, ![8192, 8192]⟩ : Shape) .f32)
    (h : (⟨2, ![8192, 8192]⟩ : Shape).Slices (fun _ => 0) ⟨2, ![8192, n]⟩) (t : Fin 8192) (j : Fin n) :
    (Host.topK ⟨2, ![8192, n]⟩ 1 (FloatOps.cmpfTotal (F := Ideal) (φ := .f32) .gt) x h).2 (ix2 t j)
      = BitVec.ofNat 32 (place (fun k => x (ix2 t k)) ⟨j.val, by omega⟩).val := by
  unfold Host.topK
  dsimp only
  refine (first_columns n hn _ h t j).trans ?_
  unfold Host.sort2
  rw [dif_pos (show 1 < (⟨2, ![8192, 8192]⟩ : Shape).rank from Nat.lt_succ_self 1)]
  dsimp only
  have hA : (fun k : Fin 8192 => (ix2 t ⟨j.val, by omega⟩ : (⟨2, ![8192, 8192]⟩ : Shape).Idx).along 1 k) = fun k => ix2 t k :=
    funext fun k => along_row t _ k
  refine Eq.trans (b := (fun A : Fin 8192 → (⟨2, ![8192, 8192]⟩ : Shape).Idx => (iotaInDim (⟨2, ![8192, 8192]⟩ : Shape) 32 1 (A (sortedFrom (fun k k' => (FloatOps.cmpfTotal (F := Ideal) (φ := .f32) .gt (x (A k)) (x (A k')) : BitVec 1) == 1#1) ⟨j.val, by omega⟩)) : BitVec 32))
    (fun k : Fin 8192 => (ix2 t ⟨j.val, by omega⟩ : (⟨2, ![8192, 8192]⟩ : Shape).Idx).along 1 k)) rfl ?_
  rw [hA]
  rfl

/-- The greatest entries of a row themselves. -/
theorem topK_value (n : ℕ) (hn : n ≤ 8192) (x : Vec Ideal (⟨2, ![8192, 8192]⟩ : Shape) .f32)
    (h : (⟨2, ![8192, 8192]⟩ : Shape).Slices (fun _ => 0) ⟨2, ![8192, n]⟩) (t : Fin 8192) (j : Fin n) :
    (Host.topK ⟨2, ![8192, n]⟩ 1 (FloatOps.cmpfTotal (F := Ideal) (φ := .f32) .gt) x h).1 (ix2 t j)
      = x (ix2 t (place (fun k => x (ix2 t k)) ⟨j.val, by omega⟩)) := by
  unfold Host.topK
  dsimp only
  refine (first_columns n hn _ h t j).trans ?_
  unfold Host.sort2
  rw [dif_pos (show 1 < (⟨2, ![8192, 8192]⟩ : Shape).rank from Nat.lt_succ_self 1)]
  dsimp only
  have hA : (fun k : Fin 8192 => (ix2 t ⟨j.val, by omega⟩ : (⟨2, ![8192, 8192]⟩ : Shape).Idx).along 1 k) = fun k => ix2 t k :=
    funext fun k => along_row t _ k
  refine Eq.trans (b := (fun A : Fin 8192 → (⟨2, ![8192, 8192]⟩ : Shape).Idx => x (A (sortedFrom (fun k k' => (FloatOps.cmpfTotal (F := Ideal) (φ := .f32) .gt (x (A k)) (x (A k')) : BitVec 1) == 1#1) ⟨j.val, by omega⟩)))
    (fun k : Fin 8192 => (ix2 t ⟨j.val, by omega⟩ : (⟨2, ![8192, 8192]⟩ : Shape).Idx).along 1 k)) rfl ?_
  rw [hA]
  rfl

open Cert.ReferenceIdeal Cert.ReferenceIdeal.Gen in
/-- The rows gathered at word `k` are row `k`'s. -/
theorem gather_row (x : Vec Ideal S8192x8x128 .f32) (idx : IVec S8192x256x1 32) (t : Fin 8192) (j : Fin 256) (h : Fin 8) (d : Fin 128)
    (k : Fin 8192) (hk : idx (ix3 t j 0) = BitVec.ofNat 32 k.val) :
    Host.gather gather_S8192x8x128_S8192x256x1_S8192x256x8x128_23_0_n_n_0_2_18128 x idx (ix4 t j h d) = x (ix3 k h d) := by
  have hk' : (BitVec.ofNat 32 k.val).toInt = k.val := by rw [BitVec.toInt_ofNat', Int.bmod_eq_of_le (by omega) (by omega)]
  show x _ = x _
  congr 1
  funext a
  match a with
  | ⟨0, _⟩ =>
    refine Fin.ext ?_
    show min (idx _).toInt.toNat (8192 - 1) + 0 + 0 = k.val
    rw [show (GatherDims.siIdx gather_S8192x8x128_S8192x256x1_S8192x256x8x128_23_0_n_n_0_2_18128 (ix4 t j h d) _) = ix3 t j 0 from ?_, hk, hk']
    · simp; omega
    · funext b
      match b with
      | ⟨0, _⟩ => rfl
      | ⟨1, _⟩ => rfl
      | ⟨2, _⟩ => rfl
  | ⟨1, _⟩ => exact Fin.ext (by show 0 + 0 + h.val = h.val; omega)
  | ⟨2, _⟩ => exact Fin.ext (by show 0 + 0 + d.val = d.val; omega)

end Cert.Prompt

end
-- ==== Proof.Codes.lean ====
/- The order of the codes the search runs through: code `u` names an extended real, minus infinity below the finite ones, then
   the format's numbers in order, then infinity. Neighbours lie a unit in the last place apart. -/
module

public import Idealize.ShloMosaic.PureOps.Ideal
public import Idealize.ShloMosaic.Lib.TotalOrder
public import Idealize.ShloMosaic.Lib.Pointwise

@[expose] public section

set_option maxRecDepth 8192

noncomputable section

namespace Cert.KernelIdeal.Prompt

open Idealize.ShloMosaic

/-- A nonnegative finite pattern's number, in units of the least one. -/
def units (n : ℕ) : ℕ := if n / 2 ^ 23 = 0 then n % 2 ^ 23 else (2 ^ 23 + n % 2 ^ 23) * 2 ^ (n / 2 ^ 23 - 1)

/-- The least positive number of the format. -/
abbrev least : ℝ := (2 : ℝ) ^ (-149 : ℤ)

theorem least_pos : 0 < least := by unfold least; positivity

theorem units_succ (n : ℕ) : units (n + 1) = units n + 2 ^ (n / 2 ^ 23 - 1) := by
  have hm : n % 2 ^ 23 < 2 ^ 23 := Nat.mod_lt _ (by decide)
  have hn := Nat.div_add_mod n (2 ^ 23)
  unfold units
  by_cases h : n % 2 ^ 23 + 1 < 2 ^ 23
  · have h1 : (n + 1) / 2 ^ 23 = n / 2 ^ 23 := by omega
    have h2 : (n + 1) % 2 ^ 23 = n % 2 ^ 23 + 1 := by omega
    rw [h1, h2]
    split
    · next h0 => rw [h0]; simp
    · ring
  · have h1 : (n + 1) / 2 ^ 23 = n / 2 ^ 23 + 1 := by omega
    have h2 : (n + 1) % 2 ^ 23 = 0 := by omega
    have h3 : n % 2 ^ 23 = 2 ^ 23 - 1 := by omega
    rw [h1, h2, h3, if_neg (by omega)]
    split
    · next h0 => rw [h0]; simp
    · next h0 =>
      obtain ⟨e, he⟩ : ∃ e, n / 2 ^ 23 = e + 1 := ⟨n / 2 ^ 23 - 1, by omega⟩
      rw [he, Nat.add_sub_cancel, Nat.add_sub_cancel, pow_succ]
      have : (2 ^ 23 - 1 + 1 : ℕ) = 2 ^ 23 := by decide
      omega

theorem units_gap (n : ℕ) : 2 ^ (n / 2 ^ 23 - 1) * 2 ^ 23 ≤ units n + 2 ^ 23 := by
  unfold units
  split
  · next h0 => rw [h0]; simp
  · rw [Nat.mul_comm]
    exact le_trans (Nat.mul_le_mul_right _ (Nat.le_add_right _ _)) (Nat.le_add_right _ _)

theorem units_mono {a b : ℕ} (h : a ≤ b) : units a ≤ units b := by
  induction h with
  | refl => exact le_refl _
  | step _ ih => exact ih.trans (by rw [units_succ]; exact Nat.le_add_right _ _)

theorem units_zero : units 0 = 0 := by simp [units]

/-- The word of the search's code `u`. -/
abbrev word (u : ℕ) : BitVec 32 := BitVec.ofNat 32 (u + 2 ^ 31)

/-- The number of a word of the search, as the kernel reads it. -/
def level (o : BitVec 32) : EReal :=
  if o.slt 2155872255#32 then ⊥ else Ideal.ofBits .f32 (o ^^^ (o.sshiftRight 31 &&& 2147483647#32))

theorem ieee_pos (n : ℕ) (h : n < 0x7F800000) : Ideal.ofBits .f32 (BitVec.ofNat 32 n) = ((units n * least : ℝ) : EReal) := by
  have hex : TotalOrder.expo 8 23 (BitVec.ofNat 32 n) = n / 2 ^ 23 := by
    rw [TotalOrder.expo_eq, BitVec.toNat_ofNat]; omega
  have hfr : TotalOrder.frac 23 (BitVec.ofNat 32 n) = n % 2 ^ 23 := by
    rw [TotalOrder.frac_eq, BitVec.toNat_ofNat]; omega
  have hs : TotalOrder.sign 8 23 (BitVec.ofNat 32 n) = false := by
    unfold TotalOrder.sign
    rw [beq_eq_false_iff_ne, ne_eq, BitVec.toNat_eq, BitVec.extractLsb'_toNat, BitVec.toNat_ofNat, Nat.shiftRight_eq_div_pow]
    simp; omega
  unfold TotalOrder.expo at hex
  unfold TotalOrder.frac at hfr
  unfold TotalOrder.sign at hs
  unfold Ideal.ofBits Ideal.ieee
  simp only [hex, hfr, hs]
  rw [if_neg (by omega)]
  unfold units
  split
  · norm_num [least]
  · next h0 =>
    obtain ⟨e, he⟩ : ∃ e, n / 2 ^ 23 = e + 1 := ⟨n / 2 ^ 23 - 1, by omega⟩
    rw [he]
    congr 1
    simp only [Bool.false_eq_true, if_false, Nat.add_sub_cancel, least]
    push_cast
    rw [one_mul, mul_assoc]
    congr 1
    rw [← zpow_natCast, ← zpow_add₀ (by norm_num)]
    congr 1
    norm_num
    ring

theorem ieee_neg (n : ℕ) (h : n < 0x7F800000) :
    Ideal.ofBits .f32 (BitVec.ofNat 32 (2 ^ 31 + n)) = ((-(units n * least) : ℝ) : EReal) := by
  have hex : TotalOrder.expo 8 23 (BitVec.ofNat 32 (2 ^ 31 + n)) = n / 2 ^ 23 := by
    rw [TotalOrder.expo_eq, BitVec.toNat_ofNat]; omega
  have hfr : TotalOrder.frac 23 (BitVec.ofNat 32 (2 ^ 31 + n)) = n % 2 ^ 23 := by
    rw [TotalOrder.frac_eq, BitVec.toNat_ofNat]; omega
  have hs : TotalOrder.sign 8 23 (BitVec.ofNat 32 (2 ^ 31 + n)) = true := by
    unfold TotalOrder.sign
    rw [beq_iff_eq, BitVec.toNat_eq, BitVec.extractLsb'_toNat, BitVec.toNat_ofNat, Nat.shiftRight_eq_div_pow]
    simp; omega
  unfold TotalOrder.expo at hex
  unfold TotalOrder.frac at hfr
  unfold TotalOrder.sign at hs
  unfold Ideal.ofBits Ideal.ieee
  simp only [hex, hfr, hs]
  rw [if_neg (by omega)]
  unfold units
  split
  · norm_num [least]
  · next h0 =>
    obtain ⟨e, he⟩ : ∃ e, n / 2 ^ 23 = e + 1 := ⟨n / 2 ^ 23 - 1, by omega⟩
    rw [he]
    congr 1
    simp only [if_true, Nat.add_sub_cancel, least]
    push_cast
    rw [neg_one_mul, neg_mul, mul_assoc]
    congr 2
    rw [← zpow_natCast, ← zpow_add₀ (by norm_num)]
    congr 1
    norm_num
    ring

theorem word_slt (u : ℕ) (h : u < 2 ^ 32) : (word u).slt 2155872255#32 = decide (u < 0x7FFFFF) := by
  rw [BitVec.slt, decide_eq_decide, BitVec.toInt_eq_toNat_cond, BitVec.toInt_eq_toNat_cond, BitVec.toNat_ofNat, BitVec.toNat_ofNat]
  split <;> split <;> omega

theorem mask_ones : (2147483647#32 : BitVec 32) = BitVec.ofNat 32 (2 ^ 31 - (0 + 1)) := rfl

theorem mask_bit (i : ℕ) (hi : i < 32) : (2147483647#32 : BitVec 32).getLsbD i = decide (i < 31) := by
  rw [mask_ones, BitVec.getLsbD_ofNat, Nat.testBit_two_pow_sub_succ (by decide)]
  simp [hi]

theorem word_bit (u i : ℕ) (h : u < 2 ^ 31) (hi : i < 32) : (word u).getLsbD i = if i < 31 then u.testBit i else true := by
  unfold word
  rw [BitVec.getLsbD_ofNat, Nat.add_comm]
  split
  · next hl => rw [Nat.testBit_two_pow_add_gt hl]; simp [hi]
  · next hl =>
    have : i = 31 := by omega
    subst this
    rw [Nat.testBit_two_pow_add_eq, Nat.testBit_lt_two_pow h]; simp

theorem word_msb (u : ℕ) (h : u < 2 ^ 31) : (word u).msb = true := by
  rw [BitVec.msb_eq_true_iff_two_mul_ge, BitVec.toNat_ofNat]; omega

theorem word_neg (u : ℕ) (h : u < 2 ^ 31) :
    (word u) ^^^ ((word u).sshiftRight 31 &&& 2147483647#32) = BitVec.ofNat 32 (2 ^ 31 + (2 ^ 31 - 1 - u)) := by
  have he : 2 ^ 31 + (2 ^ 31 - 1 - u) = 2 ^ 31 + (2 ^ 31 - (u + 1)) := by omega
  rw [he]
  apply BitVec.eq_of_getLsbD_eq
  intro i hi
  have hs : (if 31 + i < 32 then (word u).getLsbD (31 + i) else true) = true := by
    split
    · next hl =>
      have : i = 0 := by omega
      subst this
      rw [word_bit u _ h (by decide)]; simp
    · rfl
  rw [BitVec.getLsbD_xor, BitVec.getLsbD_and, BitVec.getLsbD_sshiftRight, mask_bit i hi, word_bit u i h hi, word_msb u h, hs,
    BitVec.getLsbD_ofNat]
  by_cases hl : i < 31
  · rw [Nat.testBit_two_pow_add_gt hl, Nat.testBit_two_pow_sub_succ h]
    have : ¬ 32 ≤ i := by omega
    simp [hl, hi, this]
  · have : i = 31 := by omega
    subst this
    rw [Nat.testBit_two_pow_add_eq, Nat.testBit_two_pow_sub_succ h]
    simp

theorem word_pos (u : ℕ) (h : 2 ^ 31 ≤ u) (hu : u < 2 ^ 32) :
    (word u) ^^^ ((word u).sshiftRight 31 &&& 2147483647#32) = BitVec.ofNat 32 (u - 2 ^ 31) := by
  have hw : word u = BitVec.ofNat 32 (u - 2 ^ 31) := by
    rw [BitVec.toNat_eq, BitVec.toNat_ofNat, BitVec.toNat_ofNat]; omega
  have hm : (word u).msb = false := by
    rw [hw, BitVec.msb_eq_false_iff_two_mul_lt, BitVec.toNat_ofNat]; omega
  have h0 : (word u).sshiftRight 31 = 0#32 := by
    rw [BitVec.sshiftRight_eq_of_msb_false hm, BitVec.toNat_eq, BitVec.toNat_ushiftRight, hw, BitVec.toNat_ofNat,
      Nat.shiftRight_eq_div_pow]
    simp; omega
  rw [h0, hw]; simp

theorem ofBits_bot : Ideal.ofBits .f32 (BitVec.ofNat 32 (2 ^ 31 + (2 ^ 31 - 1 - 0x7FFFFF))) = ⊥ := by
  unfold Ideal.ofBits Ideal.ieee
  rw [show BitVec.ofNat 32 (2 ^ 31 + (2 ^ 31 - 1 - 0x7FFFFF)) = 0xFF800000#32 from by decide]
  simp only [show (0xFF800000#32 : BitVec 32).extractLsb' (8 + 23) 1 == 1#1 from by decide,
    show ((0xFF800000#32 : BitVec 32).extractLsb' 23 8).toNat = 255 from by decide,
    show ((0xFF800000#32 : BitVec 32).extractLsb' 0 23).toNat = 0 from by decide]
  simp

theorem ofBits_top : Ideal.ofBits .f32 (BitVec.ofNat 32 (0xFF800000 - 2 ^ 31)) = ⊤ := by
  unfold Ideal.ofBits Ideal.ieee
  rw [show BitVec.ofNat 32 (0xFF800000 - 2 ^ 31) = 0x7F800000#32 from by decide]
  simp only [show ((0x7F800000#32 : BitVec 32).extractLsb' (8 + 23) 1 == 1#1) = false from by decide,
    show ((0x7F800000#32 : BitVec 32).extractLsb' 23 8).toNat = 255 from by decide,
    show ((0x7F800000#32 : BitVec 32).extractLsb' 0 23).toNat = 0 from by decide]
  simp

theorem level_bot (u : ℕ) (h : u < 0x800000) : level (word u) = ⊥ := by
  unfold level
  rw [word_slt u (by omega)]
  split
  · rfl
  · next hn =>
    have : u = 0x7FFFFF := by simp at hn; omega
    subst this
    rw [word_neg _ (by decide)]
    exact ofBits_bot

theorem level_neg (u : ℕ) (h : 0x800000 ≤ u) (hu : u < 2 ^ 31) :
    level (word u) = ((-(units (2 ^ 31 - 1 - u) * least) : ℝ) : EReal) := by
  unfold level
  rw [word_slt u (by omega), if_neg (by simp; omega), word_neg u hu, ieee_neg _ (by omega)]

theorem level_pos (u : ℕ) (h : 2 ^ 31 ≤ u) (hu : u < 0xFF800000) : level (word u) = ((units (u - 2 ^ 31) * least : ℝ) : EReal) := by
  unfold level
  rw [word_slt u (by omega), if_neg (by simp; omega), word_pos u h (by omega), ieee_pos _ (by omega)]

theorem level_top : level (word 0xFF800000) = ⊤ := by
  unfold level
  rw [word_slt _ (by decide), if_neg (by simp), word_pos _ (by decide) (by decide)]
  exact ofBits_top

theorem level_step (u : ℕ) (h : u < 0xFF800000) : level (word u) ≤ level (word (u + 1)) := by
  by_cases h1 : u < 0x800000
  · rw [level_bot u h1]; exact bot_le
  by_cases h2 : u + 1 < 2 ^ 31
  · rw [level_neg u (by omega) (by omega), level_neg _ (by omega) h2, EReal.coe_le_coe_iff, neg_le_neg_iff]
    exact mul_le_mul_of_nonneg_right (by exact_mod_cast units_mono (by omega)) least_pos.le
  by_cases h3 : u < 2 ^ 31
  · have : u = 2 ^ 31 - 1 := by omega
    subst this
    rw [level_neg _ (by omega) (by omega), level_pos _ (by omega) (by omega)]
    simp [units_zero]
  by_cases h4 : u + 1 < 0xFF800000
  · rw [level_pos u (by omega) (by omega), level_pos _ (by omega) h4, EReal.coe_le_coe_iff]
    exact mul_le_mul_of_nonneg_right (by exact_mod_cast units_mono (by omega)) least_pos.le
  · have : u = 0xFF800000 - 1 := by omega
    subst this
    rw [show 0xFF800000 - 1 + 1 = 0xFF800000 from rfl, level_top]
    exact le_top

theorem level_mono {u v : ℕ} (h : u ≤ v) (hv : v ≤ 0xFF800000) : level (word u) ≤ level (word v) := by
  induction v, h using Nat.le_induction with
  | base => exact le_refl _
  | succ n _ ih => exact (ih (by omega)).trans (level_step n (by omega))

theorem gap_real (n : ℕ) : ((2 : ℝ) ^ (n / 2 ^ 23 - 1)) * least ≤ units n * least * 2⁻¹ ^ 23 + least := by
  have h : ((2 : ℝ) ^ (n / 2 ^ 23 - 1)) * 2 ^ 23 ≤ units n + 2 ^ 23 := by exact_mod_cast units_gap n
  have hl := least_pos
  have : ((2 : ℝ) ^ (n / 2 ^ 23 - 1)) ≤ units n * 2⁻¹ ^ 23 + 1 := by
    norm_num at h ⊢; linarith
  nlinarith

/-- Between two neighbours the distance is a unit in the last place of what lies between. -/
theorem level_gap (u : ℕ) (h : 0x800000 ≤ u) (hu : u + 1 < 0xFF800000) : ∃ a b : ℝ, level (word u) = a ∧ level (word (u + 1)) = b ∧
    ∀ v : ℝ, a ≤ v → v < b → b - a ≤ |v| * 2⁻¹ ^ 23 + least := by
  have hl := least_pos
  by_cases h3 : u < 2 ^ 31
  · by_cases h2 : u + 1 < 2 ^ 31
    · refine ⟨_, _, level_neg u h h3, level_neg _ (by omega) h2, fun v _ hv => ?_⟩
      have e : 2 ^ 31 - 1 - u = (2 ^ 31 - 1 - (u + 1)) + 1 := by omega
      rw [e, units_succ]
      generalize 2 ^ 31 - 1 - (u + 1) = k at *
      have hg := gap_real k
      have hv' : units k * least < |v| := lt_of_lt_of_le (by linarith) (neg_le_abs v)
      rw [Nat.cast_add, Nat.cast_pow, Nat.cast_ofNat]
      linarith [mul_lt_mul_of_pos_right hv' (show (0 : ℝ) < 2⁻¹ ^ 23 by positivity), add_mul ((units k : ℕ) : ℝ) (2 ^ (k / 2 ^ 23 - 1)) least]
    · have : u = 2 ^ 31 - 1 := by omega
      subst this
      have e0 : level (word (2 ^ 31 - 1)) = ((0 : ℝ) : EReal) := by
        rw [level_neg _ (by omega) (by omega)]; simp [units_zero]
      have e1 : level (word (2 ^ 31 - 1 + 1)) = ((0 : ℝ) : EReal) := by
        rw [level_pos _ (by omega) (by omega)]; simp [units_zero]
      exact ⟨0, 0, e0, e1, fun v ha hb => absurd hb (not_lt.2 ha)⟩
  · refine ⟨_, _, level_pos u (by omega) (by omega), level_pos _ (by omega) hu, fun v ha _ => ?_⟩
    have e : u + 1 - 2 ^ 31 = (u - 2 ^ 31) + 1 := by omega
    obtain ⟨k, hk⟩ : ∃ k, u - 2 ^ 31 = k := ⟨_, rfl⟩
    rw [e, units_succ, hk]
    rw [hk] at ha
    have hg := gap_real k
    have hv' : units k * least ≤ |v| := ha.trans (le_abs_self v)
    rw [Nat.cast_add, Nat.cast_pow, Nat.cast_ofNat]
    linarith [mul_le_mul_of_nonneg_right hv' (show (0 : ℝ) ≤ 2⁻¹ ^ 23 by positivity), add_mul ((units k : ℕ) : ℝ) (2 ^ (k / 2 ^ 23 - 1)) least]

/-- The greatest finite number exceeds `2 ^ 127`, and the least is below its negative. -/
theorem level_last : ((2 ^ 127 : ℝ) : EReal) < level (word (0xFF800000 - 1)) := by
  rw [level_pos _ (by omega) (by omega), EReal.coe_lt_coe_iff]
  norm_num [units, least]

theorem level_first : level (word 0x800000) < ((-2 ^ 127 : ℝ) : EReal) := by
  rw [level_neg _ (by omega) (by omega), EReal.coe_lt_coe_iff]
  norm_num [units, least]

/-- The number of the first `N` keys that reach `v`. -/
def reached (g : ℕ → EReal) (N : ℕ) (v : EReal) : Finset ℕ := (Finset.range N).filter fun s => v ≤ g s

theorem reached_mono (g : ℕ → EReal) (N : ℕ) {v w : EReal} (h : v ≤ w) : reached g N w ⊆ reached g N v := fun s hs => by
  simp only [reached, Finset.mem_filter] at hs ⊢
  exact ⟨hs.1, h.trans hs.2⟩

theorem mem_reached {g : ℕ → EReal} {N : ℕ} {v : EReal} {s : ℕ} : s ∈ reached g N v ↔ s < N ∧ v ≤ g s := by
  simp [reached]

/-- How many of the first `N` keys reach a code. -/
abbrev cnt (g : ℕ → EReal) (N : ℕ) (o : BitVec 32) : ℕ := (reached g N (level o)).card

theorem cnt_mono (g : ℕ → EReal) (N : ℕ) {x y : ℕ} (h : x ≤ y) (hy : y ≤ 0xFF800000) : cnt g N (word y) ≤ cnt g N (word x) :=
  Finset.card_le_card (reached_mono g N (level_mono h hy))

end Cert.KernelIdeal.Prompt

end
-- ==== Proof.Bisect.lean ====
/- The search of the code reached by 256 keys, as one row runs it, and why the keys it selects are the 256 best. -/
module

public import proofs.«01_k».proof.Proof.Codes

@[expose] public section

set_option maxRecDepth 8192

noncomputable section

namespace Cert.KernelIdeal.Prompt

open Idealize.ShloMosaic

/-- Where a row's search stands after `it` passes: a multiple of the step reached by 256 keys, the next one reached by fewer. -/
def Stands (g : ℕ → EReal) (N it : ℕ) (o c : BitVec 32) : Prop :=
  ∃ u, o = word u ∧ 2 ^ (32 - it) ∣ u ∧ u < 0xFF800000 ∧ 256 ≤ cnt g N (word u) ∧
    (∀ x, u + 2 ^ (32 - it) ≤ x → x ≤ 0xFF800000 → cnt g N (word x) < 256) ∧ (c = -1 ∨ c = BitVec.ofNat 32 (cnt g N (word u)))

theorem stands_init (g : ℕ → EReal) (N : ℕ) (h : 256 ≤ N) : Stands g N 0 2147483648#32 (-1) := by
  refine ⟨0, rfl, Dvd.intro_left 0 (Nat.zero_mul _), by decide, ?_, fun x hx hx' => ?_, .inl rfl⟩
  · have : reached g N (level (word 0)) = Finset.range N := by
      rw [level_bot 0 (by decide)]
      ext s; simp [mem_reached]
    rw [cnt, this, Finset.card_range]; exact h
  · norm_num at hx; omega

theorem code_fits (d u : ℕ) (hd : d < 32) (h : 2 ^ (d + 1) ∣ u) (hu : u < 0xFF800000) : u + 2 ^ d ≤ 0xFF800000 := by
  interval_cases d <;> norm_num at h ⊢ <;> omega

theorem word_add (u d : ℕ) : word u + BitVec.ofNat 32 (2 ^ d) = word (u + 2 ^ d) := by
  unfold word
  rw [← BitVec.ofNat_add]
  congr 1
  omega

theorem stands_step (g : ℕ → EReal) (N it : ℕ) (o c : BitVec 32) (hit : it < 32) (htop : ∀ s, g s < ⊤) (h : Stands g N it o c) :
    Stands g N (it + 1)
      (if 256 ≤ cnt g N (o + BitVec.ofNat 32 (2 ^ (31 - it))) then o + BitVec.ofNat 32 (2 ^ (31 - it)) else o)
      (if 256 ≤ cnt g N (o + BitVec.ofNat 32 (2 ^ (31 - it))) then
        BitVec.ofNat 32 (cnt g N (o + BitVec.ofNat 32 (2 ^ (31 - it)))) else c) := by
  obtain ⟨u, rfl, hdvd, hu, hC, hx, hc⟩ := h
  obtain ⟨d, hd, h1, h2, h3⟩ : ∃ d, d < 32 ∧ 31 - it = d ∧ 32 - it = d + 1 ∧ 32 - (it + 1) = d := ⟨31 - it, by omega, rfl, by omega, by omega⟩
  rw [h2] at hdvd hx
  have hfit := code_fits d u hd hdvd hu
  unfold Stands
  rw [h1, h3, word_add]
  by_cases hk : 256 ≤ cnt g N (word (u + 2 ^ d))
  · rw [if_pos hk, if_pos hk]
    refine ⟨u + 2 ^ d, rfl, ?_, ?_, hk, fun x h5 h6 => hx x (by rw [pow_succ]; omega) h6, .inr rfl⟩
    · exact Dvd.dvd.add ((pow_dvd_pow 2 (Nat.le_succ d)).trans hdvd) (dvd_refl _)
    · rcases hfit.lt_or_eq with h | h
      · exact h
      · exfalso
        rw [h, cnt, level_top] at hk
        have : reached g N ⊤ = ∅ := by
          ext s
          simp only [mem_reached, Finset.notMem_empty, iff_false, not_and, not_le]
          exact fun _ => htop s
        rw [this, Finset.card_empty] at hk
        omega
  · rw [if_neg hk, if_neg hk]
    exact ⟨u, rfl, (pow_dvd_pow 2 (Nat.le_succ d)).trans hdvd, hu, hC,
      fun x h5 h6 => lt_of_le_of_lt (cnt_mono g N h5 h6) (not_le.1 hk), hc⟩

/-- Where a row's search ends. -/
def Found (g : ℕ → EReal) (N : ℕ) (o : BitVec 32) : Prop :=
  ∃ u, o = word u ∧ u < 0xFF800000 ∧ 256 ≤ cnt g N (word u) ∧ (cnt g N (word u) = 256 ∨ cnt g N (word (u + 1)) < 256)

theorem stands_end (g : ℕ → EReal) (N : ℕ) (o c : BitVec 32) (h : Stands g N 32 o c) : Found g N o := by
  obtain ⟨u, rfl, _, hu, hC, hx, _⟩ := h
  exact ⟨u, rfl, hu, hC, .inr (hx _ (le_refl _) hu)⟩

theorem stands_full (g : ℕ → EReal) (N it : ℕ) (hN : N ≤ 8192) (o : BitVec 32) (h : Stands g N it o 256#32) : Found g N o := by
  obtain ⟨u, rfl, _, hu, hC, _, hc⟩ := h
  refine ⟨u, rfl, hu, hC, .inl ?_⟩
  have hle : cnt g N (word u) ≤ N := (Finset.card_le_card (Finset.filter_subset _ _)).trans (Finset.card_range N).le
  rcases hc with hc | hc
  · exact absurd hc (by decide)
  · have := congrArg BitVec.toNat hc
    simp only [BitVec.toNat_ofNat] at this
    omega

/-- The keys that reach the code found are the 256 first of an order by score. -/
theorem found_iff (g : ℕ → EReal) (N t : ℕ) (ht : t < N) (hN : N ≤ 8192) (o : BitVec 32) (hf : Found g N o)
    (hbot : ∀ s, t < s → s < 8192 → g s = ⊥) (hreal : ∀ s, s ≤ t → ⊥ < g s)
    (π : Fin 8192 → Fin 8192) (hinj : Function.Injective π) (hsur : Function.Surjective π)
    (hanti : ∀ i j, i < j → g (π j) ≤ g (π i))
    (hsep : 256 ≤ t → ∃ a b : ℝ, g (π 255) = a ∧ g (π 256) = b ∧ |a| * 2⁻¹ ^ 22 + 2 ^ (-126 : ℤ) ≤ a - b ∧ |a| ≤ 2 ^ 127)
    (s : ℕ) (hs : s ≤ t) : level o ≤ g s ↔ ∃ j : Fin 8192, j.val < 256 ∧ (π j).val = s := by
  obtain ⟨u, rfl, hu, hC, hor⟩ := hf
  by_cases h256 : 256 ≤ t
  · obtain ⟨a, b, ha, hb, hab, ha127⟩ := hsep h256
    have hlt : b < a := by
      have : 0 < |a| * 2⁻¹ ^ 22 + (2 : ℝ) ^ (-126 : ℤ) := by positivity
      linarith
    -- the keys that reach the 256th score
    have hB : ∀ x : ℕ, x ∈ reached g N a ↔ ∃ j : Fin 8192, j.val < 256 ∧ (π j).val = x := by
      intro x
      rw [mem_reached]
      constructor
      · rintro ⟨hx, hax⟩
        obtain ⟨j, hj⟩ := hsur ⟨x, by omega⟩
        refine ⟨j, ?_, by rw [hj]⟩
        by_contra hn
        have h1 : g (π j) ≤ g (π 256) := by
          rcases (show (256 : Fin 8192) ≤ j from by rw [Fin.le_def]; simpa using hn).eq_or_lt with h | h
          · rw [h]
          · exact hanti _ _ h
        rw [hj, hb] at h1
        exact absurd (EReal.coe_le_coe_iff.1 (hax.trans h1)) (not_le.2 hlt)
      · rintro ⟨j, hj, rfl⟩
        have h1 : g (π 255) ≤ g (π j) := by
          rcases (show j ≤ (255 : Fin 8192) from by rw [Fin.le_def]; simp; omega).eq_or_lt with h | h
          · rw [h]
          · exact hanti _ _ h
        rw [ha] at h1
        refine ⟨?_, h1⟩
        by_contra hn
        rw [hbot (π j) (by omega) (π j).isLt] at h1
        exact absurd h1 (by simp)
    have hcard : (reached g N a).card = 256 := by
      have : reached g N a = (Finset.univ : Finset (Fin 256)).image fun j => (π ⟨j.val, by omega⟩).val := by
        ext x
        rw [hB, Finset.mem_image]
        constructor
        · rintro ⟨j, hj, hx⟩; exact ⟨⟨j.val, hj⟩, Finset.mem_univ _, hx⟩
        · rintro ⟨j, _, hx⟩; exact ⟨⟨j.val, by omega⟩, j.isLt, hx⟩
      rw [this, Finset.card_image_of_injective, Finset.card_univ, Fintype.card_fin]
      intro x y hxy
      have := hinj (Fin.ext hxy)
      exact Fin.ext (by simpa using this)
    have key : reached g N (level (word u)) = reached g N a := by
      rcases le_or_gt (level (word u)) (a : EReal) with hle | hgt
      · have hsub := reached_mono g N hle
        rcases hor with h | h
        · exact (Finset.eq_of_subset_of_card_le hsub (by rw [hcard]; exact h.le)).symm
        · refine Finset.Subset.antisymm (fun x hx => ?_) hsub
          have hnext : (a : EReal) < level (word (u + 1)) := by
            by_contra hn
            have := Finset.card_le_card (reached_mono g N (not_lt.1 hn))
            rw [hcard] at this
            exact absurd h (not_lt.2 this)
          have hlo : 0x800000 ≤ u := by
            by_contra hn
            have h1 := level_mono (show u + 1 ≤ 0x800000 by omega) (by decide)
            have h2 := (hnext.trans_le h1).trans level_first
            rw [EReal.coe_lt_coe_iff] at h2
            have := neg_abs_le a
            linarith
          have hhi : u + 1 < 0xFF800000 := by
            by_contra hn
            have h1 : u = 0xFF800000 - 1 := by omega
            rw [h1] at hle
            have h2 := level_last.trans_le hle
            rw [EReal.coe_lt_coe_iff] at h2
            have := le_abs_self a
            linarith
          obtain ⟨p, q, hp, hq, hgap⟩ := level_gap u hlo hhi
          rw [hp] at hle hx
          rw [hq] at hnext
          have hg := hgap a (EReal.coe_le_coe_iff.1 hle) (EReal.coe_lt_coe_iff.1 hnext)
          have hq' := EReal.coe_lt_coe_iff.1 hnext
          have hbp : b < p := by
            have h3 : |a| * 2⁻¹ ^ 23 ≤ |a| * 2⁻¹ ^ 22 :=
              mul_le_mul_of_nonneg_left (by norm_num) (abs_nonneg a)
            have h4 : least ≤ (2 : ℝ) ^ (-126 : ℤ) := by unfold least; exact zpow_le_zpow_right₀ (by norm_num) (by norm_num)
            linarith
          rw [mem_reached] at hx
          rw [hB]
          obtain ⟨j, hj⟩ := hsur ⟨x, by omega⟩
          refine ⟨j, ?_, by rw [hj]⟩
          by_contra hn
          have h1 : g (π j) ≤ g (π 256) := by
            rcases (show (256 : Fin 8192) ≤ j from by rw [Fin.le_def]; simpa using hn).eq_or_lt with h | h
            · rw [h]
            · exact hanti _ _ h
          rw [hj, hb] at h1
          exact absurd (EReal.coe_le_coe_iff.1 (hx.2.trans h1)) (not_le.2 hbp)
      · exact Finset.eq_of_subset_of_card_le (reached_mono g N hgt.le) (by rw [hcard]; exact hC)
    rw [← hB, ← key, mem_reached]
    exact ⟨fun h => ⟨by omega, h⟩, fun h => h.2⟩
  · have hleft : level (word u) ≤ g s := by
      by_cases hb : level (word u) = ⊥
      · rw [hb]; exact bot_le
      · have hsub : reached g N (level (word u)) ⊆ Finset.range (t + 1) := by
          intro x hx
          rw [mem_reached] at hx
          rw [Finset.mem_range]
          by_contra hn
          rw [hbot x (by omega) (by omega), le_bot_iff] at hx
          exact hb hx.2
        have heq := Finset.eq_of_subset_of_card_le hsub (by rw [Finset.card_range]; exact le_trans (by omega) hC)
        have : s ∈ reached g N (level (word u)) := by rw [heq, Finset.mem_range]; omega
        exact (mem_reached.1 this).2
    refine ⟨fun _ => ?_, fun _ => hleft⟩
    obtain ⟨j, hj⟩ := hsur ⟨s, by omega⟩
    refine ⟨j, ?_, by rw [hj]⟩
    by_contra hn
    have hin : ∀ i : Fin 257, (π ⟨i.val, by omega⟩).val < 256 := by
      intro i
      by_contra h1
      have h2 := hbot (π ⟨i.val, by omega⟩).val (by omega) (π ⟨i.val, by omega⟩).isLt
      have h3 : g (π j) ≤ g (π ⟨i.val, by omega⟩) := by
        rcases (show (⟨i.val, by omega⟩ : Fin 8192) ≤ j from by rw [Fin.le_def]; simp; omega).eq_or_lt with h | h
        · rw [h]
        · exact hanti _ _ h
      rw [h2, hj, le_bot_iff] at h3
      exact absurd h3 (hreal s hs).ne'
    have := Fintype.card_le_of_injective (fun i : Fin 257 => (⟨(π ⟨i.val, by omega⟩).val, hin i⟩ : Fin 256)) (by
      intro x y hxy
      have h1 := hinj (Fin.ext (Fin.mk.inj_iff.1 hxy))
      exact Fin.ext (by simpa using h1))
    simp at this

end Cert.KernelIdeal.Prompt

end
-- ==== Proof.SearchRow.lean ====
/- The search of one block of rows, row by row. -/
module

public import proofs.«01_k».proof.Proof.Reads
public import proofs.«01_k».proof.Proof.Bisect
public import proofs.«01_k».proof.Proof.Softmax

@[expose] public section

set_option maxRecDepth 16384

noncomputable section

namespace Cert.KernelIdeal.Prompt

open Cert.KernelIdeal Cert.KernelIdeal.Gen
open Idealize.ShloMosaic Idealize.ShloMosaic.Tactic

theorem pay3_apply (it : BitVec 32) (o : IVec S256x1 32) (r : Fin 256) :
    k0_pay3 it o (ix2 r 0) = o (ix2 r 0) + Scalar.shli 1#32 (Scalar.subi 31#32 it) := by
  exact rfl

theorem pick_eq {α : Type} (b : Bool) (x y : α) : Scalar.select (BitVec.ofBool b) x y = if b = true then x else y := by
  cases b <;> rfl

theorem pay4_apply (it : BitVec 32) (o : IVec S256x1 32) (r : Fin 256) (l : Fin 128) :
    k0_pay4 (F := Ideal) it o (ix2 r l) = level (o (ix2 r 0) + Scalar.shli 1#32 (Scalar.subi 31#32 it)) := by
  pointwise [k0_pay4, k0_pay3]
  unfold level
  have hb : Ideal.ofBits .f32 4286578688#32 = ⊥ := ofBits_bot
  rw [← hb]
  exact pick_eq _ _ _

theorem pay21_apply (K : IVec S256x128 32) (r : Fin 256) :
    k0_pay21 (F := Ideal) K (ix2 r 0) = Ideal.fptosi 32 (∑ l : Fin 128, (((K (ix2 r l)).toInt : ℝ) : EReal)) := by
  pointwise [k0_pay21]
  rfl

theorem pay23_apply (it : BitVec 32) (o : IVec S256x1 32) (K : IVec S256x128 32) (r : Fin 256) :
    k0_pay23 (F := Ideal) it o K (ix2 r 0) = if (256#32).sle (k0_pay21 (F := Ideal) K (ix2 r 0)) then k0_pay3 it o (ix2 r 0) else o (ix2 r 0) := by
  pointwise [k0_pay23, k0_pay22]
  exact pick_eq _ _ _

theorem pay24_apply (c : IVec S256x1 32) (K : IVec S256x128 32) (r : Fin 256) :
    k0_pay24 (F := Ideal) c K (ix2 r 0) = if (256#32).sle (k0_pay21 (F := Ideal) K (ix2 r 0)) then k0_pay21 (F := Ideal) K (ix2 r 0) else c (ix2 r 0) := by
  pointwise [k0_pay24, k0_pay22]
  exact pick_eq _ _ _

theorem pay2_pos (c : IVec S256x1 32) (r : Fin 256) (h : c (ix2 r 0) ≠ 256#32) : 0 < k0_pay2 (F := Ideal) c := by
  have e : k0_pay2 (F := Ideal) c = Finset.fold max (Ideal.ofBits FTy.f32 4286578688#32)
      (fun x : Fin 256 × Fin 1 => Scalar.select (IntOp.cmpi CmpIPredicate.ne (c (ix2 x.1 0)) 256#32) (1 : EReal) 0) Finset.univ := by
    pointwise [k0_pay2]
  rw [e, Finset.lt_fold_max]
  refine .inr ⟨(r, 0), Finset.mem_univ _, ?_⟩
  have : IntOp.cmpi CmpIPredicate.ne (c (ix2 r 0)) 256#32 = 1#1 := by
    show BitVec.ofBool (c (ix2 r 0) != 256#32) = 1#1
    rw [bne_iff_ne.2 h]; rfl
  rw [this]
  exact zero_lt_one

/-- Where the search stops before its last pass, every count is 256. -/
theorem stop_full (it : BitVec 32) (c : IVec S256x1 32) (hit : it.slt 32#32 = true) (h : ¬ goesOn (F := Ideal) it c) (r : Fin 256) :
    c (ix2 r 0) = 256#32 := by
  by_contra hr
  apply h
  have hp := pay2_pos c r hr
  unfold goesOn
  have h1 : Scalar.cmpi .slt it 32#32 = 1#1 := by
    show BitVec.ofBool (it.slt 32#32) = 1#1
    rw [hit]; rfl
  rw [h1]
  have h2 : Scalar.cmpf .ogt (k0_pay2 (F := Ideal) c) (Scalar.ofBits .f32 0x00000000#32) = 1#1 := by
    pointwise
    rw [decide_eq_true (by simpa using hp)]; rfl
  rw [h2]
  rfl

/-! ## Counts -/

theorem block_apply (g : Vec Ideal S64x256x128 .f32) (b : ℕ) (h : Fin 2) (p l : Fin 128) :
    shapeCast S128x128 (View.ld g (Rect.unit (s := S64x256x128) ![b % 64, 128 * h.val, 0] S1x128x128.size (block_inb b h)))
      shapeCasts_S1x128x128_S128x128 (ix2 p l)
      = g (ix3 ⟨b % 64, Nat.mod_lt _ (by decide)⟩ ⟨128 * h.val + p.val, by omega⟩ l) := by
  refine (shapeCast_dropUnit_apply _ _ _ (ix2 p l)).trans ?_
  show g _ = g _
  congr 1
  funext a
  match a with
  | ⟨0, _⟩ => exact Fin.ext (by show b % 64 + 1 * 0 = b % 64; omega)
  | ⟨1, _⟩ => exact Fin.ext (by show 128 * h.val + 1 * p.val = 128 * h.val + p.val; omega)
  | ⟨2, _⟩ => exact Fin.ext (by show 0 + 1 * l.val = l.val; omega)

theorem half_apply (v : FVec Ideal S256x128 .f32) (h : Fin 2) (p l : Fin 128) :
    extractStridedSlice S128x128 ![128 * h.val, 0] v (half_slices h) (ix2 p l) = v (ix2 ⟨128 * h.val + p.val, by omega⟩ l) := by
  refine extractStridedSlice_apply _ _ _ _ _ fun a => ?_
  match a with
  | ⟨0, _⟩ => rfl
  | ⟨1, _⟩ => exact (Nat.zero_add _).symm

theorem countHalf_apply (g : Vec Ideal S64x256x128 .f32) (v : FVec Ideal S256x128 .f32) (h : Fin 2) (n : ℕ) (p l : Fin 128) :
    countHalfOf g v h n (ix2 p l) = BitVec.ofNat 32 ((Finset.range n).filter fun b =>
      v (ix2 ⟨128 * h.val + p.val, by omega⟩ l) ≤ g (ix3 ⟨b % 64, Nat.mod_lt _ (by decide)⟩ ⟨128 * h.val + p.val, by omega⟩ l)).card := by
  induction n with
  | zero => rfl
  | succ b ih =>
    unfold countHalfOf
    rw [Finset.range_add_one, Finset.filter_insert]
    show countHalfOf g v h b (ix2 p l) + Scalar.select (BitVec.ofBool (decide (extractStridedSlice S128x128 ![128 * h.val, 0] v (half_slices h) (ix2 p l)
      ≤ shapeCast S128x128 (View.ld g (Rect.unit (s := S64x256x128) ![b % 64, 128 * h.val, 0] S1x128x128.size (block_inb b h)))
      shapeCasts_S1x128x128_S128x128 (ix2 p l)))) 1#32 0#32 = _
    rw [ih, block_apply, half_apply, pick_eq]
    split
    · next hc =>
      rw [if_pos (of_decide_eq_true hc), Finset.card_insert_of_notMem (by simp), BitVec.ofNat_add]
    · next hc =>
      rw [if_neg (fun h => hc (decide_eq_true h)), BitVec.add_zero]

theorem count_apply (g : Vec Ideal S64x256x128 .f32) (v : FVec Ideal S256x128 .f32) (n : ℕ) (r : Fin 256) (l : Fin 128) :
    countOf g v n (ix2 r l) = BitVec.ofNat 32 ((Finset.range n).filter fun b =>
      v (ix2 r l) ≤ g (ix3 ⟨b % 64, Nat.mod_lt _ (by decide)⟩ r l)).card := by
  unfold countOf
  pointwise
  split
  · rw [countHalf_apply]
    simp only [Fin.val_zero, Nat.mul_zero, Nat.zero_add]
  · rw [countHalf_apply]
    have e : (⟨128 * (1 : Fin 2).val + (r.val - 128), by omega⟩ : Fin 256) = r := Fin.ext (by simp; omega)
    simp only [e]

/-- A row of the scores' buffer, by column. -/
def rowOf (g : Vec Ideal S64x256x128 .f32) (r : Fin 256) (s : ℕ) : EReal :=
  g (ix3 ⟨s / 128 % 64, Nat.mod_lt _ (by decide)⟩ r ⟨s % 128, Nat.mod_lt _ (by decide)⟩)

theorem cnt_row (g : Vec Ideal S64x256x128 .f32) (r : Fin 256) (n : ℕ) (hn : n ≤ 64) (o : BitVec 32) :
    cnt (rowOf g r) (128 * n) o = ∑ l : Fin 128, ((Finset.range n).filter fun b =>
      level o ≤ g (ix3 ⟨b % 64, Nat.mod_lt _ (by decide)⟩ r l)).card := by
  unfold cnt reached
  rw [Finset.card_filter]
  simp only [Finset.card_filter]
  rw [Finset.sum_comm]
  induction n with
  | zero => simp
  | succ n ih =>
    rw [Nat.mul_succ, Finset.sum_range_add, Finset.sum_range_succ (n := n), ih (by omega), Finset.sum_range (n := 128)]
    rw [Nat.add_left_cancel_iff]
    refine Finset.sum_congr rfl fun l _ => ?_
    have h1 : (128 * n + l.val) / 128 = n := by omega
    have h2 : (128 * n + l.val) % 128 = l.val := by omega
    simp only [rowOf, h1, h2]

/-- A row's count of the candidate, as the body takes it. -/
theorem total_apply (g : Vec Ideal S64x256x128 .f32) (v : FVec Ideal S256x128 .f32) (n : ℕ) (hn : n ≤ 64) (r : Fin 256) (o : BitVec 32)
    (hv : ∀ l, v (ix2 r l) = level o) :
    k0_pay21 (F := Ideal) (countOf g v n) (ix2 r 0) = BitVec.ofNat 32 (cnt (rowOf g r) (128 * n) o) := by
  rw [pay21_apply, cnt_row g r n hn o]
  have e : ∀ l : Fin 128, ((((countOf g v n (ix2 r l)).toInt : ℤ) : ℝ) : EReal)
      = (((((Finset.range n).filter fun b => level o ≤ g (ix3 ⟨b % 64, Nat.mod_lt _ (by decide)⟩ r l)).card : ℕ) : ℝ) : EReal) := by
    intro l
    rw [count_apply, hv l]
    have hc : ((Finset.range n).filter fun b => level o ≤ g (ix3 ⟨b % 64, Nat.mod_lt _ (by decide)⟩ r l)).card ≤ n :=
      (Finset.card_le_card (Finset.filter_subset _ _)).trans (Finset.card_range n).le
    rw [BitVec.toInt_ofNat', Int.bmod_eq_of_le (by omega) (by omega), Int.cast_natCast]
  simp only [e]
  have hle : ∑ l : Fin 128, ((Finset.range n).filter fun b => level o ≤ g (ix3 ⟨b % 64, Nat.mod_lt _ (by decide)⟩ r l)).card ≤ 8192 := by
    rw [← cnt_row g r n hn o]
    exact ((Finset.card_le_card (Finset.filter_subset _ _)).trans (Finset.card_range _).le).trans (by omega)
  have hs : (∑ l : Fin 128, (((((Finset.range n).filter fun b => level o ≤ g (ix3 ⟨b % 64, Nat.mod_lt _ (by decide)⟩ r l)).card : ℕ) : ℝ) : EReal))
      = (((∑ l : Fin 128, ((Finset.range n).filter fun b => level o ≤ g (ix3 ⟨b % 64, Nat.mod_lt _ (by decide)⟩ r l)).card : ℕ) : ℝ) : EReal) := by
    rw [coe_sum', Nat.cast_sum]
  rw [hs]
  generalize (∑ l : Fin 128, ((Finset.range n).filter fun b => level o ≤ g (ix3 ⟨b % 64, Nat.mod_lt _ (by decide)⟩ r l)).card) = k at hle ⊢
  show BitVec.ofInt 32 (max _ (min _ (if (0 : ℝ) ≤ (k : ℝ) then ⌊(k : ℝ)⌋ else ⌈(k : ℝ)⌉))) = _
  rw [if_pos (Nat.cast_nonneg k), Int.floor_natCast, min_eq_right (by norm_num <;> omega), max_eq_right (by norm_num <;> omega), BitVec.ofInt_natCast]

theorem reaches_iff (k : ℕ) (hk : k ≤ 8192) : (256#32).sle (BitVec.ofNat 32 k) = true ↔ 256 ≤ k := by
  have h : (BitVec.ofNat 32 k).toInt = k := by rw [BitVec.toInt_ofNat', Int.bmod_eq_of_le (by omega) (by omega)]
  rw [BitVec.sle_eq_decide, decide_eq_true_iff, h]
  show (256 : ℤ) ≤ _ ↔ _
  omega

/-- One pass of the search, of one row. -/
theorem next_row (g : Vec Ideal S64x256x128 .f32) (n it : ℕ) (hn : n ≤ 64) (hit : it < 32) (s : St) (hs : s.1 = BitVec.ofNat 32 it)
    (r : Fin 256) (htop : ∀ x, rowOf g r x < ⊤) (h : Stands (rowOf g r) (128 * n) it (s.2.1 (ix2 r 0)) (s.2.2 (ix2 r 0))) :
    Stands (rowOf g r) (128 * n) (it + 1) ((nextOf g n s).2.1 (ix2 r 0)) ((nextOf g n s).2.2 (ix2 r 0)) := by
  have hstep := stands_step _ _ it _ _ hit htop h
  have hsh : Scalar.shli 1#32 (Scalar.subi 31#32 (BitVec.ofNat 32 it)) = BitVec.ofNat 32 (2 ^ (31 - it)) := by
    interval_cases it <;> decide
  unfold nextOf
  simp only
  rw [pay23_apply, pay24_apply, pay3_apply, hs, hsh]
  rw [total_apply g _ n hn r (s.2.1 (ix2 r 0) + BitVec.ofNat 32 (2 ^ (31 - it))) (fun l => by rw [pay4_apply, hsh])]
  have hle : cnt (rowOf g r) (128 * n) (s.2.1 (ix2 r 0) + BitVec.ofNat 32 (2 ^ (31 - it))) ≤ 8192 :=
    ((Finset.card_le_card (Finset.filter_subset _ _)).trans (Finset.card_range _).le).trans (by omega)
  simp only [reaches_iff _ hle]
  exact hstep

/-- Every row's search ends where it should. -/
theorem search_row (g : Vec Ideal S64x256x128 .f32) (n : ℕ) (hn : n ≤ 64) (htop : ∀ r x, rowOf g r x < ⊤) (m : ℕ) :
    ∀ s : St, m ≤ 32 → s.1 = BitVec.ofNat 32 (32 - m) →
      (∀ r : Fin 256, Stands (rowOf g r) (128 * n) (32 - m) (s.2.1 (ix2 r 0)) (s.2.2 (ix2 r 0))) →
      ∀ r : Fin 256, Found (rowOf g r) (128 * n) ((searchOf g n m s).2.1 (ix2 r 0)) := by
  induction m with
  | zero => intro s _ _ h r; exact stands_end _ _ _ _ (h r)
  | succ m ih =>
    intro s hm hs h r
    unfold searchOf
    split
    · next hg =>
      have e : 32 - m = 32 - (m + 1) + 1 := by omega
      refine ih _ (by omega) ?_ (fun r => ?_) r
      · show s.1 + 1#32 = _
        rw [hs, e, BitVec.ofNat_add]
      · rw [e]
        exact next_row g n _ hn (by omega) s hs r (htop r) (h r)
    · next hg =>
      have hlt : s.1.slt 32#32 = true := by
        rw [hs]
        have : ∀ k : Fin 32, (BitVec.ofNat 32 k.val).slt 32#32 = true := by decide
        exact this ⟨32 - (m + 1), by omega⟩
      have hfull := stop_full s.1 s.2.2 hlt hg r
      have := h r
      rw [hfull] at this
      exact stands_full _ _ _ (by omega) _ this

theorem threshold_row (i : grid0.Coords) (g : Vec Ideal S64x256x128 .f32) (htop : ∀ r x, rowOf g r x < ⊤) (r : Fin 256) :
    ∃ o, Found (rowOf g r) (128 * nblk i) o ∧ ∀ l : Fin 128, threshold i g (ix2 r l) = level o := by
  refine ⟨_, search_row g (nblk i) (nblk_le i) htop 32 (0#32, k0_pay246, k0_pay247) (le_refl _) rfl (fun r => ?_) r, fun l => ?_⟩
  · refine stands_init _ _ ?_
    unfold nblk; omega
  · unfold threshold
    pointwise [k0_pay249, k0_pay248]
    unfold level
    have hb : Ideal.ofBits .f32 4286578688#32 = ⊥ := ofBits_bot
    rw [← hb]
    exact pick_eq _ _ _

end Cert.KernelIdeal.Prompt

end
-- ==== Proof.ScoreRow.lean ====
/- A row's scores and a head's products, number by number. -/
module

public import proofs.«01_k».proof.Proof.SearchRow

@[expose] public section

set_option maxRecDepth 16384

noncomputable section

namespace Cert.KernelIdeal.Prompt

open Cert.KernelIdeal Cert.KernelIdeal.Gen
open Idealize.ShloMosaic Idealize.ShloMosaic.Tactic

theorem sle_words (a b : ℕ) (ha : a < 2 ^ 31) (hb : b < 2 ^ 31) :
    IntOp.cmpi .sle (BitVec.ofNat 32 a) (BitVec.ofNat 32 b) = BitVec.ofBool (decide (a ≤ b)) := by
  show BitVec.ofBool ((BitVec.ofNat 32 a).sle (BitVec.ofNat 32 b)) = _
  have h1 : (BitVec.ofNat 32 a).toInt = a := by rw [BitVec.toInt_ofNat', Int.bmod_eq_of_le (by omega) (by omega)]
  have h2 : (BitVec.ofNat 32 b).toInt = b := by rw [BitVec.toInt_ofNat', Int.bmod_eq_of_le (by omega) (by omega)]
  rw [BitVec.sle_eq_decide, h1, h2]
  congr 1
  simp

theorem ofBits_eq (n : ℕ) (h : n < 0x7F800000) (x : ℝ) (hx : units n * least = x) : Ideal.ofBits .f32 (BitVec.ofNat 32 n) = (x : EReal) := by
  rw [ieee_pos n h, hx]

theorem rowNumber (i : grid0.Coords) (r : Fin 256) : k0_pay219 i (ix2 r 0) = BitVec.ofNat 32 (256 * (i 0).val + r.val) := by
  have hi : (i 0).val < 32 := (i 0).isLt
  pointwise [k0_pay219]
  show BitVec.ofNat 32 (i 0).val * 256#32 + BitVec.ofNat 32 r.val = _
  rw [Nat.mul_comm, BitVec.ofNat_add, BitVec.ofNat_mul]

theorem weights_apply (x3 : Vec Ideal S256x128 .f32) (h : Fin 16) (r : Fin 256) (l : Fin 128) :
    weightsAt x3 (ix3 h r l) = x3 (ix2 r ⟨64 + h.val, by omega⟩) * ((2⁻¹ ^ 5 : ℝ) : EReal) := by
  pointwise [weightsAt, k0_pay220]
  rw [ofBits_eq 0x3D000000 (by decide) (2⁻¹ ^ 5) (by norm_num [units, least])]

theorem query_apply (x2 : Vec Ideal S256x1024 .bf16) (h : ℕ) (r : Fin 256) (d : Fin 64) :
    shapeCast S256x64 (View.ld x2 (Rect.unit (s := S256x1024) ![0, 64 * (h % 16)] S256x64.size (query_inb h))) shapeCasts_S256x64_S256x64 (ix2 r d)
      = x2 (ix2 r ⟨64 * (h % 16) + d.val, by omega⟩) := by
  rw [shapeCast_apply _ _ _ (ix2 r d) rfl]
  show x2 _ = x2 _
  congr 1
  funext a
  match a with
  | ⟨0, _⟩ => exact Fin.ext (by show 0 + 1 * r.val = r.val; omega)
  | ⟨1, _⟩ => exact Fin.ext (by show 64 * (h % 16) + 1 * d.val = 64 * (h % 16) + d.val; omega)

theorem lane_apply (x8 : Vec Ideal S16x256x128 .f32) (h : ℕ) (r : Fin 256) (l : Fin 128) :
    shapeCast S256x128 (View.ld x8 (Rect.unit (s := S16x256x128) ![h % 16, 0, 0] S1x256x128.size (weight_inb h))) shapeCasts_S1x256x128_S256x128 (ix2 r l)
      = x8 (ix3 ⟨h % 16, Nat.mod_lt _ (by decide)⟩ r l) := by
  refine (shapeCast_dropUnit_apply _ _ _ (ix2 r l)).trans ?_
  show x8 _ = x8 _
  congr 1
  funext a
  match a with
  | ⟨0, _⟩ => exact Fin.ext (by show h % 16 + 1 * 0 = h % 16; omega)
  | ⟨1, _⟩ => exact Fin.ext (by show 0 + 1 * r.val = r.val; omega)
  | ⟨2, _⟩ => exact Fin.ext (by show 0 + 1 * l.val = l.val; omega)

theorem keysAt_apply (x4 : Vec Ideal S8192x64 .bf16) (n : ℕ) (j : Fin 256) (d : Fin 64) :
    shapeCast S256x64 (keysAt x4 n) shapeCasts_S256x64_S256x64 (ix2 j d) = x4 (ix2 ⟨256 * (n % 32) + j.val, by omega⟩ d) := by
  rw [shapeCast_apply _ _ _ (ix2 j d) rfl]
  show x4 _ = x4 _
  congr 1
  funext a
  match a with
  | ⟨0, _⟩ => exact Fin.ext (by show 256 * (n % 32) + 1 * j.val = 256 * (n % 32) + j.val; omega)
  | ⟨1, _⟩ => exact Fin.ext (by show 0 + 1 * d.val = d.val; omega)

theorem headSum_apply (x2 : Vec Ideal S256x1024 .bf16) (x3 : Vec Ideal S256x128 .f32) (x4 : Vec Ideal S8192x64 .bf16) (n : ℕ)
    (r j : Fin 256) (m : ℕ) :
    headSum x2 (weightsAt x3) (keysAt x4 n) m (ix2 r j)
      = ∑ h ∈ Finset.range m, max (∑ d : Fin 64, x2 (ix2 r ⟨64 * (h % 16) + d.val, by omega⟩) * x4 (ix2 ⟨256 * (n % 32) + j.val, by omega⟩ d)) 0
          * (x3 (ix2 r ⟨64 + h % 16, by omega⟩) * ((2⁻¹ ^ 5 : ℝ) : EReal)) := by
  induction m with
  | zero => pointwise [headSum]; rfl
  | succ h ih =>
    rw [Finset.sum_range_succ]
    conv_lhs => unfold headSum
    generalize hq : shapeCast S256x64 (View.ld x2 (Rect.unit (s := S256x1024) ![0, 64 * (h % 16)] S256x64.size (query_inb h))) shapeCasts_S256x64_S256x64 = q
    generalize hk : shapeCast S256x64 (keysAt x4 n) shapeCasts_S256x64_S256x64 = k
    generalize hw : shapeCast S256x128 (View.ld (weightsAt x3) (Rect.unit (s := S16x256x128) ![h % 16, 0, 0] S1x256x128.size (weight_inb h))) shapeCasts_S1x256x128_S256x128 = w
    have eq : ∀ d : Fin 64, q (ix2 r d) = x2 (ix2 r ⟨64 * (h % 16) + d.val, by omega⟩) := fun d => by rw [← hq, query_apply]
    have ek : ∀ d : Fin 64, k (ix2 j d) = x4 (ix2 ⟨256 * (n % 32) + j.val, by omega⟩ d) := fun d => by rw [← hk, keysAt_apply]
    have ew : ∀ l : Fin 128, w (ix2 r l) = x3 (ix2 r ⟨64 + h % 16, by omega⟩) * ((2⁻¹ ^ 5 : ℝ) : EReal) := fun l => by
      rw [← hw, lane_apply, weights_apply]
    rw [← ih]
    generalize headSum x2 (weightsAt x3) (keysAt x4 n) h = A
    clear ih hq hk hw
    simp only [← eq, ← ek]
    pointwise
    congr 1
    split <;> rw [ew]

theorem chunk_apply (i : grid0.Coords) (x2 : Vec Ideal S256x1024 .bf16) (x8 : Vec Ideal S16x256x128 .f32) (kk : Vec Ideal S256x64 .bf16) (col : ℕ)
    (hcol : col < 8192) (r j : Fin 256) : chunk i x2 x8 kk (BitVec.ofNat 32 col) (ix2 r j)
      = if col + j.val ≤ 256 * (i 0).val + r.val then headSum x2 x8 kk 16 (ix2 r j) else ⊥ := by
  have hi : (i 0).val < 32 := (i 0).isLt
  unfold chunk
  generalize headSum x2 x8 kk 16 = A
  have := rowNumber i r
  generalize k0_pay219 i = R at *
  pointwise
  rw [this, show IntOp.addi (BitVec.ofNat 32 col) (BitVec.ofNat 32 j.val) = BitVec.ofNat 32 (col + j.val) from (BitVec.ofNat_add ..).symm,
    sle_words _ _ (by omega) (by omega), pick_eq, show Ideal.ofBits .f32 4286578688#32 = ⊥ from ofBits_bot]
  simp only [decide_eq_true_iff]
  have e : (if A (ix2 r j) = 0 then 0 else A (ix2 r j)) = A (ix2 r j) := by
    split
    · next h => exact h.symm
    · rfl
  rw [e]

/-- A query's score of a key, as the body sums it. -/
def kernScore (x2 : Vec Ideal S256x1024 .bf16) (x3 : Vec Ideal S256x128 .f32) (x4 : Vec Ideal S8192x64 .bf16) (r : Fin 256) (s : Fin 8192) : EReal :=
  ∑ h : Fin 16, max (∑ d : Fin 64, x2 (ix2 r ⟨64 * h.val + d.val, by omega⟩) * x4 (ix2 s d)) 0
    * (x3 (ix2 r ⟨64 + h.val, by omega⟩) * ((2⁻¹ ^ 5 : ℝ) : EReal))

theorem scoreAt_apply (i : grid0.Coords) (x2 : Vec Ideal S256x1024 .bf16) (x3 : Vec Ideal S256x128 .f32) (x4 : Vec Ideal S8192x64 .bf16)
    (b : Fin 64) (r : Fin 256) (l : Fin 128) : scoreAt i x2 x4 (weightsAt x3) (ix3 b r l)
      = if 128 * b.val + l.val ≤ 256 * (i 0).val + r.val then kernScore x2 x3 x4 r ⟨128 * b.val + l.val, by omega⟩ else ⊥ := by
  show chunk i x2 (weightsAt x3) (keysAt x4 (b.val / 2)) (BitVec.ofNat 32 (256 * (b.val / 2)))
    (ix2 r ⟨128 * (b.val % 2) + l.val, by omega⟩) = _
  rw [chunk_apply i x2 _ _ _ (by omega), headSum_apply, Finset.sum_range]
  have e : 256 * (b.val / 2) + (128 * (b.val % 2) + l.val) = 128 * b.val + l.val := by omega
  have e1 : ∀ h : Fin 16, h.val % 16 = h.val := fun h => Nat.mod_eq_of_lt h.isLt
  have e2 : 256 * (b.val / 2 % 32) + (128 * (b.val % 2) + l.val) = 128 * b.val + l.val := by omega
  simp only [e, e1, e2]
  rfl

theorem rowOf_score (i : grid0.Coords) (x2 : Vec Ideal S256x1024 .bf16) (x3 : Vec Ideal S256x128 .f32) (x4 : Vec Ideal S8192x64 .bf16)
    (r : Fin 256) (s : Fin 8192) : rowOf (scoreAt i x2 x4 (weightsAt x3)) r s.val
      = if s.val ≤ 256 * (i 0).val + r.val then kernScore x2 x3 x4 r s else ⊥ := by
  unfold rowOf
  rw [scoreAt_apply]
  have e : 128 * (s.val / 128 % 64) + s.val % 128 = s.val := by omega
  simp only [e]

end Cert.KernelIdeal.Prompt

end
-- ==== Proof.RefRow.lean ====
/- The reference, number by number: a row's scores, its best keys, and the softmax over them. -/
module

public import proofs.«01_k».proof.Proof.TopK
public import proofs.«01_k».proof.Proof.ScoreRow

@[expose] public section

set_option maxRecDepth 16384

noncomputable section

namespace Cert.Prompt

open Cert.ReferenceIdeal Cert.ReferenceIdeal.Gen
open Cert.KernelIdeal.Prompt (ofBits_bot ofBits_eq pick_eq sle_words sel list_softmax coe_sum' units least)
open Idealize.ShloMosaic Idealize.ShloMosaic.Tactic

/-- The indexer's scores, a key after its query left out. -/
def scores (qi : FVec Ideal S8192x16x64 .f32) (ki : FVec Ideal S8192x64 .f32) (wi : FVec Ideal S8192x16 .f32) : FVec Ideal S8192x8192 .f32 :=
  select (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
    (mulf (Host.dotGeneral dot_S8192x16x8192_S8192x16_S8192x8192_1_1_2_n_0_0 none
        (maximumf (mulf (Host.dotGeneral dot_S8192x16x64_S8192x64_S8192x16x8192_2_1_01_0_n_n none qi ki)
          (broadcastInDim S8192x16x8192 ![] bcast_S_S8192x16x8192 (constant S_ .f32 0x3E000000#32)))
          (broadcastInDim S8192x16x8192 ![] bcast_S_S8192x16x8192 (constant S_ .f32 0x00000000#32))) wi)
      (broadcastInDim S8192x8192 ![] bcast_S_S8192x8192 (constant S_ .f32 0x3E800000#32)))
    (broadcastInDim S8192x8192 ![] bcast_S_S8192x8192 (id (constant S_ .f32 0xFF800000#32)))

/-- The best keys' numbers, row by row. -/
def best (sc : FVec Ideal S8192x8192 .f32) : IVec S8192x256 32 :=
  (Host.topK S8192x256 1 (FloatOps.cmpfTotal (F := Ideal) (φ := .f32) .gt) sc sliceFits_S8192x8192_S8192x256).2

/-- The same numbers as the rows to gather. -/
def rowsOf (tk : IVec S8192x256 32) : IVec S8192x256x1 32 :=
  broadcastInDim S8192x256x1 ![0, 1] bcast_S8192x256_S8192x256x1_0_1
    (select (cmpi .slt tk (broadcastInDim S8192x256 ![] bcast_S_S8192x256 (constantI S_ 32 0#32)))
      (addi tk (broadcastInDim S8192x256 ![] bcast_S_S8192x256 (constantI S_ 32 8192#32))) tk)

/-- The gathered rows of an array. -/
def gathered (a : FVec Ideal S8192x8x128 .f32) (w : IVec S8192x256x1 32) : FVec Ideal S8192x256x8x128 .f32 :=
  Host.gather gather_S8192x8x128_S8192x256x1_S8192x256x8x128_23_0_n_n_0_2_18128 a w

/-- The attention's logits, a key after its query left out. -/
def logits (q : FVec Ideal S8192x8x128 .f32) (kk : FVec Ideal S8192x256x8x128 .f32) (tk : IVec S8192x256 32) : FVec Ideal S8192x8x256 .f32 :=
  select (broadcastInDim S8192x8x256 ![0, 1, 2] bcast_S8192x1x256_S8192x8x256_0_1_2 (broadcastInDim S8192x1x256 ![0, 2] bcast_S8192x256_S8192x1x256_0_2
      (cmpi .sle tk (broadcastInDim S8192x256 ![0, 1] bcast_S8192x1_S8192x256_0_1 (broadcastInDim S8192x1 ![0] bcast_S8192_S8192x1_0 (iotaInDim S8192 32 0))))))
    (mulf (Host.dotGeneral dot_S8192x8x128_S8192x256x8x128_S8192x8x256_2_3_n_1_01_02 none q kk)
      (broadcastInDim S8192x8x256 ![] bcast_S_S8192x8x256 (Host.divf (constant S_ .f32 0x3F800000#32) (Host.sqrt (constant S_ .f32 0x43000000#32)))))
    (broadcastInDim S8192x8x256 ![] bcast_S_S8192x8x256 (id (constant S_ .f32 0xFF800000#32)))

/-- A row's greatest logit. -/
def greatest (lo : FVec Ideal S8192x8x256 .f32) : FVec Ideal S8192x8 .f32 :=
  Host.reduce FloatOps.maximumf lo (constant S_ .f32 0xFF800000#32) reducesTo_S8192x8x256_S8192x8_d2 h_S_

/-- The exponentials of the logits less their row's greatest. -/
def exps (lo : FVec Ideal S8192x8x256 .f32) (top : FVec Ideal S8192x8 .f32) : FVec Ideal S8192x8x256 .f32 :=
  Host.exp (subf lo (broadcastInDim S8192x8x256 ![0, 1, 2] bcast_S8192x8x1_S8192x8x256_0_1_2 (broadcastInDim S8192x8x1 ![0, 1] bcast_S8192x8_S8192x8x1_0_1
    (maximumf (broadcastInDim S8192x8 ![] bcast_S_S8192x8 (constant S_ .f32 0xFF800000#32)) top))))

/-- The softmax's numerators. -/
def weights (lo : FVec Ideal S8192x8x256 .f32) : FVec Ideal S8192x8x256 .f32 := exps lo (greatest lo)

/-- The weighted sum of the gathered values, heads side by side. -/
def weighted (e : FVec Ideal S8192x8x256 .f32) (vv : FVec Ideal S8192x256x8x128 .f32) : FVec Ideal S8192x1024 .bf16 :=
  truncf .bf16 (shapeCast S8192x1024 (Host.dotGeneral dot_S8192x8x256_S8192x256x8x128_S8192x8x128_2_1_n_3_01_02 none
    (Host.divf e (broadcastInDim S8192x8x256 ![0, 1, 2] bcast_S8192x8x1_S8192x8x256_0_1_2 (broadcastInDim S8192x8x1 ![0, 1] bcast_S8192x8_S8192x8x1_0_1
      (Host.reduceAdd e (constant S_ .f32 0x00000000#32) reducesTo_S8192x8x256_S8192x8_d2 h_S_)))) vv) shapeCasts_S8192x8x128_S8192x1024) bitsLt_bf16_f32

/-- The reference's result from its arguments. -/
def attention (q k v : FVec Ideal S8192x8x128 .f32) (qi : FVec Ideal S8192x16x64 .f32) (ki : FVec Ideal S8192x64 .f32) (wi : FVec Ideal S8192x16 .f32) :
    FVec Ideal S8192x1024 .bf16 :=
  weighted (weights (logits q (gathered k (rowsOf (best (scores qi ki wi)))) (best (scores qi ki wi)))) (gathered v (rowsOf (best (scores qi ki wi))))

theorem result_eq (m : (ℓ : Loc nD τ sig) → Buf (Elt Ideal) ℓ) (c : Dev nD) : Cert.ReferenceIdeal.Value.res_main_v52 m c
    = attention (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Cert.ReferenceIdeal.Value.res_main_v52 attention weighted weights exps greatest logits gathered rowsOf best scores
  rfl

theorem scores_apply (qi : FVec Ideal S8192x16x64 .f32) (ki : FVec Ideal S8192x64 .f32) (wi : FVec Ideal S8192x16 .f32) (t s : Fin 8192) :
    scores qi ki wi (ix2 t s) = if s.val ≤ t.val then
      (∑ h : Fin 16, max ((∑ d : Fin 64, qi (ix3 t h d) * ki (ix2 s d)) * ((2⁻¹ ^ 3 : ℝ) : EReal)) 0 * wi (ix2 t h)) * ((2⁻¹ ^ 2 : ℝ) : EReal) else ⊥ := by
  pointwise [scores]
  rw [sle_words _ _ (by omega) (by omega), pick_eq, show (id (constant (F := Ideal) S_ .f32 4286578688#32) ix0 : Ideal .f32) = (⊥ : EReal) from ofBits_bot,
    ofBits_eq 0x3E000000 (by decide) (2⁻¹ ^ 3) (by norm_num [units, least]), ofBits_eq 0x3E800000 (by decide) (2⁻¹ ^ 2) (by norm_num [units, least])]
  simp only [decide_eq_true_iff]

theorem rowsOf_apply (tk : IVec S8192x256 32) (t : Fin 8192) (j : Fin 256) (k : Fin 8192) (hk : tk (ix2 t j) = BitVec.ofNat 32 k.val) :
    rowsOf tk (ix3 t j 0) = BitVec.ofNat 32 k.val := by
  pointwise [rowsOf]
  have hn : IntOp.cmpi .slt (BitVec.ofNat 32 k.val) 0#32 = BitVec.ofBool false := by
    show BitVec.ofBool ((BitVec.ofNat 32 k.val).slt 0#32) = _
    rw [BitVec.slt_eq_decide, BitVec.toInt_ofNat', Int.bmod_eq_of_le (by omega) (by omega)]
    congr 1
  rw [hk, hn, pick_eq]
  rfl

theorem logits_apply (q : FVec Ideal S8192x8x128 .f32) (kk : FVec Ideal S8192x256x8x128 .f32) (tk : IVec S8192x256 32) (t : Fin 8192) (h : Fin 8)
    (j : Fin 256) (k : Fin 8192) (hk : tk (ix2 t j) = BitVec.ofNat 32 k.val) : logits q kk tk (ix3 t h j) = if k.val ≤ t.val then
      (∑ d : Fin 128, q (ix3 t h d) * kk (ix4 t j h d)) * ((1 / √128 : ℝ) : EReal) else ⊥ := by
  pointwise [logits]
  rw [hk, sle_words _ _ (by omega) (by omega), pick_eq, show (id (constant (F := Ideal) S_ .f32 4286578688#32) ix0 : Ideal .f32) = (⊥ : EReal) from ofBits_bot,
    ofBits_eq 0x43000000 (by decide) 128 (by norm_num [units, least]), Ideal.sqrt_coe, if_neg (show ¬ (128 : ℝ) < 0 by norm_num),
    Ideal.div_coe (by positivity), one_mul]
  simp only [decide_eq_true_iff]

theorem rowMax_apply (op : EReal → EReal → EReal) [Std.Commutative op] [Std.Associative op] (hop : op = max) (lo : S8192x8x256.Idx → EReal)
    (b : S_.Idx → EReal) (t : Fin 8192) (h : Fin 8) : Host.reduce op lo b reducesTo_S8192x8x256_S8192x8_d2 h_S_ (ix2 t h)
      = Finset.univ.fold max (b ix0) fun j => lo (ix3 t h j) := by
  subst hop
  refine (Host.reduce_eq_fold _ _ _ _ _ _).trans ((Shape.ReducesTo.fold_fiber_r3_a2 (n0 := 8192) (n1 := 8) (n2 := 256)
    reducesTo_S8192x8x256_S8192x8_d2 (ix2 t h) max _ lo).trans ?_)
  rw [show Shape.Idx.first h_S_ = ix0 from funext fun a => a.elim0]
  refine Finset.fold_congr fun j _ => congrArg lo ?_
  funext a
  match a with
  | ⟨0, _⟩ => rfl
  | ⟨1, _⟩ => rfl
  | ⟨2, _⟩ => rfl

theorem greatest_apply (lo : FVec Ideal S8192x8x256 .f32) (t : Fin 8192) (h : Fin 8) :
    greatest lo (ix2 t h) = Finset.univ.fold max ⊥ fun j => lo (ix3 t h j) := by
  unfold greatest
  refine (rowMax_apply (FloatOps.maximumf (F := Ideal) (φ := .f32)) rfl lo (constant (F := Ideal) S_ .f32 0xFF800000#32) t h).trans ?_
  rw [show constant (F := Ideal) S_ .f32 4286578688#32 ix0 = (⊥ : EReal) from ofBits_bot]

theorem exps_apply (lo : FVec Ideal S8192x8x256 .f32) (top : FVec Ideal S8192x8 .f32) (t : Fin 8192) (h : Fin 8) (j : Fin 256) :
    exps lo top (ix3 t h j) = Ideal.exp (lo (ix3 t h j) - top (ix2 t h)) := by
  pointwise [exps]
  rw [show Ideal.ofBits .f32 4286578688#32 = ⊥ from ofBits_bot]
  rw [bot_sup_eq]

theorem weighted_apply (e : FVec Ideal S8192x8x256 .f32) (vv : FVec Ideal S8192x256x8x128 .f32) (t : Fin 8192) (h : Fin 8) (l : Fin 128) :
    weighted e vv (ix2 t ⟨128 * h.val + l.val, by omega⟩)
      = ∑ j, Ideal.div (e (ix3 t h j)) (∑ j, e (ix3 t h j)) * vv (ix4 t j h l) := by
  pointwise [weighted]

/-- Where row `t`'s `j`-th best key stands. -/
def bestKey (sc : FVec Ideal S8192x8192 .f32) (t : Fin 8192) (j : Fin 256) : Fin 8192 := place (fun s => sc (ix2 t s)) ⟨j.val, by omega⟩

theorem best_apply (sc : FVec Ideal S8192x8192 .f32) (t : Fin 8192) (j : Fin 256) : best sc (ix2 t j) = BitVec.ofNat 32 (bestKey sc t j).val :=
  topK_place 256 (by decide) sc sliceFits_S8192x8192_S8192x256 t j

theorem gathered_apply (a : FVec Ideal S8192x8x128 .f32) (sc : FVec Ideal S8192x8192 .f32) (t : Fin 8192) (j : Fin 256) (h : Fin 8) (d : Fin 128) :
    gathered a (rowsOf (best sc)) (ix4 t j h d) = a (ix3 (bestKey sc t j) h d) :=
  gather_row a _ t j h d _ (rowsOf_apply _ t j _ (best_apply sc t j))

/-- A row of the reference's result: the softmax over the causal ones among its best keys. -/
theorem attention_apply (aq ak av : FVec Ideal S8192x8x128 .f32) (qi : FVec Ideal S8192x16x64 .f32) (ki : FVec Ideal S8192x64 .f32) (wi : FVec Ideal S8192x16 .f32)
    (q k v : Fin 8192 → Fin 8 → Fin 128 → ℝ) (hq : ∀ t h d, aq (ix3 t h d) = (q t h d : EReal)) (hk : ∀ t h d, ak (ix3 t h d) = (k t h d : EReal))
    (hv : ∀ t h d, av (ix3 t h d) = (v t h d : EReal)) (t : Fin 8192) (h : Fin 8) (l : Fin 128)
    (hne : ∃ j, (bestKey (scores qi ki wi) t j).val ≤ t.val) :
    attention aq ak av qi ki wi (ix2 t ⟨128 * h.val + l.val, by omega⟩)
      = (((∑ j ∈ Finset.univ.filter fun j => (bestKey (scores qi ki wi) t j).val ≤ t.val,
            Real.exp ((∑ d, q t h d * k (bestKey (scores qi ki wi) t j) h d) * (1 / √128)) * v (bestKey (scores qi ki wi) t j) h l)
          / ∑ j ∈ Finset.univ.filter fun j => (bestKey (scores qi ki wi) t j).val ≤ t.val,
            Real.exp ((∑ d, q t h d * k (bestKey (scores qi ki wi) t j) h d) * (1 / √128)) : ℝ) : EReal) := by
  unfold attention
  obtain ⟨sc, hsc⟩ : ∃ sc, sc = scores qi ki wi := ⟨_, rfl⟩
  rw [← hsc] at hne ⊢
  rw [weighted_apply]
  have hlog : ∀ j : Fin 256, logits aq (gathered ak (rowsOf (best sc))) (best sc) (ix3 t h j)
      = sel ((bestKey sc t j).val ≤ t.val) ((∑ d, q t h d * k (bestKey sc t j) h d) * (1 / √128)) := fun j => by
    rw [logits_apply _ _ _ _ _ _ _ (best_apply sc t j)]
    simp only [gathered_apply, hq, hk]
    unfold sel
    rw [EReal.coe_mul, ← coe_sum']
    simp only [EReal.coe_mul]
  have hw : ∀ j : Fin 256, weights (logits aq (gathered ak (rowsOf (best sc))) (best sc)) (ix3 t h j)
      = Ideal.exp (sel ((bestKey sc t j).val ≤ t.val) ((∑ d, q t h d * k (bestKey sc t j) h d) * (1 / √128))
        - Finset.univ.fold max ⊥ fun j => sel ((bestKey sc t j).val ≤ t.val) ((∑ d, q t h d * k (bestKey sc t j) h d) * (1 / √128))) := fun j => by
    unfold weights
    rw [exps_apply, greatest_apply]
    simp only [hlog]
  simp only [hw, gathered_apply, hv]
  exact list_softmax _ _ _ hne _ rfl

end Cert.Prompt

end
-- ==== Proof.Apart.lean ====
/- What the precondition says: the six inputs are numbers, and in a row of more than 256 keys the 256th score stands clear of the next. -/
module

public import proofs.«01_k».proof.Proof.RefRow
public import proofs.«01_k».proof.Proof.Gen.Pre_separated
public import Idealize.ShloMosaic.Lib.ReduceAll

@[expose] public section

set_option maxRecDepth 16384

noncomputable section

namespace Cert.Prompt

open Cert.Pre_separated Cert.Pre_separated.Gen
open Cert.KernelIdeal.Prompt (ofBits_top ofBits_eq units least)
open Idealize.ShloMosaic Idealize.ShloMosaic.Tactic

instance : Subsingleton (Cert.Pre_separated.S_).Idx := ⟨fun _ _ => funext fun a => a.elim0⟩

/-- An extended real under `⊤` in size is a number. -/
theorem number_of_abs {x : EReal} (h : max x (-x) < ⊤) : ∃ r : ℝ, x = r := by
  induction x with
  | bot => simp at h
  | top => simp at h
  | coe r => exact ⟨r, rfl⟩

/-- A test that came out one holds. -/
theorem of_test {p : Prop} [Decidable p] (h : BitVec.ofBool (decide p) = 1#1) : p := by
  by_contra hp
  rw [decide_eq_false hp] at h
  exact absurd h (by decide)

/-- The precondition's test of one input. -/
theorem finite_of_test {s u : Shape} {axes : List (Fin s.rank)} (x : FVec Ideal s .f32) (hb : (Cert.Pre_separated.S_).BroadcastsInDim s ![])
    (hr : s.ReducesTo axes Cert.Pre_separated.S_) (hu : 0 < u.numel) (init : IVec u 1)
    (h : Host.reduce IntOp.andi (cmpf .olt (Host.absf x) (broadcastInDim s ![] hb (constant Cert.Pre_separated.S_ .f32 0x7F800000#32))) init hr hu ix0 = 1#1)
    (i : s.Idx) : ∃ r : ℝ, x i = r := by
  have e := Host.reduce_andi_all _ _ _ _ _ h i
  refine number_of_abs ?_
  have e' : BitVec.ofBool (decide (max (x i) (-(x i)) < Ideal.ofBits .f32 0x7F800000#32)) = 1#1 := e
  have := of_test e'
  exact lt_of_lt_of_le this le_top

/-- Column `j` of the best scores, its first rows left out. -/
def column (sc : FVec Ideal Cert.Pre_separated.S8192x8192 .f32) : FVec Ideal Cert.Pre_separated.S7936x2 .f32 :=
  extractStridedSlice Cert.Pre_separated.S7936x2 ![256, 255]
    (Host.topK Cert.Pre_separated.S8192x257 1 (FloatOps.cmpfTotal (F := Ideal) (φ := .f32) .gt) sc sliceFits_S8192x8192_S8192x257).1
    slices_S8192x257_S7936x2_256_255

def kept (sc : FVec Ideal Cert.Pre_separated.S8192x8192 .f32) : FVec Ideal Cert.Pre_separated.S7936 .f32 :=
  shapeCast Cert.Pre_separated.S7936 (extractStridedSlice Cert.Pre_separated.S7936x1 ![0, 0] (column sc) slices_S7936x2_S7936x1_0_0) shapeCasts_S7936x1_S7936

def left (sc : FVec Ideal Cert.Pre_separated.S8192x8192 .f32) : FVec Ideal Cert.Pre_separated.S7936 .f32 :=
  shapeCast Cert.Pre_separated.S7936 (extractStridedSlice Cert.Pre_separated.S7936x1 ![0, 1] (column sc) slices_S7936x2_S7936x1_0_1) shapeCasts_S7936x1_S7936

theorem kept_apply (sc : FVec Ideal Cert.Pre_separated.S8192x8192 .f32) (p : Fin 7936) (t : Fin 8192) (ht : t.val = 256 + p.val) :
    kept sc (ix1 p) = sc (ix2 t (place (fun s => sc (ix2 t s)) 255)) := by
  have ht' : t = ⟨256 + p.val, by omega⟩ := Fin.ext ht
  rw [show (255 : Fin 8192) = ⟨(⟨255, by norm_num⟩ : Fin 257).val, by norm_num⟩ from rfl,
    ← topK_value 257 (by norm_num) sc sliceFits_S8192x8192_S8192x257]
  unfold kept column
  obtain ⟨y, hy⟩ : ∃ y, y = (Host.topK Cert.Pre_separated.S8192x257 1 (FloatOps.cmpfTotal (F := Ideal) (φ := .f32) .gt) sc sliceFits_S8192x8192_S8192x257).1 :=
    ⟨_, rfl⟩
  rw [← hy]
  pointwise
  rw [ht']

theorem left_apply (sc : FVec Ideal Cert.Pre_separated.S8192x8192 .f32) (p : Fin 7936) (t : Fin 8192) (ht : t.val = 256 + p.val) :
    left sc (ix1 p) = sc (ix2 t (place (fun s => sc (ix2 t s)) 256)) := by
  have ht' : t = ⟨256 + p.val, by omega⟩ := Fin.ext ht
  rw [show (256 : Fin 8192) = ⟨(⟨256, by norm_num⟩ : Fin 257).val, by norm_num⟩ from rfl,
    ← topK_value 257 (by norm_num) sc sliceFits_S8192x8192_S8192x257]
  unfold left column
  obtain ⟨y, hy⟩ : ∃ y, y = (Host.topK Cert.Pre_separated.S8192x257 1 (FloatOps.cmpfTotal (F := Ideal) (φ := .f32) .gt) sc sliceFits_S8192x8192_S8192x257).1 :=
    ⟨_, rfl⟩
  rw [← hy]
  pointwise
  rw [ht']

/-- The precondition read: every input is an array of numbers, and the kept score stands clear of the one left out. -/
theorem separated_iff (q k v : FVec Ideal Cert.Pre_separated.S8192x8x128 .f32) (qi : FVec Ideal Cert.Pre_separated.S8192x16x64 .f32)
    (ki : FVec Ideal Cert.Pre_separated.S8192x64 .f32) (wi : FVec Ideal Cert.Pre_separated.S8192x16 .f32)
    (h : Cert.Pre_separated.fn (F := Ideal) q k v qi ki wi ix0 = 1#1) :
    (∀ i, ∃ r : ℝ, q i = r) ∧ (∀ i, ∃ r : ℝ, k i = r) ∧ (∀ i, ∃ r : ℝ, v i = r) ∧ (∀ i, ∃ r : ℝ, qi i = r) ∧ (∀ i, ∃ r : ℝ, ki i = r)
      ∧ (∀ i, ∃ r : ℝ, wi i = r)
      ∧ ∀ i, max (kept (scores qi ki wi) i) (-(kept (scores qi ki wi) i)) * Ideal.ofBits .f32 0x34800000#32 + Ideal.ofBits .f32 0x00800000#32
            ≤ kept (scores qi ki wi) i - left (scores qi ki wi) i
          ∧ max (kept (scores qi ki wi) i) (-(kept (scores qi ki wi) i)) ≤ Ideal.ofBits .f32 0x7F000000#32 := by
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  refine ⟨finite_of_test q _ _ _ _ h1, finite_of_test k _ _ _ _ h2, finite_of_test v _ _ _ _ h3, finite_of_test qi _ _ _ _ h4,
    finite_of_test ki _ _ _ _ h5, finite_of_test wi _ _ _ _ h6, fun i => ?_⟩
  obtain ⟨ha, hb⟩ := IntOp.andi_eq_one.1 (Host.reduce_andi_all _ _ _ _ _ h7 i)
  have ha' : BitVec.ofBool (decide (max (kept (scores qi ki wi) i) (-(kept (scores qi ki wi) i)) * Ideal.ofBits .f32 0x34800000#32
    + Ideal.ofBits .f32 0x00800000#32 ≤ kept (scores qi ki wi) i - left (scores qi ki wi) i)) = 1#1 := ha
  have hb' : BitVec.ofBool (decide (max (kept (scores qi ki wi) i) (-(kept (scores qi ki wi) i)) ≤ Ideal.ofBits .f32 0x7F000000#32)) = 1#1 := hb
  exact ⟨of_test ha', of_test hb'⟩

/-- The gap between two numbers, as the precondition writes it. -/
theorem clear_real (x y : EReal) (a b : ℝ) (hx : x = a) (hy : y = b)
    (h : max x (-x) * Ideal.ofBits .f32 0x34800000#32 + Ideal.ofBits .f32 0x00800000#32 ≤ x - y) (h' : max x (-x) ≤ Ideal.ofBits .f32 0x7F000000#32) :
    |a| * 2⁻¹ ^ 22 + 2 ^ (-126 : ℤ) ≤ a - b ∧ |a| ≤ 2 ^ 127 := by
  subst hx hy
  have hm : max (a : EReal) (-(a : EReal)) = ((|a| : ℝ) : EReal) := by
    rw [← EReal.coe_neg]
    exact (EReal.coe_strictMono.monotone.map_max (a := a) (b := -a)).symm
  have h1 := ofBits_eq 0x34800000 (by decide) (2⁻¹ ^ 22) (by norm_num [units, least])
  have h2 := ofBits_eq 0x00800000 (by decide) (2 ^ (-126 : ℤ)) (by norm_num [units, least])
  have h3 := ofBits_eq 0x7F000000 (by decide) (2 ^ 127) (by norm_num [units, least])
  rw [hm, h1, h2, ← EReal.coe_mul, ← EReal.coe_add, ← EReal.coe_sub] at h
  rw [hm, h3] at h'
  exact ⟨EReal.coe_le_coe_iff.1 h, EReal.coe_le_coe_iff.1 h'⟩

end Cert.Prompt

end
-- ==== Proof.AttRow.lean ====
/- The attention of one row and head, chunk by chunk. -/
module

public import proofs.«01_k».proof.Proof.ScoreRow

@[expose] public section

set_option maxRecDepth 16384

noncomputable section

namespace Cert.KernelIdeal.Prompt

open Cert.KernelIdeal Cert.KernelIdeal.Gen
open Idealize.ShloMosaic Idealize.ShloMosaic.Tactic

theorem trip_lt (i : grid0.Coords) (k : Fin (k0_t3_loop i).trips) : k.val < 32 := Nat.lt_of_lt_of_le k.isLt (k0_t3_abs i).2.1

theorem head_apply (x : Vec Ideal S8x256x128 .f32) (h : Fin 8) (r : Fin 256) (l : Fin 128) :
    View.ld x (headRect h) (ix3 0 r l) = x (ix3 h r l) := by
  show x _ = x _
  congr 1
  funext a
  match a with
  | ⟨0, _⟩ => exact Fin.ext (by show h.val + 1 * 0 = h.val; omega)
  | ⟨1, _⟩ => exact Fin.ext (by show 0 + 1 * r.val = r.val; omega)
  | ⟨2, _⟩ => exact Fin.ext (by show 0 + 1 * l.val = l.val; omega)

theorem headq_apply (x : Vec Ideal S8x256x128 .bf16) (h : Fin 8) (r : Fin 256) (l : Fin 128) :
    View.ld x (headRect h) (ix3 0 r l) = x (ix3 h r l) := by
  show x _ = x _
  congr 1
  funext a
  match a with
  | ⟨0, _⟩ => exact Fin.ext (by show h.val + 1 * 0 = h.val; omega)
  | ⟨1, _⟩ => exact Fin.ext (by show 0 + 1 * r.val = r.val; omega)
  | ⟨2, _⟩ => exact Fin.ext (by show 0 + 1 * l.val = l.val; omega)

theorem key_apply (i : grid0.Coords) (k : Fin (k0_t3_loop i).trips) (x : Vec Ideal S8x8192x128 .bf16) (h : Fin 8) (j : Fin 256) (l : Fin 128) :
    View.ld x (keyRect i k h) (ix3 0 j l) = x (ix3 h ⟨256 * k.val + j.val, by have := trip_lt i k; omega⟩ l) := by
  show x _ = x _
  congr 1
  have e := keyOff_eq i k h
  funext a
  match a with
  | ⟨0, _⟩ => exact Fin.ext (by show keyOff i k h 0 + 1 * 0 = h.val; rw [e]; show h.val + 1 * 0 = h.val; omega)
  | ⟨1, _⟩ => exact Fin.ext (by show keyOff i k h 1 + 1 * j.val = _; rw [e]; show 256 * k.val + 1 * j.val = 256 * k.val + j.val; omega)
  | ⟨2, _⟩ => exact Fin.ext (by show keyOff i k h 2 + 1 * l.val = l.val; rw [e]; show 0 + 1 * l.val = l.val; omega)

theorem scoreBlock_apply (i : grid0.Coords) (k : Fin (k0_t3_loop i).trips) (g : Vec Ideal S64x256x128 .f32) (b : Fin 2) (r : Fin 256) (l : Fin 128) :
    View.ld g (scoreRect i k b) (ix3 0 r l) = rowOf g r (256 * k.val + (128 * b.val + l.val)) := by
  have hk := trip_lt i k
  show g _ = g _
  congr 1
  have e := k0_off5_eq i k b
  funext a
  match a with
  | ⟨0, _⟩ => exact Fin.ext (by show k0_off5 i k (BitVec.ofNat 32 b.val) 0 + 1 * 0 = (256 * k.val + (128 * b.val + l.val)) / 128 % 64; rw [e]; show 2 * k.val + b.val + 1 * 0 = _; omega)
  | ⟨1, _⟩ => exact Fin.ext (by show k0_off5 i k (BitVec.ofNat 32 b.val) 1 + 1 * r.val = _; rw [e]; show 0 + 1 * r.val = r.val; omega)
  | ⟨2, _⟩ => exact Fin.ext (by show k0_off5 i k (BitVec.ofNat 32 b.val) 2 + 1 * l.val = (256 * k.val + (128 * b.val + l.val)) % 128; rw [e]; show 0 + 1 * l.val = _; omega)

theorem attDot_apply (i : grid0.Coords) (x1 : Vec Ideal S8x256x128 .bf16) (x5 : Vec Ideal S8x8192x128 .bf16) (k : Fin (k0_t3_loop i).trips)
    (h : Fin 8) (r j : Fin 256) : attDot i x1 x5 k h (ix2 r j)
      = ∑ d : Fin 128, x1 (ix3 h r d) * x5 (ix3 h ⟨256 * k.val + j.val, by have := trip_lt i k; omega⟩ d) := by
  unfold attDot
  simp only [← headq_apply x1 h, ← key_apply i k x5 h]
  generalize View.ld x1 (headRect h) = q
  generalize View.ld x5 (keyRect i k h) = w
  pointwise [k0_pay74]

theorem attBias_apply (i : grid0.Coords) (thr : Vec Ideal S256x128 .f32) (g : Vec Ideal S64x256x128 .f32) (k : Fin (k0_t3_loop i).trips)
    (r j : Fin 256) (θ : EReal) (hθ : ∀ l, thr (ix2 r l) = θ) :
    attBias i thr g k (ix2 r j) = if θ ≤ rowOf g r (256 * k.val + j.val) ∧ 256 * k.val + j.val ≤ 256 * (i 0).val + r.val then 0 else ⊥ := by
  have hi : (i 0).val < 32 := (i 0).isLt
  have hk := trip_lt i k
  have hn := rowNumber i r
  have h0 : ∀ l, View.ld g (scoreRect i k 0) (ix3 0 r l) = rowOf g r (256 * k.val + l.val) := fun l => by
    rw [scoreBlock_apply]; congr 1; simp
  have h1 : ∀ l, View.ld g (scoreRect i k 1) (ix3 0 r l) = rowOf g r (256 * k.val + (128 + l.val)) := fun l => by
    rw [scoreBlock_apply]; rfl
  unfold attBias
  generalize k0_pay219 i = R at *
  generalize View.ld g (scoreRect i k 0) = g0 at *
  generalize View.ld g (scoreRect i k 1) = g1 at *
  pointwise [k0_pay73]
  have hz : Scf.iv 0#32 1#32 k.val = BitVec.ofNat 32 k.val := by
    have : ∀ n : Fin 32, Scf.iv 0#32 1#32 n.val = BitVec.ofNat 32 n.val := by decide
    exact this ⟨k.val, hk⟩
  have hc : IntOp.addi (Scalar.muli (Scf.iv 0#32 1#32 k.val) 256#32) (BitVec.ofNat 32 j.val) = BitVec.ofNat 32 (256 * k.val + j.val) := by
    rw [hz]
    show BitVec.ofNat 32 k.val * 256#32 + BitVec.ofNat 32 j.val = _
    rw [Nat.mul_comm, BitVec.ofNat_add, BitVec.ofNat_mul]
  have hg : (if h : j.val < 128 then g0 (ix3 0 r ⟨j.val, h⟩) else g1 (ix3 0 r ⟨j.val - 128, by omega⟩)) = rowOf g r (256 * k.val + j.val) := by
    split
    · exact h0 _
    · rw [h1]; congr 1; simp only; omega
  have ht : (if h : j.val < 128 then thr (ix2 r ⟨j.val, h⟩) else thr (ix2 r ⟨j.val - 128, by omega⟩)) = θ := by
    split <;> exact hθ _
  rw [hn, hc, sle_words _ _ (by omega) (by omega)]
  simp only [hg, ht]
  by_cases ha : θ ≤ rowOf g r (256 * k.val + j.val) <;> by_cases hb : 256 * k.val + j.val ≤ 256 * (i 0).val + r.val <;> simp only [ha, hb] <;> rfl

theorem pay77_apply (D B : FVec Ideal S256x256 .f32) (m : Vec Ideal S1x256x128 .f32) (r : Fin 256) (l : Fin 128) :
    k0_pay77 D B m (ix2 r l) = max (m (ix3 0 r l)) (Finset.univ.fold max ⊥ fun j : Fin 256 => D (ix2 r j) + B (ix2 r j)) := by
  pointwise [k0_pay77, k0_pay76, k0_pay75]
  rw [show Ideal.ofBits .f32 4286578688#32 = ⊥ from ofBits_bot]

theorem sum_halves (f : Fin 256 → EReal) :
    (∑ x : Fin 128, f ⟨x.val, by omega⟩) + (∑ x : Fin 128, f ⟨128 + x.val, by omega⟩) = ∑ j, f j :=
  (Fin.sum_univ_add (a := 128) (b := 128) f).symm

theorem pay80_apply (D B : FVec Ideal S256x256 .f32) (m : Vec Ideal S1x256x128 .f32) (L : Vec Ideal S1x256x128 .f32) (r : Fin 256) (l : Fin 128)
    (m0 m' : EReal) (hm : ∀ l, m (ix3 0 r l) = m0) (hm' : ∀ l, k0_pay77 D B m (ix2 r l) = m') :
    k0_pay80 D B m L (ix3 0 r l) = Ideal.exp2 (m0 - m') * L (ix3 0 r l) + ∑ j : Fin 256, Ideal.exp2 (D (ix2 r j) + B (ix2 r j) - m') := by
  rw [← sum_halves]
  pointwise [k0_pay80, k0_pay79, k0_pay78, k0_pay76, k0_pay75]
  simp only [hm, hm']
  rfl

theorem pay81_apply (D B : FVec Ideal S256x256 .f32) (m : Vec Ideal S1x256x128 .f32) (A : Vec Ideal S1x256x128 .f32) (V : Vec Ideal S1x256x128 .bf16)
    (r : Fin 256) (l : Fin 128)
    (m0 m' : EReal) (hm : ∀ l, m (ix3 0 r l) = m0) (hm' : ∀ l, k0_pay77 D B m (ix2 r l) = m') :
    k0_pay81 D B m A V (ix3 0 r l) = Ideal.exp2 (m0 - m') * A (ix3 0 r l)
      + ∑ j : Fin 256, Ideal.exp2 (D (ix2 r j) + B (ix2 r j) - m') * V (ix3 0 j l) := by
  rw [← sum_halves]
  pointwise [k0_pay81, k0_pay79, k0_pay78, k0_pay76, k0_pay75]
  simp only [hm, hm']
  rfl

theorem pay82_apply (P : FVec Ideal S256x128 .f32) (r : Fin 256) (l : Fin 128) : k0_pay82 P (ix3 0 r l) = P (ix2 r l) := by
  pointwise [k0_pay82]

/-- The running sums of a row and head after `n` chunks. -/
theorem att_row (i : grid0.Coords) (x1 : Vec Ideal S8x256x128 .bf16) (x5 x6 : Vec Ideal S8x8192x128 .bf16) (thr : Vec Ideal S256x128 .f32)
    (g : Vec Ideal S64x256x128 .f32) (h : Fin 8) (r : Fin 256) (θ : EReal) (hθ : ∀ l, thr (ix2 r l) = θ)
    (x : ℕ → ℝ) (v : Fin 128 → ℕ → ℝ)
    (hx : ∀ s : Fin 8192, ∑ d : Fin 128, x1 (ix3 h r d) * x5 (ix3 h s d) = ((x s.val : ℝ) : EReal))
    (hv : ∀ (l : Fin 128) (s : Fin 8192), x6 (ix3 h s l) = ((v l s.val : ℝ) : EReal))
    (S : ℕ → Prop) [DecidablePred S] (hS : ∀ s, S s ↔ θ ≤ rowOf g r s ∧ s ≤ 256 * (i 0).val + r.val)
    (n : ℕ) (hn : n ≤ (k0_t3_loop i).trips) :
    ∃ m, ∀ l, (att i x1 x5 x6 thr g n).1 (ix3 h r l) = m ∧
      Sums (picked S n) x (v l) m ((att i x1 x5 x6 thr g n).2.1 (ix3 h r l)) ((att i x1 x5 x6 thr g n).2.2 (ix3 h r l)) := by
  induction n with
  | zero =>
    refine ⟨⊥, fun l => ⟨?_, .inl ⟨rfl, rfl, ?_, ?_⟩⟩⟩
    · show k0_pay250 (F := Ideal) (ix3 h r l) = ⊥
      pointwise [k0_pay250]
      rfl
    · show k0_pay251 (F := Ideal) (ix3 h r l) = 0
      pointwise [k0_pay251]
    · show k0_pay252 (F := Ideal) (ix3 h r l) = 0
      pointwise [k0_pay252]
  | succ n ih =>
    obtain ⟨m, hm⟩ := ih (by omega)
    have hk : n < (k0_t3_loop i).trips := by omega
    have hatt : att i x1 x5 x6 thr g (n + 1) = attStep i x1 x5 x6 thr g ⟨n, hk⟩ (att i x1 x5 x6 thr g n) := by
      conv_lhs => unfold att
      rw [dif_pos hk]
    rw [hatt]
    generalize att i x1 x5 x6 thr g n = s at hm ⊢
    have hs : ∀ j : Fin 256, attDot i x1 x5 ⟨n, hk⟩ h (ix2 r j) + attBias i thr g ⟨n, hk⟩ (ix2 r j)
        = sel (S (256 * n + j.val)) (x (256 * n + j.val)) := by
      intro j
      rw [attDot_apply, attBias_apply i thr g _ r j θ hθ, hx]
      by_cases hc : S (256 * n + j.val)
      · rw [if_pos ((hS _).1 hc), add_zero, sel, if_pos hc]
      · rw [if_neg (fun h => hc ((hS _).2 h)), sel, if_neg hc]; simp
    generalize hD : attDot i x1 x5 ⟨n, hk⟩ h = D at hs
    generalize hB : attBias i thr g ⟨n, hk⟩ = B at hs
    have hM : ∀ l, View.ld s.1 (headRect h) (ix3 0 r l) = m := fun l => by rw [head_apply, (hm l).1]
    have h77 : ∀ l, k0_pay77 D B (View.ld s.1 (headRect h)) (ix2 r l)
        = max m (Finset.univ.fold max ⊥ fun j : Fin 256 => sel (S (256 * n + j.val)) (x (256 * n + j.val))) := by
      intro l
      rw [pay77_apply, hM]
      simp only [hs]
    refine ⟨max m (Finset.univ.fold max ⊥ fun j : Fin 256 => sel (S (256 * n + j.val)) (x (256 * n + j.val))), fun l => ⟨?_, ?_⟩⟩
    · show k0_pay82 (k0_pay77 (attDot i x1 x5 ⟨n, hk⟩ h) (attBias i thr g ⟨n, hk⟩) (View.ld s.1 (headRect h))) (ix3 0 r l) = _
      rw [hD, hB, pay82_apply, h77]
    · have e1 : (attStep i x1 x5 x6 thr g ⟨n, hk⟩ s).2.1 (ix3 h r l)
          = k0_pay80 D B (View.ld s.1 (headRect h)) (View.ld s.2.1 (headRect h)) (ix3 0 r l) := by rw [← hD, ← hB]; rfl
      have e2 : (attStep i x1 x5 x6 thr g ⟨n, hk⟩ s).2.2 (ix3 h r l)
          = k0_pay81 D B (View.ld s.1 (headRect h)) (View.ld s.2.2 (headRect h)) (View.ld x6 (keyRect i ⟨n, hk⟩ h)) (ix3 0 r l) := by
        rw [← hD, ← hB]; rfl
      rw [e1, e2, pay80_apply D B _ _ r l m _ hM h77, pay81_apply D B _ _ _ r l m _ hM h77, head_apply, head_apply]
      have hvv : ∀ j : Fin 256, View.ld x6 (keyRect i ⟨n, hk⟩ h) (ix3 0 j l) = ((v l (256 * n + j.val) : ℝ) : EReal) := fun j =>
        (key_apply i ⟨n, hk⟩ x6 h j l).trans (hv l _)
      generalize View.ld x6 (keyRect i ⟨n, hk⟩ h) = V at hvv ⊢
      simp only [hs, hvv]
      exact sums_step S n x (v l) m _ _ _ (hm l).2 rfl

/-- The result's row, a head's block of it. -/
theorem out_apply (s : Att Ideal) (h : Fin 8) (r : Fin 256) (l : Fin 128) :
    outOf s (ix2 r ⟨128 * h.val + l.val, by omega⟩) = Ideal.div (s.2.2 (ix3 h r l)) (s.2.1 (ix3 h r l)) := by
  have e1 : (⟨(128 * h.val + l.val) / 128, by omega⟩ : Fin 8) = h := Fin.ext (by simp only; omega)
  have e2 : (⟨(128 * h.val + l.val) % 128, by omega⟩ : Fin 128) = l := Fin.ext (by simp only; omega)
  rw [← head_apply s.2.2 h, ← head_apply s.2.1 h]
  show k0_pay1 (View.ld s.2.2 (headRect ⟨(128 * h.val + l.val) / 128, by omega⟩)) (View.ld s.2.1 (headRect ⟨(128 * h.val + l.val) / 128, by omega⟩))
    (ix2 r ⟨(128 * h.val + l.val) % 128, by omega⟩) = _
  rw [e1, e2]
  generalize View.ld s.2.2 (headRect h) = A
  generalize View.ld s.2.1 (headRect h) = L
  pointwise [k0_pay1]

end Cert.KernelIdeal.Prompt

end
-- ==== Proof.RowValue.lean ====
/- One row of the kernel's result: the softmax over the same keys the reference takes. -/
module

public import proofs.«01_k».proof.Proof.RefRow
public import proofs.«01_k».proof.Proof.Bisect
public import proofs.«01_k».proof.Proof.AttRow

@[expose] public section

set_option maxRecDepth 16384

noncomputable section

namespace Cert.KernelIdeal.Prompt

open Cert.KernelIdeal Cert.KernelIdeal.Gen
open Cert.Prompt (place place_inj place_sur place_anti bestKey)
open Idealize.ShloMosaic Idealize.ShloMosaic.Tactic

/-- Some best key is not after its query. -/
theorem best_causal (sc : FVec Ideal Cert.ReferenceIdeal.S8192x8192 .f32) (t : Fin 8192) (hreal : ∀ s : Fin 8192, s.val ≤ t.val → ∃ a : ℝ, sc (ix2 t s) = a)
    (hbot : ∀ s : Fin 8192, t.val < s.val → sc (ix2 t s) = ⊥) : ∃ j, (bestKey sc t j).val ≤ t.val := by
  refine ⟨0, not_lt.1 fun hlt => ?_⟩
  have hz : sc (ix2 t (bestKey sc t 0)) = ⊥ := hbot _ hlt
  obtain ⟨k, hk⟩ := place_sur (fun s => sc (ix2 t s)) 0
  obtain ⟨a, ha⟩ := hreal 0 (Nat.zero_le _)
  rcases Nat.eq_zero_or_pos k.val with h0 | h0
  · have e : bestKey sc t 0 = 0 := by
      have ek : (⟨(0 : Fin 256).val, by norm_num⟩ : Fin 8192) = k := Fin.ext h0.symm
      show place (fun s => sc (ix2 t s)) ⟨(0 : Fin 256).val, _⟩ = 0
      rw [ek]
      exact hk
    rw [e] at hlt
    exact absurd hlt (Nat.not_lt_zero _)
  · have := place_anti (fun s => sc (ix2 t s)) ⟨(0 : Fin 256).val, by norm_num⟩ k h0
    rw [hk] at this
    have h2 : sc (ix2 t 0) ≤ sc (ix2 t (bestKey sc t 0)) := this
    rw [hz, ha] at h2
    exact absurd h2 (not_le.2 (EReal.bot_lt_coe a))

/-- The keys whose score reaches the threshold the search ends at are the best keys. -/
theorem chosen_iff (i : grid0.Coords) (g : Vec Ideal S64x256x128 .f32) (r : Fin 256) (t : Fin 8192) (ht : t.val = 256 * (i 0).val + r.val)
    (sc : FVec Ideal Cert.ReferenceIdeal.S8192x8192 .f32) (hg : ∀ s : Fin 8192, rowOf g r s.val = sc (ix2 t s))
    (hreal : ∀ s : Fin 8192, s.val ≤ t.val → ∃ a : ℝ, sc (ix2 t s) = a) (hbot : ∀ s : Fin 8192, t.val < s.val → sc (ix2 t s) = ⊥)
    (htop : ∀ r x, rowOf g r x < ⊤)
    (hsep : 256 ≤ t.val → ∃ a b : ℝ, sc (ix2 t (place (fun s => sc (ix2 t s)) 255)) = a ∧ sc (ix2 t (place (fun s => sc (ix2 t s)) 256)) = b
      ∧ |a| * 2⁻¹ ^ 22 + 2 ^ (-126 : ℤ) ≤ a - b ∧ |a| ≤ 2 ^ 127) :
    ∃ θ : EReal, (∀ l, threshold i g (ix2 r l) = θ) ∧
      ∀ s : ℕ, (∃ j : Fin 256, (bestKey sc t j).val ≤ t.val ∧ (bestKey sc t j).val = s) ↔ θ ≤ rowOf g r s ∧ s ≤ 256 * (i 0).val + r.val := by
  obtain ⟨o, hf, hl⟩ := threshold_row i g htop r
  refine ⟨level o, hl, fun s => ?_⟩
  rw [← ht]
  have hN : t.val < 128 * nblk i := by unfold nblk; omega
  have hiff := fun hs => found_iff (rowOf g r) (128 * nblk i) t.val hN (by have := nblk_le i; omega) o hf
    (fun s h1 h2 => (hg ⟨s, h2⟩).trans (hbot ⟨s, h2⟩ h1))
    (fun s h1 => by
      obtain ⟨a, ha⟩ := hreal ⟨s, by omega⟩ h1
      rw [show rowOf g r s = _ from hg ⟨s, by omega⟩, ha]
      exact EReal.bot_lt_coe a)
    (place fun s => sc (ix2 t s)) (place_inj _) (place_sur _)
    (fun a b hab => by
      rw [hg, hg]
      exact place_anti (fun s => sc (ix2 t s)) a b hab)
    (fun h => by
      rw [hg, hg]
      exact hsep h) s hs
  constructor
  · rintro ⟨j, hj, rfl⟩
    exact ⟨(hiff hj).2 ⟨⟨j.val, by omega⟩, j.isLt, rfl⟩, hj⟩
  · rintro ⟨h1, h2⟩
    obtain ⟨j, hj, e⟩ := (hiff h2).1 h1
    have e' : (bestKey sc t ⟨j.val, hj⟩).val = s := e
    exact ⟨⟨j.val, hj⟩, by omega, e'⟩

/-- The sums over the chosen keys are the sums over the best keys not after the query. -/
theorem sum_chosen (sc : FVec Ideal Cert.ReferenceIdeal.S8192x8192 .f32) (t : Fin 8192) (n : ℕ) (hn : t.val < 256 * n)
    (S : ℕ → Prop) [DecidablePred S] (hS : ∀ s : ℕ, S s ↔ ∃ j : Fin 256, (bestKey sc t j).val ≤ t.val ∧ (bestKey sc t j).val = s) (f : ℕ → ℝ) :
    ∑ s ∈ picked S n, f s = ∑ j ∈ Finset.univ.filter (fun j : Fin 256 => (bestKey sc t j).val ≤ t.val), f (bestKey sc t j).val := by
  have e : picked S n = (Finset.univ.filter fun j : Fin 256 => (bestKey sc t j).val ≤ t.val).image fun j => (bestKey sc t j).val := by
    ext s
    simp only [picked, Finset.mem_filter, Finset.mem_range, Finset.mem_image, Finset.mem_univ, true_and, hS]
    constructor
    · rintro ⟨_, j, h1, h2⟩
      exact ⟨j, h1, h2⟩
    · rintro ⟨j, h1, h2⟩
      exact ⟨by omega, j, h1, h2⟩
  rw [e, Finset.sum_image]
  intro a _ b _ hab
  have := place_inj _ (Fin.ext hab)
  exact Fin.ext (Fin.mk.inj this)

/-- The kernel's row, lane by lane. -/
theorem prompt_row (i : grid0.Coords) (x1 : Vec Ideal S8x256x128 .bf16) (x2 : Vec Ideal S256x1024 .bf16) (x3 : Vec Ideal S256x128 .f32)
    (x4 : Vec Ideal S8192x64 .bf16) (x5 x6 : Vec Ideal S8x8192x128 .bf16)
    (r : Fin 256) (t : Fin 8192) (ht : t.val = 256 * (i 0).val + r.val)
    (sc : FVec Ideal Cert.ReferenceIdeal.S8192x8192 .f32) (hg : ∀ s : Fin 8192, rowOf (scoreAt i x2 x4 (weightsAt x3)) r s.val = sc (ix2 t s))
    (hreal : ∀ s : Fin 8192, s.val ≤ t.val → ∃ a : ℝ, sc (ix2 t s) = a) (hbot : ∀ s : Fin 8192, t.val < s.val → sc (ix2 t s) = ⊥)
    (htop : ∀ r x, rowOf (scoreAt i x2 x4 (weightsAt x3)) r x < ⊤)
    (hsep : 256 ≤ t.val → ∃ a b : ℝ, sc (ix2 t (place (fun s => sc (ix2 t s)) 255)) = a ∧ sc (ix2 t (place (fun s => sc (ix2 t s)) 256)) = b
      ∧ |a| * 2⁻¹ ^ 22 + 2 ^ (-126 : ℤ) ≤ a - b ∧ |a| ≤ 2 ^ 127)
    (h : Fin 8) (l : Fin 128) (q : Fin 128 → ℝ) (k v : Fin 8192 → Fin 128 → ℝ)
    (hq : ∀ d, x1 (ix3 h r d) = ((q d * (1 / (√128 * Real.log 2)) : ℝ) : EReal)) (hk : ∀ s d, x5 (ix3 h s d) = ((k s d : ℝ) : EReal))
    (hv : ∀ s d, x6 (ix3 h s d) = ((v s d : ℝ) : EReal)) :
    promptOut i x1 x2 x3 x4 x5 x6 (ix2 r ⟨128 * h.val + l.val, by omega⟩)
      = (((∑ j ∈ Finset.univ.filter fun j : Fin 256 => (bestKey sc t j).val ≤ t.val,
            Real.exp ((∑ d, q d * k (bestKey sc t j) d) * (1 / √128)) * v (bestKey sc t j) l)
          / ∑ j ∈ Finset.univ.filter fun j : Fin 256 => (bestKey sc t j).val ≤ t.val,
            Real.exp ((∑ d, q d * k (bestKey sc t j) d) * (1 / √128)) : ℝ) : EReal) := by
  obtain ⟨θ, hθ, hS⟩ := chosen_iff i _ r t ht sc hg hreal hbot htop hsep
  classical
  have hlog : Real.log 2 ≠ 0 := (Real.log_pos (by norm_num)).ne'
  let at' : ℕ → Fin 8192 := fun s => ⟨s % 8192, Nat.mod_lt _ (by norm_num)⟩
  have hat : ∀ s : Fin 8192, at' s.val = s := fun s => Fin.ext (Nat.mod_eq_of_lt s.isLt)
  obtain ⟨m, hm⟩ := att_row i x1 x5 x6 (threshold i (scoreAt i x2 x4 (weightsAt x3))) (scoreAt i x2 x4 (weightsAt x3)) h r θ hθ
    (fun s => (∑ d, q d * k (at' s) d) * (1 / (√128 * Real.log 2))) (fun l s => v (at' s) l)
    (fun s => by
      rw [hat, Finset.sum_mul, ← coe_sum']
      refine Finset.sum_congr rfl fun d _ => ?_
      rw [hq, hk, ← EReal.coe_mul]
      congr 1
      ring)
    (fun l s => by rw [hat]; exact hv s l)
    (fun s => ∃ j : Fin 256, (bestKey sc t j).val ≤ t.val ∧ (bestKey sc t j).val = s) hS ((i 0).val + 1) (le_of_eq (trips3 i).symm)
  have hlt : t.val < 256 * ((i 0).val + 1) := by omega
  obtain ⟨j, hj⟩ := best_causal sc t hreal hbot
  have hne : (picked (fun s => ∃ j : Fin 256, (bestKey sc t j).val ≤ t.val ∧ (bestKey sc t j).val = s) ((i 0).val + 1)).Nonempty :=
    ⟨(bestKey sc t j).val, Finset.mem_filter.2 ⟨Finset.mem_range.2 (by omega), j, hj, rfl⟩⟩
  have hexp : ∀ s, Real.exp (Real.log 2 * ((∑ d, q d * k s d) * (1 / (√128 * Real.log 2)))) = Real.exp ((∑ d, q d * k s d) * (1 / √128)) := by
    intro s
    congr 1
    field_simp
  show outOf _ _ = _
  rw [out_apply, sums_div _ _ _ _ _ _ hne (hm l).2, sum_chosen sc t _ hlt _ (fun _ => Iff.rfl), sum_chosen sc t _ hlt _ (fun _ => Iff.rfl)]
  simp only [hat, hexp]

end Cert.KernelIdeal.Prompt

end
-- ==== Proof.Blocks.lean ====
/- The kernel's blocks: what the host code leaves in the operands, block by block. -/
module

public import proofs.«01_k».proof.Proof.Frames
public import proofs.«01_k».proof.Proof.ScoreRow
public import Idealize.ShloMosaic.Lib.Pipeline.ValueKit

@[expose] public section

set_option maxRecDepth 16384

noncomputable section

namespace Cert.KernelIdeal.Prompt

open Cert.KernelIdeal Cert.KernelIdeal.Gen
open Idealize.ShloMosaic Idealize.ShloMosaic.Tactic

variable (m : (ℓ : Loc nD τ sig) → Buf (Elt Ideal) ℓ) (c : Dev nD)

/-- The softmax's scale in base two. -/
def scaleOf : FVec Ideal S_ .f32 := Host.divf (constant S_ .f32 0x3F800000#32) (mulf (Host.sqrt (constant S_ .f32 0x43000000#32)) (Host.log (constant S_ .f32 0x40000000#32)))

/-- The queries scaled, by head. -/
def queriesOf (q : FVec Ideal S8192x8x128 .f32) : FVec Ideal S8x8192x128 .bf16 := truncf .bf16 (transpose S8x8192x128 [1, 0, 2] (mulf q
  (broadcastInDim S8192x8x128 ![] bcast_S_S8192x8x128 scaleOf)) transposes_S8192x8x128_S8x8192x128_1_0_2) bitsLt_bf16_f32

/-- The keys or the values, by head. -/
def byHead (k : FVec Ideal S8192x8x128 .f32) : FVec Ideal S8x8192x128 .bf16 :=
  truncf .bf16 (transpose S8x8192x128 [1, 0, 2] k transposes_S8192x8x128_S8x8192x128_1_0_2) bitsLt_bf16_f32

/-- The indexer's queries, heads side by side. -/
def sideBySide (qi : FVec Ideal S8192x16x64 .f32) : FVec Ideal S8192x1024 .bf16 := truncf .bf16 (shapeCast S8192x1024 qi shapeCasts_S8192x16x64_S8192x1024) bitsLt_bf16_f32

/-- The indexer's keys beside its weights, the lanes after them filled. -/
def keysAndWeights (ki : FVec Ideal S8192x64 .f32) (wi : FVec Ideal S8192x16 .f32) : FVec Ideal S8192x128 .f32 :=
  pad S8192x128 ![0, 0] ![0, 48] ![0, 0] (concatenate S8192x80 1 [⟨S8192x64, ki⟩, ⟨S8192x16, wi⟩] concatenates_S8192x64_S8192x16_S8192x80_d1)
    (sitofp .f32 (constantI S_ 32 0#32)) pads_S8192x80_S8192x128_000_0480 h_S_

theorem V_queries : V m c main_v7 = queriesOf (m ((c.tc : Thread nD τ).loc main_arg0)) := by
  unfold V
  simp only [hostOps0, hostOps0_1, hostOps0_2, List.flatten_cons, List.flatten_nil, List.append_nil, List.cons_append, List.nil_append]
  after_results_simp <;> rfl

theorem V_indexer : V m c main_v11 = sideBySide (m ((c.tc : Thread nD τ).loc main_arg3)) := by
  unfold V
  simp only [hostOps0, hostOps0_1, hostOps0_2, List.flatten_cons, List.flatten_nil, List.append_nil, List.cons_append, List.nil_append]
  after_results_simp <;> rfl

theorem V_weights : V m c main_v9 = keysAndWeights (m ((c.tc : Thread nD τ).loc main_arg4)) (m ((c.tc : Thread nD τ).loc main_arg5)) := by
  unfold V
  simp only [hostOps0, hostOps0_1, hostOps0_2, List.flatten_cons, List.flatten_nil, List.append_nil, List.cons_append, List.nil_append]
  after_results_simp <;> rfl

theorem V_indexKeys : V m c main_v12 = truncf (F := Ideal) .bf16 (m ((c.tc : Thread nD τ).loc main_arg4)) bitsLt_bf16_f32 := by
  unfold V
  simp only [hostOps0, hostOps0_1, hostOps0_2, List.flatten_cons, List.flatten_nil, List.append_nil, List.cons_append, List.nil_append]
  after_results_simp <;> rfl

theorem V_keys : V m c main_v14 = byHead (m ((c.tc : Thread nD τ).loc main_arg1)) := by
  unfold V
  simp only [hostOps0, hostOps0_1, hostOps0_2, List.flatten_cons, List.flatten_nil, List.append_nil, List.cons_append, List.nil_append]
  after_results_simp <;> rfl

theorem V_values : V m c main_v16 = byHead (m ((c.tc : Thread nD τ).loc main_arg2)) := by
  unfold V
  simp only [hostOps0, hostOps0_1, hostOps0_2, List.flatten_cons, List.flatten_nil, List.append_nil, List.cons_append, List.nil_append]
  after_results_simp <;> rfl

/-- Row `r` of the point's block of rows. -/
def rowAt (t : Fin (cfg0 (F := Ideal)).N) (r : Fin 256) : Fin 8192 :=
  ⟨256 * (grid0.coords t 0).val + r.val, by have h : (grid0.coords t 0).val < 32 := (grid0.coords t 0).isLt; omega⟩

theorem index0 : ∀ t : Fin (cfg0 (F := Ideal)).N, win0_0.index t = ![0, (grid0.coords t 0).val, 0] := (by decide +kernel : ∀ t : Fin grid0.N, _)
theorem index1 : ∀ t : Fin (cfg0 (F := Ideal)).N, win0_1.index t = ![(grid0.coords t 0).val, 0] := (by decide +kernel : ∀ t : Fin grid0.N, _)
theorem index2 : ∀ t : Fin (cfg0 (F := Ideal)).N, win0_2.index t = ![(grid0.coords t 0).val, 0] := (by decide +kernel : ∀ t : Fin grid0.N, _)
theorem index3 : ∀ t : Fin (cfg0 (F := Ideal)).N, win0_3.index t = ![0, 0] := (by decide +kernel : ∀ t : Fin grid0.N, _)
theorem index4 : ∀ t : Fin (cfg0 (F := Ideal)).N, win0_4.index t = ![0, 0, 0] := (by decide +kernel : ∀ t : Fin grid0.N, _)
theorem index5 : ∀ t : Fin (cfg0 (F := Ideal)).N, win0_5.index t = ![0, 0, 0] := (by decide +kernel : ∀ t : Fin grid0.N, _)
theorem index6 : ∀ t : Fin (cfg0 (F := Ideal)).N, win0_6.index t = ![(grid0.coords t 0).val, 0] := (by decide +kernel : ∀ t : Fin grid0.N, _)

variable (t : Fin (cfg0 (F := Ideal)).N)

theorem block0 (h : Fin 8) (r : Fin 256) (d : Fin 128) : iblk m c 0 t (ix3 h r d) = V m c main_v7 (ix3 h (rowAt t r) d) := by
  blk_simp [iblk]
  show V m c main_v7 _ = _
  refine congrArg (V m c main_v7) ?_
  blk_ext [index0 t, rowAt]

theorem block1 (r : Fin 256) (l : Fin 1024) : iblk m c 1 t (ix2 r l) = V m c main_v11 (ix2 (rowAt t r) l) := by
  blk_simp [iblk]
  show V m c main_v11 _ = _
  refine congrArg (V m c main_v11) ?_
  blk_ext [index1 t, rowAt]

theorem block2 (r : Fin 256) (l : Fin 128) : iblk m c 2 t (ix2 r l) = V m c main_v9 (ix2 (rowAt t r) l) := by
  blk_simp [iblk]
  show V m c main_v9 _ = _
  refine congrArg (V m c main_v9) ?_
  blk_ext [index2 t, rowAt]

theorem block3 (s : Fin 8192) (d : Fin 64) : iblk m c 3 t (ix2 s d) = V m c main_v12 (ix2 s d) := by
  blk_simp [iblk]
  show V m c main_v12 _ = _
  refine congrArg (V m c main_v12) ?_
  blk_ext [index3 t, rowAt]

theorem block4 (h : Fin 8) (s : Fin 8192) (d : Fin 128) : iblk m c 4 t (ix3 h s d) = V m c main_v14 (ix3 h s d) := by
  blk_simp [iblk]
  show V m c main_v14 _ = _
  refine congrArg (V m c main_v14) ?_
  blk_ext [index4 t, rowAt]

theorem block5 (h : Fin 8) (s : Fin 8192) (d : Fin 128) : iblk m c 5 t (ix3 h s d) = V m c main_v16 (ix3 h s d) := by
  blk_simp [iblk]
  show V m c main_v16 _ = _
  refine congrArg (V m c main_v16) ?_
  blk_ext [index5 t, rowAt]

theorem scale_eq : scaleOf ix0 = ((1 / (√128 * Real.log 2) : ℝ) : EReal) := by
  pointwise [scaleOf]
  rw [ofBits_eq 0x43000000 (by decide) 128 (by norm_num [units, least]), ofBits_eq 0x40000000 (by decide) 2 (by norm_num [units, least]),
    Ideal.sqrt_coe, if_neg (show ¬ (128 : ℝ) < 0 by norm_num), Ideal.log_coe,
    if_neg (show ¬ (2 : ℝ) ≤ 0 by norm_num), ← EReal.coe_mul, Ideal.div_coe (by have := Real.log_pos (show (1 : ℝ) < 2 by norm_num); positivity), one_mul]

theorem queries_apply (q : FVec Ideal S8192x8x128 .f32) (h : Fin 8) (s : Fin 8192) (d : Fin 128) :
    queriesOf q (ix3 h s d) = q (ix3 s h d) * ((1 / (√128 * Real.log 2) : ℝ) : EReal) := by
  rw [← scale_eq]
  unfold queriesOf
  generalize scaleOf = z
  pointwise

theorem byHead_apply (k : FVec Ideal S8192x8x128 .f32) (h : Fin 8) (s : Fin 8192) (d : Fin 128) : byHead k (ix3 h s d) = k (ix3 s h d) := by
  pointwise [byHead]

theorem sideBySide_apply (qi : FVec Ideal S8192x16x64 .f32) (s : Fin 8192) (h : Fin 16) (d : Fin 64) :
    sideBySide qi (ix2 s ⟨64 * h.val + d.val, by omega⟩) = qi (ix3 s h d) := by
  pointwise [sideBySide]

theorem weight_apply (ki : FVec Ideal S8192x64 .f32) (wi : FVec Ideal S8192x16 .f32) (s : Fin 8192) (h : Fin 16) :
    keysAndWeights ki wi (ix2 s ⟨64 + h.val, by omega⟩) = wi (ix2 s h) := by
  pointwise [keysAndWeights]
  rw [dif_pos (by omega)]

end Cert.KernelIdeal.Prompt

end
-- ==== Proof.Value.lean ====
/- The value: the kernel's array is the reference's attention, wherever the kept score stands clear of the next. -/
module

public import proofs.«01_k».proof.Defs
public import proofs.«01_k».proof.Proof.Apart
public import proofs.«01_k».proof.Proof.RowValue
public import proofs.«01_k».proof.Proof.Blocks

@[expose] public section

set_option maxRecDepth 16384

noncomputable section

namespace Cert.KernelIdeal.Prompt

open Cert.KernelIdeal Cert.KernelIdeal.Gen
open Cert.Prompt (place place_sur place_anti bestKey scores scores_apply attention attention_apply separated_iff kept left kept_apply left_apply clear_real)
open Idealize.ShloMosaic Idealize.ShloMosaic.Tactic

theorem max_coe_zero (a : ℝ) : max (a : EReal) 0 = ((max a 0 : ℝ) : EReal) :=
  (EReal.coe_strictMono.monotone.map_max (a := a) (b := 0)).symm

/-- The kernel's score in numbers. -/
theorem kern_real (a : Fin 16 → Fin 64 → ℝ) (b : Fin 64 → ℝ) (w : Fin 16 → ℝ) (z : ℝ) :
    ∑ h : Fin 16, max (∑ d : Fin 64, (a h d : EReal) * (b d : EReal)) 0 * ((w h : EReal) * (z : EReal))
      = ((∑ h : Fin 16, max (∑ d : Fin 64, a h d * b d) 0 * (w h * z) : ℝ) : EReal) := by
  rw [← coe_sum']
  refine Finset.sum_congr rfl fun h _ => ?_
  have e : ∑ d : Fin 64, (a h d : EReal) * (b d : EReal) = ((∑ d : Fin 64, a h d * b d : ℝ) : EReal) := by
    rw [← coe_sum']
    exact Finset.sum_congr rfl fun d _ => (EReal.coe_mul _ _).symm
  rw [e, max_coe_zero, ← EReal.coe_mul, ← EReal.coe_mul]

/-- The reference's score in numbers. -/
theorem ref_real (a : Fin 16 → Fin 64 → ℝ) (b : Fin 64 → ℝ) (w : Fin 16 → ℝ) (y z : ℝ) :
    (∑ h : Fin 16, max ((∑ d : Fin 64, (a h d : EReal) * (b d : EReal)) * (y : EReal)) 0 * (w h : EReal)) * (z : EReal)
      = (((∑ h : Fin 16, max ((∑ d : Fin 64, a h d * b d) * y) 0 * w h) * z : ℝ) : EReal) := by
  rw [EReal.coe_mul, ← coe_sum']
  refine congrArg (· * (z : EReal)) ?_
  refine Finset.sum_congr rfl fun h _ => ?_
  have e : ∑ d : Fin 64, (a h d : EReal) * (b d : EReal) = ((∑ d : Fin 64, a h d * b d : ℝ) : EReal) := by
    rw [← coe_sum']
    exact Finset.sum_congr rfl fun d _ => (EReal.coe_mul _ _).symm
  rw [e, ← EReal.coe_mul, max_coe_zero, ← EReal.coe_mul]

/-- The two scores are one number: the scales are positive and leave the sum through the maximum. -/
theorem scales (D w : Fin 16 → ℝ) :
    (∑ h : Fin 16, max (D h * 2⁻¹ ^ 3) 0 * w h) * 2⁻¹ ^ 2 = ∑ h : Fin 16, max (D h) 0 * (w h * 2⁻¹ ^ 5) := by
  rw [Finset.sum_mul]
  refine Finset.sum_congr rfl fun h _ => ?_
  have e : max (D h * 2⁻¹ ^ 3) 0 = max (D h) 0 * 2⁻¹ ^ 3 := by
    rw [max_mul_of_nonneg _ _ (by positivity), zero_mul]
  rw [e]
  ring

variable (m : (ℓ : Loc nD τ sig) → Buf (Elt Ideal) ℓ) (c : Dev nD)

/-- An input of the launch's. -/
abbrev argQ : FVec Ideal S8192x8x128 .f32 := m ((c.tc : Thread nD τ).loc main_arg0)
abbrev argK : FVec Ideal S8192x8x128 .f32 := m ((c.tc : Thread nD τ).loc main_arg1)
abbrev argV : FVec Ideal S8192x8x128 .f32 := m ((c.tc : Thread nD τ).loc main_arg2)
abbrev argQI : FVec Ideal S8192x16x64 .f32 := m ((c.tc : Thread nD τ).loc main_arg3)
abbrev argKI : FVec Ideal S8192x64 .f32 := m ((c.tc : Thread nD τ).loc main_arg4)
abbrev argWI : FVec Ideal S8192x16 .f32 := m ((c.tc : Thread nD τ).loc main_arg5)

/-- The scores the kernel keeps for a row are the reference's. -/
theorem row_scores (qi : Fin 8192 → Fin 16 → Fin 64 → ℝ) (ki : Fin 8192 → Fin 64 → ℝ) (wi : Fin 8192 → Fin 16 → ℝ)
    (hqi : ∀ s h d, argQI m c (ix3 s h d) = (qi s h d : EReal)) (hki : ∀ s d, argKI m c (ix2 s d) = (ki s d : EReal))
    (hwi : ∀ s h, argWI m c (ix2 s h) = (wi s h : EReal)) (t : Fin (cfg0 (F := Ideal)).N) (r : Fin 256) (s : Fin 8192) :
    ∃ a : ℝ, rowOf (scoreAt (grid0.coords t) (iblk m c 1 t) (iblk m c 3 t) (weightsAt (iblk m c 2 t))) r s.val
        = (if s.val ≤ (rowAt t r).val then (a : EReal) else ⊥)
      ∧ scores (argQI m c) (argKI m c) (argWI m c) (ix2 (rowAt t r) s) = if s.val ≤ (rowAt t r).val then (a : EReal) else ⊥ := by
  refine ⟨∑ h : Fin 16, max (∑ d : Fin 64, qi (rowAt t r) h d * ki s d) 0 * (wi (rowAt t r) h * 2⁻¹ ^ 5), ?_, ?_⟩
  · rw [rowOf_score]
    refine if_congr Iff.rfl ?_ rfl
    rw [← kern_real]
    unfold kernScore
    refine Finset.sum_congr rfl fun h _ => ?_
    rw [block2, show V m c main_v9 = keysAndWeights (argKI m c) (argWI m c) from V_weights m c, weight_apply, hwi]
    congr 2
    refine Finset.sum_congr rfl fun d _ => ?_
    rw [block1, show V m c main_v11 = sideBySide (argQI m c) from V_indexer m c, sideBySide_apply, hqi, block3, V_indexKeys]
    exact congrArg _ (hki s d)
  · rw [scores_apply]
    refine if_congr Iff.rfl ?_ rfl
    rw [← scales, ← ref_real]
    simp only [hqi, hki, hwi]

/-- Where a query has more than 256 keys before it, the first 257 scores are numbers. -/
theorem best_real (sc : FVec Ideal Cert.ReferenceIdeal.S8192x8192 .f32) (t : Fin 8192) (hreal : ∀ s : Fin 8192, s.val ≤ t.val → ∃ a : ℝ, sc (ix2 t s) = a)
    (hbot : ∀ s : Fin 8192, t.val < s.val → sc (ix2 t s) = ⊥) (h256 : 256 ≤ t.val) (j : Fin 8192) (hj : j.val ≤ 256) :
    ∃ a : ℝ, sc (ix2 t (place (fun s => sc (ix2 t s)) j)) = a := by
  refine hreal _ (not_lt.1 fun hlt => ?_)
  choose f hf using place_sur fun s => sc (ix2 t s)
  have hlow : ∀ s : Fin 8192, s.val ≤ t.val → (f s).val < 256 := by
    intro s hs
    by_contra hge
    obtain ⟨a, ha⟩ := hreal s hs
    have h1 : sc (ix2 t (place (fun s => sc (ix2 t s)) (f s))) = a := by rw [hf, ha]
    have h2 : sc (ix2 t (place (fun s => sc (ix2 t s)) j)) = ⊥ := hbot _ hlt
    rcases Nat.lt_or_ge j.val (f s).val with hc | hc
    · have h3 : sc (ix2 t (place (fun s => sc (ix2 t s)) (f s))) ≤ sc (ix2 t (place (fun s => sc (ix2 t s)) j)) :=
        place_anti (fun s => sc (ix2 t s)) j (f s) hc
      rw [h1, h2] at h3
      exact absurd h3 (not_le.2 (EReal.bot_lt_coe a))
    · have e : f s = j := Fin.ext (by omega)
      rw [e, h2] at h1
      exact absurd h1 (EReal.bot_ne_coe a)
  have hinj : Function.Injective fun s : Fin 257 => (⟨(f ⟨s.val, by omega⟩).val, hlow ⟨s.val, by omega⟩ (by simp only; omega)⟩ : Fin 256) := by
    intro a b hab
    have e : f ⟨a.val, by omega⟩ = f ⟨b.val, by omega⟩ := Fin.ext (Fin.mk.inj hab)
    have e2 := (hf ⟨a.val, by omega⟩).symm.trans ((congrArg (place fun s => sc (ix2 t s)) e).trans (hf ⟨b.val, by omega⟩))
    exact Fin.ext (Fin.mk.inj e2)
  have := Fintype.card_le_of_injective _ hinj
  simp only [Fintype.card_fin] at this
  omega

/-- One number of the launch's result at a point is the reference's. -/
theorem prompt_value (hpre : Cert.Pre_separated.fn (F := Ideal) (argQ m c) (argK m c) (argV m c) (argQI m c) (argKI m c) (argWI m c) ix0 = 1#1)
    (t : Fin (cfg0 (F := Ideal)).N) (r : Fin 256) (h : Fin 8) (l : Fin 128) :
    promptAt m c t (ix2 r ⟨128 * h.val + l.val, by omega⟩)
      = attention (argQ m c) (argK m c) (argV m c) (argQI m c) (argKI m c) (argWI m c) (ix2 (rowAt t r) ⟨128 * h.val + l.val, by omega⟩) := by
  obtain ⟨hq, hk, hv, hqi, hki, hwi, hsep⟩ := separated_iff _ _ _ _ _ _ hpre
  choose q hq using fun s h d => hq (ix3 s h d)
  choose k hk using fun s h d => hk (ix3 s h d)
  choose v hv using fun s h d => hv (ix3 s h d)
  choose qi hqi using fun s h d => hqi (ix3 s h d)
  choose ki hki using fun s d => hki (ix2 s d)
  choose wi hwi using fun s h => hwi (ix2 s h)
  have hrow := fun r s => row_scores m c qi ki wi hqi hki hwi t r s
  have hreal : ∀ s : Fin 8192, s.val ≤ (rowAt t r).val → ∃ a : ℝ, scores (argQI m c) (argKI m c) (argWI m c) (ix2 (rowAt t r) s) = a := by
    intro s hs
    obtain ⟨a, _, ha⟩ := hrow r s
    exact ⟨a, by rw [ha, if_pos hs]⟩
  have hbot : ∀ s : Fin 8192, (rowAt t r).val < s.val → scores (argQI m c) (argKI m c) (argWI m c) (ix2 (rowAt t r) s) = ⊥ := by
    intro s hs
    obtain ⟨a, _, ha⟩ := hrow r s
    rw [ha, if_neg (by omega)]
  have hg : ∀ s : Fin 8192, rowOf (scoreAt (grid0.coords t) (iblk m c 1 t) (iblk m c 3 t) (weightsAt (iblk m c 2 t))) r s.val
      = scores (argQI m c) (argKI m c) (argWI m c) (ix2 (rowAt t r) s) := by
    intro s
    obtain ⟨a, h1, h2⟩ := hrow r s
    rw [h1, h2]
  have htop : ∀ r x, rowOf (scoreAt (grid0.coords t) (iblk m c 1 t) (iblk m c 3 t) (weightsAt (iblk m c 2 t))) r x < ⊤ := by
    intro r x
    have e : rowOf (scoreAt (grid0.coords t) (iblk m c 1 t) (iblk m c 3 t) (weightsAt (iblk m c 2 t))) r x
        = rowOf (scoreAt (grid0.coords t) (iblk m c 1 t) (iblk m c 3 t) (weightsAt (iblk m c 2 t))) r (x % 8192) := by
      unfold rowOf
      congr 2
      · exact Fin.ext (by simp only; omega)
      · exact Fin.ext (by simp only; omega)
    obtain ⟨a, h1, _⟩ := hrow r ⟨x % 8192, Nat.mod_lt _ (by norm_num)⟩
    rw [e, h1]
    split
    · exact EReal.coe_lt_top a
    · exact bot_lt_top
  refine (prompt_row (grid0.coords t) (iblk m c 0 t) (iblk m c 1 t) (iblk m c 2 t) (iblk m c 3 t) (iblk m c 4 t) (iblk m c 5 t) r (rowAt t r) rfl
    (scores (argQI m c) (argKI m c) (argWI m c)) hg hreal hbot htop ?_ h l (q (rowAt t r) h) (fun s => k s h) (fun s => v s h) ?_ ?_ ?_).trans
    (attention_apply (argQ m c) (argK m c) (argV m c) (argQI m c) (argKI m c) (argWI m c) q k v hq hk hv (rowAt t r) h l
      (best_causal _ _ hreal hbot)).symm
  · intro h256
    have hlt := (rowAt t r).isLt
    obtain ⟨p, hp⟩ : ∃ p : Fin 7936, (rowAt t r).val = 256 + p.val := ⟨⟨(rowAt t r).val - 256, by omega⟩, by simp only; omega⟩
    obtain ⟨h1, h2⟩ := hsep (ix1 p)
    rw [kept_apply _ p _ hp] at h1 h2
    rw [left_apply _ p _ hp] at h1
    obtain ⟨a, ha⟩ := best_real _ _ hreal hbot h256 255 (by decide)
    obtain ⟨b, hb⟩ := best_real _ _ hreal hbot h256 256 (by decide)
    exact ⟨a, b, ha, hb, clear_real _ _ a b ha hb h1 h2⟩
  · intro d
    rw [block0, show V m c main_v7 = queriesOf (argQ m c) from V_queries m c, queries_apply, hq, ← EReal.coe_mul]
  · intro s d
    rw [block4, show V m c main_v14 = byHead (argK m c) from V_keys m c, byHead_apply, hk]
  · intro s d
    rw [block5, show V m c main_v16 = byHead (argV m c) from V_values m c, byHead_apply, hv]

theorem point_of_rows : ∀ b : Fin 32, ∃ t : Fin (cfg0 (F := Ideal)).N, (grid0.coords t 0).val = b.val :=
  (by decide +kernel : ∀ b : Fin 32, ∃ t : Fin grid0.N, (grid0.coords t 0).val = b.val)

/-- An entry of the launch's array, from the block that holds it. -/
theorem array_at (o : Buf (Elt Ideal) ((c.tc : Thread nD τ).loc main_v17)) (t : Fin (cfg0 (F := Ideal)).N)
    (ho : (((cfg0 (F := Ideal)).win 6).blk t).view.read (Elt Ideal) o = ((cfg0 (F := Ideal)).win 6).cut (grid0.coords t) (promptAt m c t))
    (r : Fin 256) (x : Fin 1024) : o (ix2 (rowAt t r) x) = promptAt m c t (ix2 r x) := by
  refine Eq.trans ?_ ((congrFun ho (ix2 r x)).trans ?_)
  · show o _ = o _
    refine congrArg o ?_
    blk_ext [index6 t, rowAt]
  · rfl

/-- The launch's array, put together from its blocks. -/
theorem array_value (hpre : Cert.Pre_separated.fn (F := Ideal) (argQ m c) (argK m c) (argV m c) (argQI m c) (argKI m c) (argWI m c) ix0 = 1#1)
    (o : Buf (Elt Ideal) ((c.tc : Thread nD τ).loc main_v17))
    (ho : ∀ t : Fin (cfg0 (F := Ideal)).N, (((cfg0 (F := Ideal)).win 6).blk t).view.read (Elt Ideal) o
      = ((cfg0 (F := Ideal)).win 6).cut (grid0.coords t) (promptAt m c t)) :
    o = attention (argQ m c) (argK m c) (argV m c) (argQI m c) (argKI m c) (argWI m c) := by
  have key : ∀ (s : Fin 8192) (x : Fin 1024), o (ix2 s x) = attention (argQ m c) (argK m c) (argV m c) (argQI m c) (argKI m c) (argWI m c) (ix2 s x) := by
    intro s x
    obtain ⟨t, ht⟩ := point_of_rows ⟨s.val / 256, by omega⟩
    have es : s = rowAt t ⟨s.val % 256, Nat.mod_lt _ (by norm_num)⟩ := Fin.ext (by simp only [rowAt, ht]; omega)
    have ex : x = ⟨128 * (⟨x.val / 128, by omega⟩ : Fin 8).val + (⟨x.val % 128, Nat.mod_lt _ (by norm_num)⟩ : Fin 128).val, by simp only; omega⟩ :=
      Fin.ext (by simp only; omega)
    have hv := prompt_value m c hpre t ⟨s.val % 256, Nat.mod_lt _ (by norm_num)⟩ ⟨x.val / 128, by omega⟩ ⟨x.val % 128, Nat.mod_lt _ (by norm_num)⟩
    rw [← es, ← ex] at hv
    rw [← hv]
    conv_lhs => rw [es]
    exact array_at m c o t (ho t) _ _
  funext i
  rw [show i = ix2 (i 0) (i 1) from by
    funext a
    fin_cases a <;> rfl]
  exact key _ _

end Cert.KernelIdeal.Prompt

namespace Cert.Proof.Claims

open Cert.KernelIdeal.Prompt Idealize.ShloMosaic Idealize.SL.Sem

theorem frame_ideal_separated : Cert.quiescent_KernelIdeal_pre_separated := fun m ρ _ => frame_ideal m ρ trivial

theorem frame_reference_separated : Cert.quiescent_ReferenceIdeal_pre_separated := fun m ρ _ => frame_reference m ρ trivial

/-- Both programs end with the reference's attention of the six inputs. -/
theorem algebraic : Cert.algebraic_KernelIdeal_ReferenceIdeal_pre_separated := by
  intro m g m' g' hpre hagree
  refine ⟨fun c => Cert.Prompt.attention (argQ m c) (argK m c) (argV m c) (argQI m c) (argKI m c) (argWI m c), ?_, ?_⟩
  · refine (θ_run Cert.KernelIdeal.defs _ _).mono (fun r h c => ⟨?_, (h.1 c).2⟩) (run_main (F := Ideal) m g (promptAt m) (bodyOk m))
    exact array_value m c (congrFun (hpre c) ix0) _ (h.1 c).1
  · refine (θ_run Cert.ReferenceIdeal.defs _ _).mono (fun r h c => ⟨(h c).1.trans ?_, (h c).2⟩) (Cert.ReferenceIdeal.Value.run (F := Ideal) m' g')
    obtain ⟨e0, e1, e2, e3, e4, e5⟩ := hagree c
    rw [Cert.Prompt.result_eq, e0, e1, e2, e3, e4, e5]

end Cert.Proof.Claims

end
-- ==== Proof.Ffn.lean ====
/- The gated network's call at `Ideal`: what each grid point adds to the row tile's accumulator, the accumulator after the
   last tile of the hidden axis as one sum over the hidden axis, and the normalized rows the last point writes. -/
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

noncomputable section

namespace Cert.Kernel2Ideal.Ffn

open Cert.Kernel2Ideal Cert.Kernel2Ideal.Gen Cert.Kernel2Ideal.Value Idealize.ShloMosaic Idealize.ShloMosaic.TcCoe Idealize.SL.Sem
open Idealize.ShloMosaic.Pipeline (Dat)

/-- One hidden unit of a row: the gate's activation times the gate times the up projection. -/
def unit (h g u : Fin 2048 → EReal) : EReal :=
  (∑ d, h d * g d) * Ideal.logistic (∑ d, h d * g d) * ∑ d, h d * u d

/-- One entry of a row scaled by the inverse root of its mean square, and by the gain. -/
def normed (x : Fin 2048 → EReal) (gain : EReal) (l : Fin 2048) : EReal :=
  x l * Ideal.rsqrt (Ideal.div (∑ k, x k * x k) (Ideal.ofBits .f32 0x45000000#32) + Ideal.ofBits .f32 0x358637BD#32) * gain

theorem pay1_apply (r : Fin 512) (x : Fin 2048) : k0_pay1 (F := Ideal) (ix2 r x) = 0 := by
  pointwise [k0_pay1]

/-- What a point adds to an entry of the accumulator. -/
def part (h : Vec Ideal S512x2048 .bf16) (g u : Vec Ideal S2048x512 .bf16) (d : Vec Ideal S512x2048 .bf16) (j : S512x2048.Idx) : EReal :=
  ∑ k : Fin 512, unit (fun e => h (ix2 (j 0) e)) (fun e => g (ix2 e k)) (fun e => u (ix2 e k)) * d (ix2 k (j 1))

theorem pay2_apply (h : Vec Ideal S512x2048 .bf16) (g u : Vec Ideal S2048x512 .bf16) (acc : Vec Ideal S512x2048 .f32)
    (d : Vec Ideal S512x2048 .bf16) (r : Fin 512) (x : Fin 2048) :
    k0_pay2 h g u acc d (ix2 r x) = acc (ix2 r x) + part h g u d (ix2 r x) := by
  pointwise [k0_pay2]
  rfl

theorem pay3_apply (a b : Vec Ideal S512x2048 .f32) (g : Vec Ideal S1x2048 .f32) (r : Fin 512) (x : Fin 2048) :
    k0_pay3 a b g (ix2 r x) = normed (fun k => a (ix2 r k) + b (ix2 r k)) (g (ix2 0 x)) x := by
  pointwise [k0_pay3]
  rfl

theorem coords_eq (j : S512x2048.Idx) : ∃ (r : Fin 512) (x : Fin 2048), j = ix2 r x :=
  ⟨j 0, j 1, by funext a; fin_cases a <;> rfl⟩

/-- The reference's row before its normalization. -/
def rowOf (x0 x1 : FVec Ideal S8192x2048 .f32) (x2 x3 : FVec Ideal S2048x5632 .f32) (x4 : FVec Ideal S5632x2048 .f32) (s : Fin 8192) (l : Fin 2048) : EReal :=
  x1 (ix2 s l) + ∑ k : Fin 5632, unit (fun d => x0 (ix2 s d)) (fun d => x2 (ix2 d k)) (fun d => x3 (ix2 d k)) * x4 (ix2 k l)

open Cert.Reference2Ideal.Read in
theorem ref_row (x0 x1 : FVec Ideal S8192x2048 .f32) (x2 x3 : FVec Ideal S2048x5632 .f32) (x4 : FVec Ideal S5632x2048 .f32)
    (s : Fin 8192) (x : Fin 2048) : val_main_v5 (F := Ideal) x0 x1 x2 x3 x4 (ix2 s x) = rowOf x0 x1 x2 x3 x4 s x := by
  pointwise [val_main_v5, val_main_v4, val_main_v3, val_main_v2, val_main_v1, val_main_v0, val_main_call0_v5, val_main_call0_v4, val_main_call0_v3,
    val_main_call0_v2, val_main_call0_v1, val_main_call0_v0, val_main_call0_cst, val_main_call0_cst_0]
  rfl

open Cert.Reference2Ideal.Read in
theorem ref_apply (x0 x1 : FVec Ideal S8192x2048 .f32) (x2 x3 : FVec Ideal S2048x5632 .f32) (x4 : FVec Ideal S5632x2048 .f32)
    (x5 : FVec Ideal S2048 .f32) (s : Fin 8192) (x : Fin 2048) :
    val_main_v18 (F := Ideal) x0 x1 x2 x3 x4 x5 (ix2 s x) = normed (rowOf x0 x1 x2 x3 x4 s) (x5 (ix1 x)) x := by
  pointwise [val_main_v18, val_main_v15, val_main_v14, val_main_v13, val_main_v12, val_main_v11, val_main_v10, val_main_v17, val_main_v16,
    val_main_v9, val_main_v8, val_main_v7, val_main_v6, val_main_cst, val_main_cst_0, val_main_cst_1]
  simp only [ref_row]
  rfl

variable (m : (ℓ : Loc nD τ sig) → Buf (Elt Ideal) ℓ) (c : Dev nD)

abbrev argH : FVec Ideal S8192x2048 .f32 := m ((c.tc : Thread nD τ).loc main_arg0)
abbrev argX : FVec Ideal S8192x2048 .f32 := m ((c.tc : Thread nD τ).loc main_arg1)
abbrev argG : FVec Ideal S2048x5632 .f32 := m ((c.tc : Thread nD τ).loc main_arg2)
abbrev argU : FVec Ideal S2048x5632 .f32 := m ((c.tc : Thread nD τ).loc main_arg3)
abbrev argD : FVec Ideal S5632x2048 .f32 := m ((c.tc : Thread nD τ).loc main_arg4)
abbrev argN : FVec Ideal S2048 .f32 := m ((c.tc : Thread nD τ).loc main_arg5)

theorem V_h (s : Fin 8192) (d : Fin 2048) : V m c main_v0 (ix2 s d) = argH m c (ix2 s d) := by
  refine (congrFun (?_ : V m c main_v0 = argH m c) _)
  unfold V
  simp only [hostOps0, List.flatten_cons, List.flatten_nil, List.append_nil, List.cons_append, List.nil_append]
  after_results_simp <;> rfl

theorem V_gate (d : Fin 2048) (k : Fin 5632) : V m c main_v1 (ix2 d k) = argG m c (ix2 d k) := by
  refine (congrFun (?_ : V m c main_v1 = argG m c) _)
  unfold V
  simp only [hostOps0, List.flatten_cons, List.flatten_nil, List.append_nil, List.cons_append, List.nil_append]
  after_results_simp <;> rfl

theorem V_up (d : Fin 2048) (k : Fin 5632) : V m c main_v2 (ix2 d k) = argU m c (ix2 d k) := by
  refine (congrFun (?_ : V m c main_v2 = argU m c) _)
  unfold V
  simp only [hostOps0, List.flatten_cons, List.flatten_nil, List.append_nil, List.cons_append, List.nil_append]
  after_results_simp <;> rfl

theorem V_down (k : Fin 5632) (l : Fin 2048) : V m c main_v3 (ix2 k l) = argD m c (ix2 k l) := by
  refine (congrFun (?_ : V m c main_v3 = argD m c) _)
  unfold V
  simp only [hostOps0, List.flatten_cons, List.flatten_nil, List.append_nil, List.cons_append, List.nil_append]
  after_results_simp <;> rfl

theorem V_gain (l : Fin 2048) : V m c main_v4 (ix2 0 l) = argN m c (ix1 l) := by
  have e : V m c main_v4 = shapeCast S1x2048 (argN m c) shapeCasts_S2048_S1x2048 := by
    unfold V
    simp only [hostOps0, List.flatten_cons, List.flatten_nil, List.append_nil, List.cons_append, List.nil_append]
    after_results_simp <;> rfl
  rw [e]
  pointwise

/-- The rows of a point's tile, and its tile of the hidden axis. -/
def rowAt (t : Fin cfg0.N) (r : Fin 512) : Fin 8192 :=
  ⟨t.val / 11 * 512 + r.val, by have h : t.val < 176 := lt_of_lt_of_eq t.isLt N_0; omega⟩
def unitAt (t : Fin cfg0.N) (k : Fin 512) : Fin 5632 :=
  ⟨t.val % 11 * 512 + k.val, by omega⟩

theorem index0 : ∀ t : Fin cfg0.N, win0_0.index t = ![t.val / 11, 0] := (by decide +kernel : ∀ t : Fin grid0.N, _)
theorem index1 : ∀ t : Fin cfg0.N, win0_1.index t = ![t.val / 11, 0] := (by decide +kernel : ∀ t : Fin grid0.N, _)
theorem index2 : ∀ t : Fin cfg0.N, win0_2.index t = ![0, t.val % 11] := (by decide +kernel : ∀ t : Fin grid0.N, _)
theorem index3 : ∀ t : Fin cfg0.N, win0_3.index t = ![0, t.val % 11] := (by decide +kernel : ∀ t : Fin grid0.N, _)
theorem index4 : ∀ t : Fin cfg0.N, win0_4.index t = ![t.val % 11, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 11, 0] := (by decide +kernel : ∀ t : Fin grid0.N, _)

variable (t : Fin cfg0.N)

theorem block0 (r : Fin 512) (d : Fin 2048) : iblk m c 0 t (ix2 r d) = argH m c (ix2 (rowAt t r) d) := by
  rw [← V_h]
  blk_simp [iblk]
  show V m c main_v0 _ = _
  refine congrArg (V m c main_v0) ?_
  blk_ext [index0 t, rowAt]

theorem block1 (r : Fin 512) (d : Fin 2048) : iblk m c 1 t (ix2 r d) = argX m c (ix2 (rowAt t r) d) := by
  rw [show argX m c (ix2 (rowAt t r) d) = V m c main_arg1 (ix2 (rowAt t r) d) from by rw [V_main_arg1]]
  blk_simp [iblk]
  show V m c main_arg1 _ = _
  refine congrArg (V m c main_arg1) ?_
  blk_ext [index1 t, rowAt]

theorem block2 (d : Fin 2048) (k : Fin 512) : iblk m c 2 t (ix2 d k) = argG m c (ix2 d (unitAt t k)) := by
  rw [← V_gate]
  blk_simp [iblk]
  show V m c main_v1 _ = _
  refine congrArg (V m c main_v1) ?_
  blk_ext [index2 t, unitAt]

theorem block3 (d : Fin 2048) (k : Fin 512) : iblk m c 3 t (ix2 d k) = argU m c (ix2 d (unitAt t k)) := by
  rw [← V_up]
  blk_simp [iblk]
  show V m c main_v2 _ = _
  refine congrArg (V m c main_v2) ?_
  blk_ext [index3 t, unitAt]

theorem block4 (k : Fin 512) (l : Fin 2048) : iblk m c 4 t (ix2 k l) = argD m c (ix2 (unitAt t k) l) := by
  rw [← V_down]
  blk_simp [iblk]
  show V m c main_v3 _ = _
  refine congrArg (V m c main_v3) ?_
  blk_ext [index4 t, unitAt]

theorem block5 (l : Fin 2048) : iblk m c 5 t (ix2 0 l) = argN m c (ix1 l) := by
  rw [← V_gain]
  blk_simp [iblk]
  show V m c main_v4 _ = _
  refine congrArg (V m c main_v4) ?_
  blk_ext [index5 t]

/-- The accumulator after the last point of a row tile: the whole hidden axis, summed. -/
theorem scratch_last (ht : t.val % 11 = 10) (r : Fin 512) (x : Fin 2048) :
    (outsAt0 m c t.val t.isLt).2 (ix2 r x) = ∑ k : Fin 5632, unit (fun d => argH m c (ix2 (rowAt t r) d)) (fun d => argG m c (ix2 d k))
      (fun d => argU m c (ix2 d k)) * argD m c (ix2 k x) := by
  rw [Pipeline.eq_sum_fin_of_reset_step_apply_of_flush (fun n h => (outsAt0 m c n h).2) 11 (fun _ => (0 : EReal))
    (fun t j => part (iblk m c 0 t) (iblk m c 2 t) (iblk m c 3 t) (iblk m c 4 t) j)
    (fun t h j => by
      obtain ⟨r, x, rfl⟩ := coords_eq j
      rw [outsAt0_A m c t h (by omega)]
      frame_out
      rw [pay2_apply, pay1_apply])
    (fun t h j => by
      obtain ⟨r, x, rfl⟩ := coords_eq j
      by_cases h1 : t.val % 11 = 10
      · rw [outsAt0_C m c t h h1]
        frame_out
        rw [pay2_apply, read_unread_whole]
      · rw [outsAt0_B m c t h h1]
        frame_out
        rw [pay2_apply, read_unread_whole])
    t ht (ix2 r x), zero_add]
  rw [← Fin.sum_mul_add_fin 11 512 (fun k : Fin 5632 => unit (fun d => argH m c (ix2 (rowAt t r) d)) (fun d => argG m c (ix2 d k))
    (fun d => argU m c (ix2 d k)) * argD m c (ix2 k x))]
  refine Finset.sum_congr rfl fun f _ => Finset.sum_congr rfl fun k _ => ?_
  have hf := f.isLt
  have hk := k.isLt
  have er : ∀ h, rowAt ⟨11 * (t.val / 11) + f.val, h⟩ r = rowAt t r := fun h => Fin.ext (by simp only [rowAt]; omega)
  have eu : ∀ h, unitAt ⟨11 * (t.val / 11) + f.val, h⟩ k = ⟨f.val * 512 + k.val, by omega⟩ := fun h => Fin.ext (by simp only [unitAt]; omega)
  have e0 : ∀ h d, iblk m c 0 ⟨11 * (t.val / 11) + f.val, h⟩ (ix2 r d) = argH m c (ix2 (rowAt t r) d) := fun h d => by rw [block0, er]
  have e4 : ∀ h, iblk m c 4 ⟨11 * (t.val / 11) + f.val, h⟩ (ix2 k x) = argD m c (ix2 ⟨f.val * 512 + k.val, by omega⟩ x) := fun h => by rw [block4, eu]
  show unit (fun d => iblk m c 0 _ (ix2 r d)) (fun d => iblk m c 2 _ (ix2 d k)) (fun d => iblk m c 3 _ (ix2 d k)) * iblk m c 4 _ (ix2 k x) = _
  simp only [block2, block3, e0, e4, eu]

/-- What the last point of a row tile writes is the reference's block. -/
theorem output_last (ht : t.val % 11 = 10) (r : Fin 512) (x : Fin 2048) :
    (outsAt0 m c t.val t.isLt).1 (ix2 r x)
      = Cert.Reference2Ideal.Read.val_main_v18 (F := Ideal) (argH m c) (argX m c) (argG m c) (argU m c) (argD m c) (argN m c) (ix2 (rowAt t r) x) := by
  have e : (outsAt0 m c t.val t.isLt).1 = k0_pay3 (iblk m c 1 t) (outsAt0 m c t.val t.isLt).2 (iblk m c 5 t) := by
    rw [outsAt0_C m c t (by omega) ht]
    frame_out
  rw [e, pay3_apply, ref_apply, block5]
  congr 1
  funext l
  rw [block1, scratch_last m c t ht]
  rfl

/-- The launch's array is the reference's. -/
theorem array_value : (dats m 0 c).arrAt 6 cfg0.N
    = Cert.Reference2Ideal.Read.val_main_v18 (F := Ideal) (argH m c) (argX m c) (argG m c) (argU m c) (argD m c) (argN m c) := by
  refine (dats m 0 c).arrAt_eq_of_cover 6 _ (fun t hf => ?_) (fun i => (covered_iff6 i).2 (by
    have h0 : (i 0).val < 8192 := (i 0).isLt
    have h1 : (i 1).val < 2048 := (i 1).isLt
    omega))
  rw [flushed6]
  funext j
  obtain ⟨r, x, rfl⟩ := coords_eq j
  refine (output_last m c t ((flush0_6 t).mp hf) r x).trans ?_
  blk_simp
  refine congrArg _ ?_
  blk_ext [index6 t, rowAt]

end Cert.Kernel2Ideal.Ffn

namespace Cert.Proof.Claims

open Cert.Kernel2Ideal.Ffn Idealize.ShloMosaic Idealize.SL.Sem

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both programs end with the reference's normalized rows of the six inputs. -/
theorem algebraic2 : Cert.algebraic_Kernel2Ideal_Reference2Ideal := by
  intro m g m' g' hpre hagree
  refine ⟨fun c => Cert.Reference2Ideal.Read.val_main_v18 (F := Ideal) (argH m c) (argX m c) (argG m c) (argU m c) (argD m c) (argN m c), ?_, ?_⟩
  · exact (θ_run Cert.Kernel2Ideal.defs _ _).mono (fun r h c => ⟨(h c).1.trans (array_value m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨e0, e1, e2, e3, e4, e5⟩ := hagree c
    rw [Cert.Reference2Ideal.Read.val_main_v18_eq, e0, e1, e2, e3, e4, e5]

end Cert.Proof.Claims

end
-- ==== Proof.Merge.lean ====
/- The merge's call at `Ideal`: the gated sum of the two branches' projections, the residual it is added to, and its
   normalized rows, block of rows by block of rows. -/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.Claim
public import Idealize.ShloMosaic.Lib.Pointwise

@[expose] public section

noncomputable section

namespace Cert.Kernel3Ideal.Merge

open Cert.Kernel3Ideal Cert.Kernel3Ideal.Gen Cert.Kernel3Ideal.Value Idealize.ShloMosaic Idealize.ShloMosaic.TcCoe Idealize.SL.Sem
open Idealize.ShloMosaic.Pipeline (Dat)

/-- One entry of the gated sum of the branches, from a row of each branch and a column of its projection. -/
def gatedSum (a b : EReal) (p q w v : Fin 1024 → EReal) : EReal :=
  Ideal.logistic a * (∑ k, p k * w k) + Ideal.logistic b * ∑ k, q k * v k

/-- One entry of a row scaled by the inverse root of its mean square, and by the gain. -/
def normed (x : Fin 2048 → EReal) (gain : EReal) (l : Fin 2048) : EReal :=
  x l * Ideal.rsqrt (Ideal.div (∑ k, x k * x k) (Ideal.ofBits .f32 0x45000000#32) + Ideal.ofBits .f32 0x358637BD#32) * gain

/-- A row's merged entries added to its residual. -/
def rowOf (x a b : Fin 2048 → EReal) (p q : Fin 1024 → EReal) (w v : Fin 1024 → Fin 2048 → EReal) (o : Fin 2048 → Fin 2048 → EReal)
    (l : Fin 2048) : EReal :=
  x l + ∑ k : Fin 2048, gatedSum (a k) (b k) p q (fun e => w e k) (fun e => v e k) * o k l

variable (x0 a0 b0 : Vec Ideal S256x2048 .f32) (p0 q0 : Vec Ideal S256x1024 .bf16) (w0 v0 : Vec Ideal S1024x2048 .bf16)
  (o0 : Vec Ideal S2048x2048 .bf16)

theorem pay2_apply (r : Fin 256) (x : Fin 2048) : k0_pay2 p0 w0 q0 v0 a0 b0 x0 o0 (ix2 r x)
    = rowOf (fun l => x0 (ix2 r l)) (fun l => a0 (ix2 r l)) (fun l => b0 (ix2 r l)) (fun k => p0 (ix2 r k)) (fun k => q0 (ix2 r k))
        (fun e k => w0 (ix2 e k)) (fun e k => v0 (ix2 e k)) (fun k l => o0 (ix2 k l)) x := by
  pointwise [k0_pay2]
  rfl

theorem pay3_apply (g0 : Vec Ideal S1x2048 .f32) (r : Fin 256) (x : Fin 2048) :
    k0_pay1 (k0_pay3 p0 w0 q0 v0 a0 b0 x0 o0) g0 (ix2 r x)
      = normed (rowOf (fun l => x0 (ix2 r l)) (fun l => a0 (ix2 r l)) (fun l => b0 (ix2 r l)) (fun k => p0 (ix2 r k)) (fun k => q0 (ix2 r k))
        (fun e k => w0 (ix2 e k)) (fun e k => v0 (ix2 e k)) (fun k l => o0 (ix2 k l))) (g0 (ix2 0 x)) x := by
  pointwise [k0_pay1, k0_pay3]
  simp only [pay2_apply]
  rfl

theorem out9 (g0 : Vec Ideal S1x2048 .f32) : out0_9 x0 p0 q0 a0 b0 w0 v0 o0 g0 = k0_pay2 p0 w0 q0 v0 a0 b0 x0 o0 := by
  frame_out

theorem out10 (g0 : Vec Ideal S1x2048 .f32) : out0_10 x0 p0 q0 a0 b0 w0 v0 o0 g0 = k0_pay1 (k0_pay3 p0 w0 q0 v0 a0 b0 x0 o0) g0 := by
  frame_out

theorem coords_eq (j : S256x2048.Idx) : ∃ (r : Fin 256) (x : Fin 2048), j = ix2 r x :=
  ⟨j 0, j 1, by funext a; fin_cases a <;> rfl⟩

variable (m : (ℓ : Loc nD τ sig) → Buf (Elt Ideal) ℓ) (c : Dev nD)

abbrev argX : FVec Ideal S8192x2048 .f32 := m ((c.tc : Thread nD τ).loc main_arg0)
abbrev argP : FVec Ideal S8192x1024 .f32 := m ((c.tc : Thread nD τ).loc main_arg1)
abbrev argQ : FVec Ideal S8192x1024 .f32 := m ((c.tc : Thread nD τ).loc main_arg2)
abbrev argA : FVec Ideal S8192x2048 .f32 := m ((c.tc : Thread nD τ).loc main_arg3)
abbrev argB : FVec Ideal S8192x2048 .f32 := m ((c.tc : Thread nD τ).loc main_arg4)
abbrev argW : FVec Ideal S1024x2048 .f32 := m ((c.tc : Thread nD τ).loc main_arg5)
abbrev argV : FVec Ideal S1024x2048 .f32 := m ((c.tc : Thread nD τ).loc main_arg6)
abbrev argO : FVec Ideal S2048x2048 .f32 := m ((c.tc : Thread nD τ).loc main_arg7)
abbrev argN : FVec Ideal S2048 .f32 := m ((c.tc : Thread nD τ).loc main_arg8)

/-- The row of a point of the whole arrays. -/
def rowFrom (s : Fin 8192) (l : Fin 2048) : EReal :=
  rowOf (fun l => argX m c (ix2 s l)) (fun l => argA m c (ix2 s l)) (fun l => argB m c (ix2 s l)) (fun k => argP m c (ix2 s k))
    (fun k => argQ m c (ix2 s k)) (fun e k => argW m c (ix2 e k)) (fun e k => argV m c (ix2 e k)) (fun k l => argO m c (ix2 k l)) l

open Cert.Reference3Ideal.Read in
theorem ref_row (s : Fin 8192) (x : Fin 2048) :
    val_main_v18 (F := Ideal) (argX m c) (argP m c) (argQ m c) (argA m c) (argB m c) (argW m c) (argV m c) (argO m c) (ix2 s x) = rowFrom m c s x := by
  obtain ⟨x0, h0⟩ : ∃ y, y = argX m c := ⟨_, rfl⟩
  obtain ⟨x1, h1⟩ : ∃ y, y = argP m c := ⟨_, rfl⟩
  obtain ⟨x2, h2⟩ : ∃ y, y = argQ m c := ⟨_, rfl⟩
  obtain ⟨x3, h3⟩ : ∃ y, y = argA m c := ⟨_, rfl⟩
  obtain ⟨x4, h4⟩ : ∃ y, y = argB m c := ⟨_, rfl⟩
  obtain ⟨x5, h5⟩ : ∃ y, y = argW m c := ⟨_, rfl⟩
  obtain ⟨x6, h6⟩ : ∃ y, y = argV m c := ⟨_, rfl⟩
  obtain ⟨x7, h7⟩ : ∃ y, y = argO m c := ⟨_, rfl⟩
  unfold rowFrom
  rw [← h0, ← h1, ← h2, ← h3, ← h4, ← h5, ← h6, ← h7]
  pointwise [val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
  rfl

open Cert.Reference3Ideal.Read in
theorem ref_norm (s : Fin 8192) (x : Fin 2048) :
    val_main_v32 (F := Ideal) (argX m c) (argP m c) (argQ m c) (argA m c) (argB m c) (argW m c) (argV m c) (argO m c) (argN m c) (ix2 s x)
      = normed (rowFrom m c s) (argN m c (ix1 x)) x := by
  have hrow := ref_row m c s
  obtain ⟨y, hy⟩ : ∃ y, y = val_main_v18 (F := Ideal) (argX m c) (argP m c) (argQ m c) (argA m c) (argB m c) (argW m c) (argV m c) (argO m c) := ⟨_, rfl⟩
  obtain ⟨x8, h8⟩ : ∃ y, y = argN m c := ⟨_, rfl⟩
  unfold val_main_v32 val_main_v31 val_main_v28 val_main_v27 val_main_v26 val_main_v25 val_main_v24 val_main_v23 val_main_v22 val_main_v21 val_main_v20
    val_main_v19 val_main_v30 val_main_v29 val_main_cst_3 val_main_cst_4 val_main_cst_5
  rw [← hy] at hrow
  rw [← hy, ← h8]
  simp only [← hrow, normed]
  pointwise

theorem V_P (j : S8192x1024.Idx) : V m c main_v0 j = argP m c j := by
  refine (congrFun (?_ : V m c main_v0 = argP m c) _)
  unfold V
  simp only [hostOps0, List.flatten_cons, List.flatten_nil, List.append_nil, List.cons_append, List.nil_append]
  after_results_simp <;> rfl

theorem V_Q (j : S8192x1024.Idx) : V m c main_v1 j = argQ m c j := by
  refine (congrFun (?_ : V m c main_v1 = argQ m c) _)
  unfold V
  simp only [hostOps0, List.flatten_cons, List.flatten_nil, List.append_nil, List.cons_append, List.nil_append]
  after_results_simp <;> rfl

theorem V_W (j : S1024x2048.Idx) : V m c main_v2 j = argW m c j := by
  refine (congrFun (?_ : V m c main_v2 = argW m c) _)
  unfold V
  simp only [hostOps0, List.flatten_cons, List.flatten_nil, List.append_nil, List.cons_append, List.nil_append]
  after_results_simp <;> rfl

theorem V_V (j : S1024x2048.Idx) : V m c main_v3 j = argV m c j := by
  refine (congrFun (?_ : V m c main_v3 = argV m c) _)
  unfold V
  simp only [hostOps0, List.flatten_cons, List.flatten_nil, List.append_nil, List.cons_append, List.nil_append]
  after_results_simp <;> rfl

theorem V_O (j : S2048x2048.Idx) : V m c main_v4 j = argO m c j := by
  refine (congrFun (?_ : V m c main_v4 = argO m c) _)
  unfold V
  simp only [hostOps0, List.flatten_cons, List.flatten_nil, List.append_nil, List.cons_append, List.nil_append]
  after_results_simp <;> rfl

theorem V_N (l : Fin 2048) : V m c main_v5 (ix2 0 l) = argN m c (ix1 l) := by
  have e : V m c main_v5 = shapeCast S1x2048 (argN m c) shapeCasts_S2048_S1x2048 := by
    unfold V
    simp only [hostOps0, List.flatten_cons, List.flatten_nil, List.append_nil, List.cons_append, List.nil_append]
    after_results_simp <;> rfl
  rw [e]
  pointwise

/-- The rows of a point's blocks. -/
def rowAt (t : Fin cfg0.N) (r : Fin 256) : Fin 8192 :=
  ⟨t.val * 256 + r.val, by have h : t.val < 32 := lt_of_lt_of_eq t.isLt N_0; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)

variable (t : Fin cfg0.N)

theorem block0 (r : Fin 256) (l : Fin 2048) : iblk m c 0 t (ix2 r l) = argX m c (ix2 (rowAt t r) l) := by
  rw [show argX m c (ix2 (rowAt t r) l) = V m c main_arg0 (ix2 (rowAt t r) l) from by rw [V_main_arg0]]
  blk_simp [iblk]
  show V m c main_arg0 _ = _
  refine congrArg (V m c main_arg0) ?_
  blk_ext [index0 t, rowAt]

theorem block1 (r : Fin 256) (l : Fin 1024) : iblk m c 1 t (ix2 r l) = argP m c (ix2 (rowAt t r) l) := by
  rw [← V_P]
  blk_simp [iblk]
  show V m c main_v0 _ = _
  refine congrArg (V m c main_v0) ?_
  blk_ext [index1 t, rowAt]

theorem block2 (r : Fin 256) (l : Fin 1024) : iblk m c 2 t (ix2 r l) = argQ m c (ix2 (rowAt t r) l) := by
  rw [← V_Q]
  blk_simp [iblk]
  show V m c main_v1 _ = _
  refine congrArg (V m c main_v1) ?_
  blk_ext [index2 t, rowAt]

theorem block3 (r : Fin 256) (l : Fin 2048) : iblk m c 3 t (ix2 r l) = argA m c (ix2 (rowAt t r) l) := by
  rw [show argA m c (ix2 (rowAt t r) l) = V m c main_arg3 (ix2 (rowAt t r) l) from by rw [V_main_arg3]]
  blk_simp [iblk]
  show V m c main_arg3 _ = _
  refine congrArg (V m c main_arg3) ?_
  blk_ext [index3 t, rowAt]

theorem block4 (r : Fin 256) (l : Fin 2048) : iblk m c 4 t (ix2 r l) = argB m c (ix2 (rowAt t r) l) := by
  rw [show argB m c (ix2 (rowAt t r) l) = V m c main_arg4 (ix2 (rowAt t r) l) from by rw [V_main_arg4]]
  blk_simp [iblk]
  show V m c main_arg4 _ = _
  refine congrArg (V m c main_arg4) ?_
  blk_ext [index4 t, rowAt]

theorem block5 (e : Fin 1024) (l : Fin 2048) : iblk m c 5 t (ix2 e l) = argW m c (ix2 e l) := by
  rw [← V_W]
  blk_simp [iblk]
  show V m c main_v2 _ = _
  refine congrArg (V m c main_v2) ?_
  blk_ext [index5 t]

theorem block6 (e : Fin 1024) (l : Fin 2048) : iblk m c 6 t (ix2 e l) = argV m c (ix2 e l) := by
  rw [← V_V]
  blk_simp [iblk]
  show V m c main_v3 _ = _
  refine congrArg (V m c main_v3) ?_
  blk_ext [index6 t]

theorem block7 (e : Fin 2048) (l : Fin 2048) : iblk m c 7 t (ix2 e l) = argO m c (ix2 e l) := by
  rw [← V_O]
  blk_simp [iblk]
  show V m c main_v4 _ = _
  refine congrArg (V m c main_v4) ?_
  blk_ext [index7 t]

theorem block8 (l : Fin 2048) : iblk m c 8 t (ix2 0 l) = argN m c (ix1 l) := by
  rw [← V_N]
  blk_simp [iblk]
  show V m c main_v5 _ = _
  refine congrArg (V m c main_v5) ?_
  blk_ext [index8 t]

theorem row_block (r : Fin 256) :
    rowOf (fun l => iblk m c 0 t (ix2 r l)) (fun l => iblk m c 3 t (ix2 r l)) (fun l => iblk m c 4 t (ix2 r l)) (fun k => iblk m c 1 t (ix2 r k))
      (fun k => iblk m c 2 t (ix2 r k)) (fun e k => iblk m c 5 t (ix2 e k)) (fun e k => iblk m c 6 t (ix2 e k)) (fun k l => iblk m c 7 t (ix2 k l))
      = rowFrom m c (rowAt t r) := by
  funext l
  simp only [block0, block1, block2, block3, block4, block5, block6, block7]
  rfl

theorem mem_block9 (i : S8192x2048.Idx) : i ∈ ((cfg0.win 9).blk t).view.set ↔
    ∀ a : Fin 2, win0_9.index t a * S256x2048.size a ≤ (i a).val ∧ (i a).val < win0_9.index t a * S256x2048.size a + S256x2048.size a := by
  show i ∈ ((View.whole main_v6_0).slice (win0_9.rect t)).set ↔ _
  rw [View.set_slice_whole, Rect.mem_set_unit]
  exact Iff.rfl

/-- Every index of the array is in the block of its row. -/
theorem cover9 (i : S8192x2048.Idx) : ∃ t : Fin cfg0.N, (cfg0.win 9).flush t = true ∧ i ∈ ((cfg0.win 9).blk t).view.set := by
  have h0 : (i 0).val < 8192 := (i 0).isLt
  have h1 : (i 1).val < 2048 := (i 1).isLt
  obtain ⟨t, ht⟩ : ∃ t : Fin cfg0.N, t.val = (i 0).val / 256 := ⟨⟨_, lt_of_lt_of_eq (by omega : (i 0).val / 256 < 32) N_0.symm⟩, rfl⟩
  refine ⟨t, flush0_9 t, ?_⟩
  rw [mem_block9]
  have e0 : win0_9.index t (0 : Fin 2) = t.val := congrFun (index9 t) 0
  have e1 : win0_9.index t (1 : Fin 2) = 0 := congrFun (index9 t) 1
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 2048 ≤ (i 1).val ∧ (i 1).val < win0_9.index t (1 : Fin 2) * 2048 + 2048; omega

theorem mem_block10 (i : S8192x2048.Idx) : i ∈ ((cfg0.win 10).blk t).view.set ↔
    ∀ a : Fin 2, win0_10.index t a * S256x2048.size a ≤ (i a).val ∧ (i a).val < win0_10.index t a * S256x2048.size a + S256x2048.size a := by
  show i ∈ ((View.whole main_v6_1).slice (win0_10.rect t)).set ↔ _
  rw [View.set_slice_whole, Rect.mem_set_unit]
  exact Iff.rfl

/-- Every index of the array is in the block of its row. -/
theorem cover10 (i : S8192x2048.Idx) : ∃ t : Fin cfg0.N, (cfg0.win 10).flush t = true ∧ i ∈ ((cfg0.win 10).blk t).view.set := by
  have h0 : (i 0).val < 8192 := (i 0).isLt
  have h1 : (i 1).val < 2048 := (i 1).isLt
  obtain ⟨t, ht⟩ : ∃ t : Fin cfg0.N, t.val = (i 0).val / 256 := ⟨⟨_, lt_of_lt_of_eq (by omega : (i 0).val / 256 < 32) N_0.symm⟩, rfl⟩
  refine ⟨t, flush0_10 t, ?_⟩
  rw [mem_block10]
  have e0 : win0_10.index t (0 : Fin 2) = t.val := congrFun (index10 t) 0
  have e1 : win0_10.index t (1 : Fin 2) = 0 := congrFun (index10 t) 1
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 2048 ≤ (i 1).val ∧ (i 1).val < win0_10.index t (1 : Fin 2) * 2048 + 2048; omega

/-- The launch's first array is the reference's. -/
theorem array9 : (dats m 0 c).arrAt 9 cfg0.N
    = Cert.Reference3Ideal.Read.val_main_v18 (F := Ideal) (argX m c) (argP m c) (argQ m c) (argA m c) (argB m c) (argW m c) (argV m c) (argO m c) := by
  refine (dats m 0 c).arrAt_eq_of_cover 9 _ (fun t hf => ?_) cover9
  rw [flushed9, out9]
  funext j
  obtain ⟨r, x, rfl⟩ := coords_eq j
  refine (pay2_apply _ _ _ _ _ _ _ _ r x).trans ?_
  rw [row_block, ← ref_row]
  blk_simp
  refine congrArg _ ?_
  blk_ext [index9 t, rowAt]

/-- The launch's second array is the reference's. -/
theorem array10 : (dats m 0 c).arrAt 10 cfg0.N
    = Cert.Reference3Ideal.Read.val_main_v32 (F := Ideal) (argX m c) (argP m c) (argQ m c) (argA m c) (argB m c) (argW m c) (argV m c) (argO m c) (argN m c) := by
  refine (dats m 0 c).arrAt_eq_of_cover 10 _ (fun t hf => ?_) cover10
  rw [flushed10, out10]
  funext j
  obtain ⟨r, x, rfl⟩ := coords_eq j
  refine (pay3_apply _ _ _ _ _ _ _ _ _ r x).trans ?_
  rw [row_block, block8, ← ref_norm]
  blk_simp
  refine congrArg _ ?_
  blk_ext [index10 t, rowAt]

end Cert.Kernel3Ideal.Merge

namespace Cert.Proof.Claims

open Cert.Kernel3Ideal.Merge Idealize.ShloMosaic Idealize.SL.Sem

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Both programs end with the reference's two arrays of the nine inputs. -/
theorem algebraic3 : Cert.algebraic_Kernel3Ideal_Reference3Ideal := by
  intro m g m' g' hpre hagree
  refine ⟨fun c => Cert.Reference3Ideal.Read.val_main_v18 (F := Ideal) (argX m c) (argP m c) (argQ m c) (argA m c) (argB m c) (argW m c) (argV m c) (argO m c),
    fun c => Cert.Reference3Ideal.Read.val_main_v32 (F := Ideal) (argX m c) (argP m c) (argQ m c) (argA m c) (argB m c) (argW m c) (argV m c) (argO m c) (argN m c),
    ?_, ?_⟩
  · exact (θ_run Cert.Kernel3Ideal.defs _ _).mono (fun r h c => ⟨(h c).1.trans (array9 m c), (h c).2.1.trans (array10 m c), (h c).2.2⟩)
      (Cert.Kernel3Ideal.Value.run_blocks (F := Ideal) m g)
  · refine (θ_run Cert.Reference3Ideal.defs _ _).mono (fun r h c => ⟨(h c).1.trans ?_, (h c).2.1.trans ?_, (h c).2.2⟩)
      (Cert.Reference3Ideal.Value.run (F := Ideal) m' g')
    · obtain ⟨e0, e1, e2, e3, e4, e5, e6, e7, e8⟩ := hagree c
      rw [Cert.Reference3Ideal.Read.val_main_v18_eq, e0, e1, e2, e3, e4, e5, e6, e7]
    · obtain ⟨e0, e1, e2, e3, e4, e5, e6, e7, e8⟩ := hagree c
      rw [Cert.Reference3Ideal.Read.val_main_v32_eq, e0, e1, e2, e3, e4, e5, e6, e7, e8]

end Cert.Proof.Claims

end
-- ==== Proof.Norm.lean ====
/- The norm before the projection, block of rows by block of rows. -/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.Claim
public import Idealize.ShloMosaic.Lib.Pointwise

@[expose] public section

noncomputable section

namespace Cert.Kernel4Ideal.Norm

open Cert.Kernel4Ideal Cert.Kernel4Ideal.Gen Cert.Kernel4Ideal.Value Idealize.ShloMosaic Idealize.ShloMosaic.TcCoe Idealize.SL.Sem
open Idealize.ShloMosaic.Pipeline (Dat)

/-- One entry of a row scaled by the inverse root of its mean square, and by the gain. -/
def normed (x : Fin 2048 → EReal) (gain : EReal) (l : Fin 2048) : EReal :=
  x l * Ideal.rsqrt (Ideal.div (∑ k, x k * x k) (Ideal.ofBits .f32 0x45000000#32) + Ideal.ofBits .f32 0x358637BD#32) * gain

theorem pay_apply (a : Vec Ideal S512x2048 .f32) (g : Vec Ideal S1x2048 .f32) (r : Fin 512) (x : Fin 2048) :
    k0_pay1 a g (ix2 r x) = normed (fun k => a (ix2 r k)) (g (ix2 0 x)) x := by
  pointwise [k0_pay1]
  rfl

open Cert.Reference4Ideal.Read in
theorem ref_apply (x0 : FVec Ideal S8192x2048 .f32) (x1 : FVec Ideal S2048 .f32) (s : Fin 8192) (x : Fin 2048) :
    val_main_v13 (F := Ideal) x0 x1 (ix2 s x) = normed (fun k => x0 (ix2 s k)) (x1 (ix1 x)) x := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem out_eq (x0 : Vec Ideal S512x2048 .f32) (x1 : Vec Ideal S1x2048 .f32) : out0_2 x0 x1 = k0_pay1 x0 x1 := by
  frame_out

theorem coords_eq (j : S512x2048.Idx) : ∃ (r : Fin 512) (x : Fin 2048), j = ix2 r x :=
  ⟨j 0, j 1, by funext a; fin_cases a <;> rfl⟩

variable (m : (ℓ : Loc nD τ sig) → Buf (Elt Ideal) ℓ) (c : Dev nD)

abbrev argX : FVec Ideal S8192x2048 .f32 := m ((c.tc : Thread nD τ).loc main_arg0)
abbrev argN : FVec Ideal S2048 .f32 := m ((c.tc : Thread nD τ).loc main_arg1)

theorem V_N (l : Fin 2048) : V m c main_v0 (ix2 0 l) = argN m c (ix1 l) := by
  have e : V m c main_v0 = shapeCast S1x2048 (argN m c) shapeCasts_S2048_S1x2048 := by
    unfold V
    simp only [hostOps0, List.flatten_cons, List.flatten_nil, List.append_nil, List.cons_append, List.nil_append]
    after_results_simp <;> rfl
  rw [e]
  pointwise

/-- The rows of a point's blocks. -/
def rowAt (t : Fin cfg0.N) (r : Fin 512) : Fin 8192 :=
  ⟨t.val * 512 + r.val, by have h : t.val < 16 := lt_of_lt_of_eq t.isLt N_0; omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

variable (t : Fin cfg0.N)

theorem block0 (r : Fin 512) (k : Fin 2048) : iblk m c 0 t (ix2 r k) = argX m c (ix2 (rowAt t r) k) := by
  rw [show argX m c (ix2 (rowAt t r) k) = V m c main_arg0 (ix2 (rowAt t r) k) from by rw [V_main_arg0]]
  blk_simp [iblk]
  show V m c main_arg0 _ = _
  refine congrArg (V m c main_arg0) ?_
  blk_ext [index0 t, rowAt]

theorem block1 (l : Fin 2048) : iblk m c 1 t (ix2 0 l) = argN m c (ix1 l) := by
  rw [← V_N]
  blk_simp [iblk]
  show V m c main_v0 _ = _
  refine congrArg (V m c main_v0) ?_
  blk_ext [index1 t]

theorem mem_block2 (i : S8192x2048.Idx) : i ∈ ((cfg0.win 2).blk t).view.set ↔
    ∀ a : Fin 2, win0_2.index t a * S512x2048.size a ≤ (i a).val ∧ (i a).val < win0_2.index t a * S512x2048.size a + S512x2048.size a := by
  show i ∈ ((View.whole main_v1).slice (win0_2.rect t)).set ↔ _
  rw [View.set_slice_whole, Rect.mem_set_unit]
  exact Iff.rfl

/-- Every index of the array is in the block of its row. -/
theorem cover2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  obtain ⟨t, ht⟩ : ∃ t : Fin cfg0.N, t.val = (i 0).val / 512 := ⟨⟨_, lt_of_lt_of_eq (by omega : (i 0).val / 512 < 16) N_0.symm⟩, rfl⟩
  refine ⟨t, flush0_2 t, ?_⟩
  rw [mem_block2]
  have e0 : win0_2.index t (0 : Fin 2) = t.val := congrFun (index2 t) 0
  have e1 : win0_2.index t (1 : Fin 2) = 0 := congrFun (index2 t) 1
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The launch's array is the reference's. -/
theorem array2 : (dats m 0 c).arrAt 2 cfg0.N = Cert.Reference4Ideal.Read.val_main_v13 (F := Ideal) (argX m c) (argN m c) := by
  refine (dats m 0 c).arrAt_eq_of_cover 2 _ (fun t hf => ?_) cover2
  rw [flushed2, out_eq]
  funext j
  obtain ⟨r, x, rfl⟩ := coords_eq j
  refine (pay_apply _ _ r x).trans ?_
  simp only [block0, block1]
  rw [← ref_apply]
  blk_simp
  refine congrArg _ ?_
  blk_ext [index2 t, rowAt]

end Cert.Kernel4Ideal.Norm

namespace Cert.Proof.Claims

open Cert.Kernel4Ideal.Norm Idealize.ShloMosaic Idealize.SL.Sem

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Both programs end with the reference's normed rows. -/
theorem algebraic4 : Cert.algebraic_Kernel4Ideal_Reference4Ideal := by
  intro m g m' g' hpre hagree
  refine ⟨fun c => Cert.Reference4Ideal.Read.val_main_v13 (F := Ideal) (argX m c) (argN m c), ?_, ?_⟩
  · exact (θ_run Cert.Kernel4Ideal.defs _ _).mono (fun r h c => ⟨(h c).1.trans (array2 m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    · obtain ⟨e0, e1⟩ := hagree c
      rw [Cert.Reference4Ideal.Read.val_main_v13_eq, e0, e1]

end Cert.Proof.Claims

end
-- ==== Proof.ProjKeys.lean ====
/- The product of the normed rows with the keys' columns of the projection's weight, as the cache has it and by head. -/
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit
public import Idealize.ShloMosaic.Lib.Claim
public import Idealize.ShloMosaic.Lib.Pointwise

@[expose] public section

noncomputable section

namespace Cert.Kernel5Ideal.Product

open Cert.Kernel5Ideal Cert.Kernel5Ideal.Gen Cert.Kernel5Ideal.Value Idealize.ShloMosaic Idealize.ShloMosaic.TcCoe Idealize.SL.Sem
open Idealize.ShloMosaic.Pipeline (Dat)

/-- One entry of the product. -/
def dot (p w : Fin 2048 → EReal) : EReal := (∑ k, p k * w k)

theorem pay_apply (a : Vec Ideal S1024x2048 .bf16) (w : Vec Ideal S2048x1024 .bf16) (r : Fin 1024) (x : Fin 1024) :
    k0_pay4 a w (ix2 r x) = dot (fun k => a (ix2 r k)) (fun k => w (ix2 k x)) := by
  pointwise [k0_pay4]
  rfl

open Cert.Reference5Ideal.Read in
theorem ref_apply (x0 : FVec Ideal S8192x2048 .f32) (x1 : FVec Ideal S2048x1024 .f32) (s : Fin 8192) (x : Fin 1024) :
    val_main_v0 (F := Ideal) x0 x1 (ix2 s x) = dot (fun k => x0 (ix2 s k)) (fun k => x1 (ix2 k x)) := by
  pointwise [val_main_v0]
  rfl

/-- The column of an entry of a head. -/
def lane (h : Fin 8) (d : Fin 128) : Fin 1024 := ⟨h.val * 128 + d.val, by omega⟩

open Cert.Reference5Ideal.Read in
theorem ref_head (x0 : FVec Ideal S8192x2048 .f32) (x1 : FVec Ideal S2048x1024 .f32) (h : Fin 8) (s : Fin 8192) (d : Fin 128) :
    val_main_v3 (F := Ideal) x0 x1 (ix3 h s d) = dot (fun k => x0 (ix2 s k)) (fun k => x1 (ix2 k (lane h d))) := by
  have e : idx_main_v1 (idx_main_v2 (ix3 h s d)) = ix2 s (lane h d) := by
    funext a
    refine Fin.ext ?_
    have hh := h.isLt
    have hs := s.isLt
    have hd := d.isLt
    match a with
    | ⟨0, _⟩ => show _ = s.val; simp only [ix3]; omega
    | ⟨1, _⟩ => show _ = h.val * 128 + d.val; simp only [ix3]; omega
  have e0 : val_main_v0 (F := Ideal) x0 x1 (ix2 s (lane h d)) = ∑ k, x0 (ix2 s k) * x1 (ix2 k (lane h d)) := by
    pointwise [val_main_v0]
  rw [val_main_v3_apply, val_main_v2_apply, val_main_v1_apply, e, e0]
  rfl

theorem out_head (x0 : Vec Ideal S1024x2048 .bf16) (x1 : Vec Ideal S2048x1024 .bf16) (h : Fin 8) (r : Fin 1024) (d : Fin 128) :
    out0_3 x0 x1 (ix3 h r d) = dot (fun k => x0 (ix2 r k)) (fun k => x1 (ix2 k (lane h d))) := by
  have e : out0_3 x0 x1 (ix3 h r d) = E3 x0 x1 (ix3 h r d) := by
    refine (canon3_eq (View.ld x0 r0_0) (View.ld x1 r0_1) (ix3 h r d)).trans ?_
    rw [show View.ld x0 r0_0 = x0 from by frame_out, show View.ld x1 r0_1 = x1 from by frame_out]
  rw [e, ← pay_apply]
  refine congrArg (k0_pay4 x0 x1) ?_
  funext a
  match a with
  | ⟨0, _⟩ => rfl
  | ⟨1, _⟩ => rfl

theorem heads_eq (j : S8x1024x128.Idx) : ∃ (h : Fin 8) (r : Fin 1024) (d : Fin 128), j = ix3 h r d :=
  ⟨j 0, j 1, j 2, by funext a; fin_cases a <;> rfl⟩

theorem out_eq (x0 : Vec Ideal S1024x2048 .bf16) (x1 : Vec Ideal S2048x1024 .bf16) : out0_2 x0 x1 = k0_pay4 x0 x1 := by
  frame_out

theorem coords_eq (j : S1024x1024.Idx) : ∃ (r : Fin 1024) (x : Fin 1024), j = ix2 r x :=
  ⟨j 0, j 1, by funext a; fin_cases a <;> rfl⟩

variable (m : (ℓ : Loc nD τ sig) → Buf (Elt Ideal) ℓ) (c : Dev nD)

abbrev argH : FVec Ideal S8192x2048 .f32 := m ((c.tc : Thread nD τ).loc main_arg0)
abbrev argW : FVec Ideal S2048x1024 .f32 := m ((c.tc : Thread nD τ).loc main_arg1)

theorem V_H (j : S8192x2048.Idx) : V m c main_v0 j = argH m c j := by
  refine (congrFun (?_ : V m c main_v0 = argH m c) _)
  unfold V
  simp only [hostOps0, List.flatten_cons, List.flatten_nil, List.append_nil, List.cons_append, List.nil_append]
  after_results_simp <;> rfl

theorem V_W (j : S2048x1024.Idx) : V m c main_v1 j = argW m c j := by
  refine (congrFun (?_ : V m c main_v1 = argW m c) _)
  unfold V
  simp only [hostOps0, List.flatten_cons, List.flatten_nil, List.append_nil, List.cons_append, List.nil_append]
  after_results_simp <;> rfl

/-- The rows of a point's blocks, and its columns. -/
def rowAt (t : Fin cfg0.N) (r : Fin 1024) : Fin 8192 :=
  ⟨t.val % 8 * 1024 + r.val, by omega⟩
def colAt (t : Fin cfg0.N) (x : Fin 1024) : Fin 1024 :=
  ⟨t.val / 8 * 1024 + x.val, by have h : t.val < 8 := lt_of_lt_of_eq t.isLt N_0; omega⟩

theorem index0 : ∀ t : Fin cfg0.N, win0_0.index t = ![t.val % 8, 0] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val % 8, t.val / 8] := (by decide +kernel : ∀ t : Fin grid0.N, _)
theorem index3 : ∀ t : Fin cfg0.N, win0_3.index t = ![t.val / 8, t.val % 8, 0] := (by decide +kernel : ∀ t : Fin grid0.N, _)

variable (t : Fin cfg0.N)

theorem block0 (r : Fin 1024) (k : Fin 2048) : iblk m c 0 t (ix2 r k) = argH m c (ix2 (rowAt t r) k) := by
  rw [← V_H]
  blk_simp [iblk]
  show V m c main_v0 _ = _
  refine congrArg (V m c main_v0) ?_
  blk_ext [index0 t, rowAt]

theorem block1 (k : Fin 2048) (x : Fin 1024) : iblk m c 1 t (ix2 k x) = argW m c (ix2 k (colAt t x)) := by
  rw [← V_W]
  blk_simp [iblk]
  show V m c main_v1 _ = _
  refine congrArg (V m c main_v1) ?_
  blk_ext [index1 t, colAt]

theorem mem_block2 (i : S8192x1024.Idx) : i ∈ ((cfg0.win 2).blk t).view.set ↔
    ∀ a : Fin 2, win0_2.index t a * S1024x1024.size a ≤ (i a).val ∧ (i a).val < win0_2.index t a * S1024x1024.size a + S1024x1024.size a := by
  show i ∈ ((View.whole main_v2_0).slice (win0_2.rect t)).set ↔ _
  rw [View.set_slice_whole, Rect.mem_set_unit]
  exact Iff.rfl

/-- Every index of the array is in the block of its rows and columns. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  obtain ⟨t, ht⟩ : ∃ t : Fin cfg0.N, t.val = (i 1).val / 1024 * 8 + (i 0).val / 1024 :=
    ⟨⟨_, lt_of_lt_of_eq (by omega : (i 1).val / 1024 * 8 + (i 0).val / 1024 < 8) N_0.symm⟩, rfl⟩
  refine ⟨t, flush0_2 t, ?_⟩
  rw [mem_block2]
  have e0 : win0_2.index t (0 : Fin 2) = t.val % 8 := congrFun (index2 t) 0
  have e1 : win0_2.index t (1 : Fin 2) = t.val / 8 := congrFun (index2 t) 1
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The launch's array is the reference's. -/
theorem array2 : (dats m 0 c).arrAt 2 cfg0.N = Cert.Reference5Ideal.Read.val_main_v0 (F := Ideal) (argH m c) (argW m c) := by
  refine (dats m 0 c).arrAt_eq_of_cover 2 _ (fun t hf => ?_) cover2
  rw [flushed2, out_eq]
  funext j
  obtain ⟨r, x, rfl⟩ := coords_eq j
  refine (pay_apply _ _ r x).trans ?_
  simp only [block0, block1]
  rw [← ref_apply]
  blk_simp
  refine congrArg _ ?_
  blk_ext [index2 t, rowAt, colAt]

theorem mem_block3 (i : S8x8192x128.Idx) : i ∈ ((cfg0.win 3).blk t).view.set ↔
    ∀ a : Fin 3, win0_3.index t a * S8x1024x128.size a ≤ (i a).val ∧ (i a).val < win0_3.index t a * S8x1024x128.size a + S8x1024x128.size a := by
  show i ∈ ((View.whole main_v2_1).slice (win0_3.rect t)).set ↔ _
  rw [View.set_slice_whole, Rect.mem_set_unit]
  exact Iff.rfl

/-- Every index of the array by head is in the block of its rows. -/
theorem cover3 (i : S8x8192x128.Idx) : ∃ t : Fin cfg0.N, (cfg0.win 3).flush t = true ∧ i ∈ ((cfg0.win 3).blk t).view.set := by
  have h0 : (i 0).val < 8 := (i 0).isLt
  have h1 : (i 1).val < 8192 := (i 1).isLt
  have h2 : (i 2).val < 128 := (i 2).isLt
  obtain ⟨t, ht⟩ : ∃ t : Fin cfg0.N, t.val = (i 1).val / 1024 :=
    ⟨⟨_, lt_of_lt_of_eq (by omega : (i 1).val / 1024 < 8) N_0.symm⟩, rfl⟩
  refine ⟨t, flush0_3 t, ?_⟩
  rw [mem_block3]
  have e0 : win0_3.index t (0 : Fin 3) = t.val / 8 := congrFun (index3 t) 0
  have e1 : win0_3.index t (1 : Fin 3) = t.val % 8 := congrFun (index3 t) 1
  have e2 : win0_3.index t (2 : Fin 3) = 0 := congrFun (index3 t) 2
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

theorem colAt_eq (x : Fin 1024) : colAt t x = x :=
  Fin.ext (by have h : t.val < 8 := lt_of_lt_of_eq t.isLt N_0; simp only [colAt]; omega)

/-- The launch's array by head is the reference's. -/
theorem array3 : (dats m 0 c).arrAt 3 cfg0.N = Cert.Reference5Ideal.Read.val_main_v3 (F := Ideal) (argH m c) (argW m c) := by
  refine (dats m 0 c).arrAt_eq_of_cover 3 _ (fun t hf => ?_) cover3
  have ht : t.val < 8 := lt_of_lt_of_eq t.isLt N_0
  rw [flushed3]
  funext j
  obtain ⟨h, r, d, rfl⟩ := heads_eq j
  refine (out_head _ _ h r d).trans ?_
  simp only [block0, block1, colAt_eq]
  rw [← ref_head]
  blk_simp
  refine congrArg _ ?_
  blk_ext [index3 t, rowAt]

end Cert.Kernel5Ideal.Product

namespace Cert.Proof.Claims

open Cert.Kernel5Ideal.Product Idealize.ShloMosaic Idealize.SL.Sem

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Both programs end with the reference's product of the two inputs. -/
theorem algebraic5 : Cert.algebraic_Kernel5Ideal_Reference5Ideal := by
  intro m g m' g' hpre hagree
  refine ⟨fun c => Cert.Reference5Ideal.Read.val_main_v0 (F := Ideal) (argH m c) (argW m c),
    fun c => Cert.Reference5Ideal.Read.val_main_v3 (F := Ideal) (argH m c) (argW m c), ?_, ?_⟩
  · exact (θ_run Cert.Kernel5Ideal.defs _ _).mono (fun r h c => ⟨(h c).1.trans (array2 m c), (h c).2.1.trans (array3 m c), (h c).2.2⟩)
      (Cert.Kernel5Ideal.Value.run_blocks (F := Ideal) m g)
  · refine (θ_run Cert.Reference5Ideal.defs _ _).mono (fun r h c => ⟨(h c).1.trans ?_, (h c).2.1.trans ?_, (h c).2.2⟩)
      (Cert.Reference5Ideal.Value.run (F := Ideal) m' g')
    · obtain ⟨e0, e1⟩ := hagree c
      rw [Cert.Reference5Ideal.Read.val_main_v0_eq, e0, e1]
    · obtain ⟨e0, e1⟩ := hagree c
      rw [Cert.Reference5Ideal.Read.val_main_v3_eq, e0, e1]

end Cert.Proof.Claims

end
-- ==== Proof.ProjIndexKey.lean ====
/- The product of the normed rows with the columns of the indexer's key and weights. -/
module

public import proofs.«01_k».proof.Defs
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit
public import Idealize.ShloMosaic.Lib.Claim
public import Idealize.ShloMosaic.Lib.Pointwise

@[expose] public section

noncomputable section

namespace Cert.Kernel6Ideal.Product

open Cert.Kernel6Ideal Cert.Kernel6Ideal.Gen Cert.Kernel6Ideal.Value Idealize.ShloMosaic Idealize.ShloMosaic.TcCoe Idealize.SL.Sem
open Idealize.ShloMosaic.Pipeline (Dat)

/-- One entry of the product. -/
def dot (p w : Fin 2048 → EReal) : EReal := (∑ k, p k * w k)

theorem pay_apply (a : Vec Ideal S1024x2048 .bf16) (w : Vec Ideal S2048x128 .bf16) (r : Fin 1024) (x : Fin 128) :
    k0_pay1 a w (ix2 r x) = dot (fun k => a (ix2 r k)) (fun k => w (ix2 k x)) := by
  pointwise [k0_pay1]
  rfl

open Cert.Reference6Ideal.Read in
theorem ref_apply (x0 : FVec Ideal S8192x2048 .f32) (x1 : FVec Ideal S2048x128 .f32) (s : Fin 8192) (x : Fin 128) :
    val_main_v0 (F := Ideal) x0 x1 (ix2 s x) = dot (fun k => x0 (ix2 s k)) (fun k => x1 (ix2 k x)) := by
  pointwise [val_main_v0]
  rfl

theorem out_eq (x0 : Vec Ideal S1024x2048 .bf16) (x1 : Vec Ideal S2048x128 .bf16) : out0_2 x0 x1 = k0_pay1 x0 x1 := by
  frame_out

theorem coords_eq (j : S1024x128.Idx) : ∃ (r : Fin 1024) (x : Fin 128), j = ix2 r x :=
  ⟨j 0, j 1, by funext a; fin_cases a <;> rfl⟩

variable (m : (ℓ : Loc nD τ sig) → Buf (Elt Ideal) ℓ) (c : Dev nD)

abbrev argH : FVec Ideal S8192x2048 .f32 := m ((c.tc : Thread nD τ).loc main_arg0)
abbrev argW : FVec Ideal S2048x128 .f32 := m ((c.tc : Thread nD τ).loc main_arg1)

theorem V_H (j : S8192x2048.Idx) : V m c main_v0 j = argH m c j := by
  refine (congrFun (?_ : V m c main_v0 = argH m c) _)
  unfold V
  simp only [hostOps0, List.flatten_cons, List.flatten_nil, List.append_nil, List.cons_append, List.nil_append]
  after_results_simp <;> rfl

theorem V_W (j : S2048x128.Idx) : V m c main_v1 j = argW m c j := by
  refine (congrFun (?_ : V m c main_v1 = argW m c) _)
  unfold V
  simp only [hostOps0, List.flatten_cons, List.flatten_nil, List.append_nil, List.cons_append, List.nil_append]
  after_results_simp <;> rfl

/-- The rows of a point's blocks, and its columns. -/
def rowAt (t : Fin cfg0.N) (r : Fin 1024) : Fin 8192 :=
  ⟨t.val % 8 * 1024 + r.val, by omega⟩
def colAt (t : Fin cfg0.N) (x : Fin 128) : Fin 128 :=
  ⟨t.val / 8 * 128 + x.val, by have h : t.val < 8 := lt_of_lt_of_eq t.isLt N_0; omega⟩

theorem index0 : ∀ t : Fin cfg0.N, win0_0.index t = ![t.val % 8, 0] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val % 8, t.val / 8] := (by decide +kernel : ∀ t : Fin grid0.N, _)

variable (t : Fin cfg0.N)

theorem block0 (r : Fin 1024) (k : Fin 2048) : iblk m c 0 t (ix2 r k) = argH m c (ix2 (rowAt t r) k) := by
  rw [← V_H]
  blk_simp [iblk]
  show V m c main_v0 _ = _
  refine congrArg (V m c main_v0) ?_
  blk_ext [index0 t, rowAt]

theorem block1 (k : Fin 2048) (x : Fin 128) : iblk m c 1 t (ix2 k x) = argW m c (ix2 k (colAt t x)) := by
  rw [← V_W]
  blk_simp [iblk]
  show V m c main_v1 _ = _
  refine congrArg (V m c main_v1) ?_
  blk_ext [index1 t, colAt]

theorem mem_block2 (i : S8192x128.Idx) : i ∈ ((cfg0.win 2).blk t).view.set ↔
    ∀ a : Fin 2, win0_2.index t a * S1024x128.size a ≤ (i a).val ∧ (i a).val < win0_2.index t a * S1024x128.size a + S1024x128.size a := by
  show i ∈ ((View.whole main_v2).slice (win0_2.rect t)).set ↔ _
  rw [View.set_slice_whole, Rect.mem_set_unit]
  exact Iff.rfl

/-- Every index of the array is in the block of its rows and columns. -/
theorem cover2 (i : S8192x128.Idx) : ∃ t : Fin cfg0.N, (cfg0.win 2).flush t = true ∧ i ∈ ((cfg0.win 2).blk t).view.set := by
  have h0 : (i 0).val < 8192 := (i 0).isLt
  have h1 : (i 1).val < 128 := (i 1).isLt
  obtain ⟨t, ht⟩ : ∃ t : Fin cfg0.N, t.val = (i 1).val / 128 * 8 + (i 0).val / 1024 :=
    ⟨⟨_, lt_of_lt_of_eq (by omega : (i 1).val / 128 * 8 + (i 0).val / 1024 < 8) N_0.symm⟩, rfl⟩
  refine ⟨t, flush0_2 t, ?_⟩
  rw [mem_block2]
  have e0 : win0_2.index t (0 : Fin 2) = t.val % 8 := congrFun (index2 t) 0
  have e1 : win0_2.index t (1 : Fin 2) = t.val / 8 := congrFun (index2 t) 1
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The launch's array is the reference's. -/
theorem array2 : (dats m 0 c).arrAt 2 cfg0.N = Cert.Reference6Ideal.Read.val_main_v0 (F := Ideal) (argH m c) (argW m c) := by
  refine (dats m 0 c).arrAt_eq_of_cover 2 _ (fun t hf => ?_) cover2
  rw [flushed2, out_eq]
  funext j
  obtain ⟨r, x, rfl⟩ := coords_eq j
  refine (pay_apply _ _ r x).trans ?_
  simp only [block0, block1]
  rw [← ref_apply]
  blk_simp
  refine congrArg _ ?_
  blk_ext [index2 t, rowAt, colAt]

end Cert.Kernel6Ideal.Product

namespace Cert.Proof.Claims

open Cert.Kernel6Ideal.Product Idealize.ShloMosaic Idealize.SL.Sem

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Both programs end with the reference's product of the two inputs. -/
theorem algebraic6 : Cert.algebraic_Kernel6Ideal_Reference6Ideal := by
  intro m g m' g' hpre hagree
  refine ⟨fun c => Cert.Reference6Ideal.Read.val_main_v0 (F := Ideal) (argH m c) (argW m c), ?_, ?_⟩
  · exact (θ_run Cert.Kernel6Ideal.defs _ _).mono (fun r h c => ⟨(h c).1.trans (array2 m c), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    · obtain ⟨e0, e1⟩ := hagree c
      rw [Cert.Reference6Ideal.Read.val_main_v0_eq, e0, e1]

end Cert.Proof.Claims

end
-- ==== Proof.ProjRecurrent.lean ====
/- The product of the normed rows with the columns of the recurrent branch's input. -/
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit
public import Idealize.ShloMosaic.Lib.Claim
public import Idealize.ShloMosaic.Lib.Pointwise

@[expose] public section

noncomputable section

namespace Cert.Kernel7Ideal.Product

open Cert.Kernel7Ideal Cert.Kernel7Ideal.Gen Cert.Kernel7Ideal.Value Idealize.ShloMosaic Idealize.ShloMosaic.TcCoe Idealize.SL.Sem
open Idealize.ShloMosaic.Pipeline (Dat)

/-- One entry of the product. -/
def dot (p w : Fin 2048 → EReal) : EReal := (∑ k, p k * w k)

theorem pay_apply (a : Vec Ideal S1024x2048 .bf16) (w : Vec Ideal S2048x1024 .bf16) (r : Fin 1024) (x : Fin 1024) :
    k0_pay1 a w (ix2 r x) = dot (fun k => a (ix2 r k)) (fun k => w (ix2 k x)) := by
  pointwise [k0_pay1]
  rfl

open Cert.Reference7Ideal.Read in
theorem ref_apply (x0 : FVec Ideal S8192x2048 .f32) (x1 : FVec Ideal S2048x1024 .f32) (s : Fin 8192) (x : Fin 1024) :
    val_main_v0 (F := Ideal) x0 x1 (ix2 s x) = dot (fun k => x0 (ix2 s k)) (fun k => x1 (ix2 k x)) := by
  pointwise [val_main_v0]
  rfl

theorem out_eq (x0 : Vec Ideal S1024x2048 .bf16) (x1 : Vec Ideal S2048x1024 .bf16) : out0_2 x0 x1 = k0_pay1 x0 x1 := by
  frame_out

theorem coords_eq (j : S1024x1024.Idx) : ∃ (r : Fin 1024) (x : Fin 1024), j = ix2 r x :=
  ⟨j 0, j 1, by funext a; fin_cases a <;> rfl⟩

variable (m : (ℓ : Loc nD τ sig) → Buf (Elt Ideal) ℓ) (c : Dev nD)

abbrev argH : FVec Ideal S8192x2048 .f32 := m ((c.tc : Thread nD τ).loc main_arg0)
abbrev argW : FVec Ideal S2048x1024 .f32 := m ((c.tc : Thread nD τ).loc main_arg1)

theorem V_H (j : S8192x2048.Idx) : V m c main_v0 j = argH m c j := by
  refine (congrFun (?_ : V m c main_v0 = argH m c) _)
  unfold V
  simp only [hostOps0, List.flatten_cons, List.flatten_nil, List.append_nil, List.cons_append, List.nil_append]
  after_results_simp <;> rfl

theorem V_W (j : S2048x1024.Idx) : V m c main_v1 j = argW m c j := by
  refine (congrFun (?_ : V m c main_v1 = argW m c) _)
  unfold V
  simp only [hostOps0, List.flatten_cons, List.flatten_nil, List.append_nil, List.cons_append, List.nil_append]
  after_results_simp <;> rfl

/-- The rows of a point's blocks, and its columns. -/
def rowAt (t : Fin cfg0.N) (r : Fin 1024) : Fin 8192 :=
  ⟨t.val % 8 * 1024 + r.val, by omega⟩
def colAt (t : Fin cfg0.N) (x : Fin 1024) : Fin 1024 :=
  ⟨t.val / 8 * 1024 + x.val, by have h : t.val < 8 := lt_of_lt_of_eq t.isLt N_0; omega⟩

theorem index0 : ∀ t : Fin cfg0.N, win0_0.index t = ![t.val % 8, 0] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val % 8, t.val / 8] := (by decide +kernel : ∀ t : Fin grid0.N, _)

variable (t : Fin cfg0.N)

theorem block0 (r : Fin 1024) (k : Fin 2048) : iblk m c 0 t (ix2 r k) = argH m c (ix2 (rowAt t r) k) := by
  rw [← V_H]
  blk_simp [iblk]
  show V m c main_v0 _ = _
  refine congrArg (V m c main_v0) ?_
  blk_ext [index0 t, rowAt]

theorem block1 (k : Fin 2048) (x : Fin 1024) : iblk m c 1 t (ix2 k x) = argW m c (ix2 k (colAt t x)) := by
  rw [← V_W]
  blk_simp [iblk]
  show V m c main_v1 _ = _
  refine congrArg (V m c main_v1) ?_
  blk_ext [index1 t, colAt]

theorem mem_block2 (i : S8192x1024.Idx) : i ∈ ((cfg0.win 2).blk t).view.set ↔
    ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the array is in the block of its rows and columns. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  obtain ⟨t, ht⟩ : ∃ t : Fin cfg0.N, t.val = (i 1).val / 1024 * 8 + (i 0).val / 1024 :=
    ⟨⟨_, lt_of_lt_of_eq (by omega : (i 1).val / 1024 * 8 + (i 0).val / 1024 < 8) N_0.symm⟩, rfl⟩
  refine ⟨t, flush0_2 t, ?_⟩
  rw [mem_block2]
  have e0 : win0_2.index t (0 : Fin 2) = t.val % 8 := congrFun (index2 t) 0
  have e1 : win0_2.index t (1 : Fin 2) = t.val / 8 := congrFun (index2 t) 1
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The launch's array is the reference's. -/
theorem array2 : (dats m 0 c).arrAt 2 cfg0.N = Cert.Reference7Ideal.Read.val_main_v0 (F := Ideal) (argH m c) (argW m c) := by
  refine (dats m 0 c).arrAt_eq_of_cover 2 _ (fun t hf => ?_) cover2
  rw [flushed2, out_eq]
  funext j
  obtain ⟨r, x, rfl⟩ := coords_eq j
  refine (pay_apply _ _ r x).trans ?_
  simp only [block0, block1]
  rw [← ref_apply]
  blk_simp
  refine congrArg _ ?_
  blk_ext [index2 t, rowAt, colAt]

end Cert.Kernel7Ideal.Product

namespace Cert.Proof.Claims

open Cert.Kernel7Ideal.Product Idealize.ShloMosaic Idealize.SL.Sem

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Both programs end with the reference's product of the two inputs. -/
theorem algebraic7 : Cert.algebraic_Kernel7Ideal_Reference7Ideal := by
  intro m g m' g' hpre hagree
  refine ⟨fun c => Cert.Reference7Ideal.Read.val_main_v0 (F := Ideal) (argH m c) (argW m c), ?_, ?_⟩
  · exact (θ_run Cert.Kernel7Ideal.defs _ _).mono (fun r h c => ⟨(h c).1.trans (array2 m c), (h c).2⟩)
      (Cert.Kernel7Ideal.Value.run_blocks (F := Ideal) m g)
  · refine (θ_run Cert.Reference7Ideal.defs _ _).mono (fun r h c => ⟨(h c).1.trans ?_, (h c).2⟩)
      (Cert.Reference7Ideal.Value.run (F := Ideal) m' g')
    · obtain ⟨e0, e1⟩ := hagree c
      rw [Cert.Reference7Ideal.Read.val_main_v0_eq, e0, e1]

end Cert.Proof.Claims

end
-- ==== Proof.ProjGate.lean ====
/- The product of the normed rows with the columns of the attention's gate. -/
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit
public import Idealize.ShloMosaic.Lib.Claim
public import Idealize.ShloMosaic.Lib.Pointwise

@[expose] public section

noncomputable section

namespace Cert.Kernel8Ideal.Product

open Cert.Kernel8Ideal Cert.Kernel8Ideal.Gen Cert.Kernel8Ideal.Value Idealize.ShloMosaic Idealize.ShloMosaic.TcCoe Idealize.SL.Sem
open Idealize.ShloMosaic.Pipeline (Dat)

/-- One entry of the product. -/
def dot (p w : Fin 2048 → EReal) : EReal := (∑ k, p k * w k)

theorem pay_apply (a : Vec Ideal S1024x2048 .bf16) (w : Vec Ideal S2048x1024 .bf16) (r : Fin 1024) (x : Fin 1024) :
    k0_pay1 a w (ix2 r x) = dot (fun k => a (ix2 r k)) (fun k => w (ix2 k x)) := by
  pointwise [k0_pay1]
  rfl

open Cert.Reference8Ideal.Read in
theorem ref_apply (x0 : FVec Ideal S8192x2048 .f32) (x1 : FVec Ideal S2048x2048 .f32) (s : Fin 8192) (x : Fin 2048) :
    val_main_v0 (F := Ideal) x0 x1 (ix2 s x) = dot (fun k => x0 (ix2 s k)) (fun k => x1 (ix2 k x)) := by
  pointwise [val_main_v0]
  rfl

theorem out_eq (x0 : Vec Ideal S1024x2048 .bf16) (x1 : Vec Ideal S2048x1024 .bf16) : out0_2 x0 x1 = k0_pay1 x0 x1 := by
  frame_out

theorem coords_eq (j : S1024x1024.Idx) : ∃ (r : Fin 1024) (x : Fin 1024), j = ix2 r x :=
  ⟨j 0, j 1, by funext a; fin_cases a <;> rfl⟩

variable (m : (ℓ : Loc nD τ sig) → Buf (Elt Ideal) ℓ) (c : Dev nD)

abbrev argH : FVec Ideal S8192x2048 .f32 := m ((c.tc : Thread nD τ).loc main_arg0)
abbrev argW : FVec Ideal S2048x2048 .f32 := m ((c.tc : Thread nD τ).loc main_arg1)

theorem V_H (j : S8192x2048.Idx) : V m c main_v0 j = argH m c j := by
  refine (congrFun (?_ : V m c main_v0 = argH m c) _)
  unfold V
  simp only [hostOps0, List.flatten_cons, List.flatten_nil, List.append_nil, List.cons_append, List.nil_append]
  after_results_simp <;> rfl

theorem V_W (j : S2048x2048.Idx) : V m c main_v1 j = argW m c j := by
  refine (congrFun (?_ : V m c main_v1 = argW m c) _)
  unfold V
  simp only [hostOps0, List.flatten_cons, List.flatten_nil, List.append_nil, List.cons_append, List.nil_append]
  after_results_simp <;> rfl

/-- The rows of a point's blocks, and its columns. -/
def rowAt (t : Fin cfg0.N) (r : Fin 1024) : Fin 8192 :=
  ⟨t.val % 8 * 1024 + r.val, by omega⟩
def colAt (t : Fin cfg0.N) (x : Fin 1024) : Fin 2048 :=
  ⟨t.val / 8 * 1024 + x.val, by have h : t.val < 16 := lt_of_lt_of_eq t.isLt N_0; omega⟩

theorem index0 : ∀ t : Fin cfg0.N, win0_0.index t = ![t.val % 8, 0] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val % 8, t.val / 8] := (by decide +kernel : ∀ t : Fin grid0.N, _)

variable (t : Fin cfg0.N)

theorem block0 (r : Fin 1024) (k : Fin 2048) : iblk m c 0 t (ix2 r k) = argH m c (ix2 (rowAt t r) k) := by
  rw [← V_H]
  blk_simp [iblk]
  show V m c main_v0 _ = _
  refine congrArg (V m c main_v0) ?_
  blk_ext [index0 t, rowAt]

theorem block1 (k : Fin 2048) (x : Fin 1024) : iblk m c 1 t (ix2 k x) = argW m c (ix2 k (colAt t x)) := by
  rw [← V_W]
  blk_simp [iblk]
  show V m c main_v1 _ = _
  refine congrArg (V m c main_v1) ?_
  blk_ext [index1 t, colAt]

theorem mem_block2 (i : S8192x2048.Idx) : i ∈ ((cfg0.win 2).blk t).view.set ↔
    ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the array is in the block of its rows and columns. -/
theorem cover2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  obtain ⟨t, ht⟩ : ∃ t : Fin cfg0.N, t.val = (i 1).val / 1024 * 8 + (i 0).val / 1024 :=
    ⟨⟨_, lt_of_lt_of_eq (by omega : (i 1).val / 1024 * 8 + (i 0).val / 1024 < 16) N_0.symm⟩, rfl⟩
  refine ⟨t, flush0_2 t, ?_⟩
  rw [mem_block2]
  have e0 : win0_2.index t (0 : Fin 2) = t.val % 8 := congrFun (index2 t) 0
  have e1 : win0_2.index t (1 : Fin 2) = t.val / 8 := congrFun (index2 t) 1
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The launch's array is the reference's. -/
theorem array2 : (dats m 0 c).arrAt 2 cfg0.N = Cert.Reference8Ideal.Read.val_main_v0 (F := Ideal) (argH m c) (argW m c) := by
  refine (dats m 0 c).arrAt_eq_of_cover 2 _ (fun t hf => ?_) cover2
  rw [flushed2, out_eq]
  funext j
  obtain ⟨r, x, rfl⟩ := coords_eq j
  refine (pay_apply _ _ r x).trans ?_
  simp only [block0, block1]
  rw [← ref_apply]
  blk_simp
  refine congrArg _ ?_
  blk_ext [index2 t, rowAt, colAt]

end Cert.Kernel8Ideal.Product

namespace Cert.Proof.Claims

open Cert.Kernel8Ideal.Product Idealize.ShloMosaic Idealize.SL.Sem

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Both programs end with the reference's product of the two inputs. -/
theorem algebraic8 : Cert.algebraic_Kernel8Ideal_Reference8Ideal := by
  intro m g m' g' hpre hagree
  refine ⟨fun c => Cert.Reference8Ideal.Read.val_main_v0 (F := Ideal) (argH m c) (argW m c), ?_, ?_⟩
  · exact (θ_run Cert.Kernel8Ideal.defs _ _).mono (fun r h c => ⟨(h c).1.trans (array2 m c), (h c).2⟩)
      (Cert.Kernel8Ideal.Value.run_blocks (F := Ideal) m g)
  · refine (θ_run Cert.Reference8Ideal.defs _ _).mono (fun r h c => ⟨(h c).1.trans ?_, (h c).2⟩)
      (Cert.Reference8Ideal.Value.run (F := Ideal) m' g')
    · obtain ⟨e0, e1⟩ := hagree c
      rw [Cert.Reference8Ideal.Read.val_main_v0_eq, e0, e1]

end Cert.Proof.Claims

end
-- ==== Proof.ProjIndexQueries.lean ====
/- The product of the normed rows with the columns of the indexer's queries. -/
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.Claim
public import Idealize.ShloMosaic.Lib.Pointwise

@[expose] public section

noncomputable section

namespace Cert.Kernel9Ideal.Product

open Cert.Kernel9Ideal Cert.Kernel9Ideal.Gen Cert.Kernel9Ideal.Value Idealize.ShloMosaic Idealize.ShloMosaic.TcCoe Idealize.SL.Sem
open Idealize.ShloMosaic.Pipeline (Dat)

/-- One entry of the product. -/
def dot (p w : Fin 2048 → EReal) : EReal := (∑ k, p k * w k)

theorem pay_apply (a : Vec Ideal S1024x2048 .bf16) (w : Vec Ideal S2048x1024 .bf16) (r : Fin 1024) (x : Fin 1024) :
    k0_pay1 a w (ix2 r x) = dot (fun k => a (ix2 r k)) (fun k => w (ix2 k x)) := by
  pointwise [k0_pay1]
  rfl

open Cert.Reference9Ideal.Read in
theorem ref_apply (x0 : FVec Ideal S8192x2048 .f32) (x1 : FVec Ideal S2048x1024 .f32) (s : Fin 8192) (x : Fin 1024) :
    val_main_v1 (F := Ideal) x0 x1 (ix2 s x) = dot (fun k => x0 (ix2 s k)) (fun k => x1 (ix2 k x)) := by
  pointwise [val_main_v1, val_main_v0]
  rfl

theorem out_eq (x0 : Vec Ideal S1024x2048 .bf16) (x1 : Vec Ideal S2048x1024 .bf16) : out0_2 x0 x1 = k0_pay1 x0 x1 := by
  frame_out

theorem coords_eq (j : S1024x1024.Idx) : ∃ (r : Fin 1024) (x : Fin 1024), j = ix2 r x :=
  ⟨j 0, j 1, by funext a; fin_cases a <;> rfl⟩

variable (m : (ℓ : Loc nD τ sig) → Buf (Elt Ideal) ℓ) (c : Dev nD)

abbrev argH : FVec Ideal S8192x2048 .f32 := m ((c.tc : Thread nD τ).loc main_arg0)
abbrev argW : FVec Ideal S2048x1024 .f32 := m ((c.tc : Thread nD τ).loc main_arg1)

theorem V_H (j : S8192x2048.Idx) : V m c main_v0 j = argH m c j := by
  refine (congrFun (?_ : V m c main_v0 = argH m c) _)
  unfold V
  simp only [hostOps0, List.flatten_cons, List.flatten_nil, List.append_nil, List.cons_append, List.nil_append]
  after_results_simp <;> rfl

theorem V_W (j : S2048x1024.Idx) : V m c main_v1 j = argW m c j := by
  refine (congrFun (?_ : V m c main_v1 = argW m c) _)
  unfold V
  simp only [hostOps0, List.flatten_cons, List.flatten_nil, List.append_nil, List.cons_append, List.nil_append]
  after_results_simp <;> rfl

/-- The rows of a point's blocks, and its columns. -/
def rowAt (t : Fin cfg0.N) (r : Fin 1024) : Fin 8192 :=
  ⟨t.val % 8 * 1024 + r.val, by omega⟩
def colAt (t : Fin cfg0.N) (x : Fin 1024) : Fin 1024 :=
  ⟨t.val / 8 * 1024 + x.val, by have h : t.val < 8 := lt_of_lt_of_eq t.isLt N_0; omega⟩

theorem index0 : ∀ t : Fin cfg0.N, win0_0.index t = ![t.val % 8, 0] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val % 8, t.val / 8] := (by decide +kernel : ∀ t : Fin grid0.N, _)

variable (t : Fin cfg0.N)

theorem block0 (r : Fin 1024) (k : Fin 2048) : iblk m c 0 t (ix2 r k) = argH m c (ix2 (rowAt t r) k) := by
  rw [← V_H]
  blk_simp [iblk]
  show V m c main_v0 _ = _
  refine congrArg (V m c main_v0) ?_
  blk_ext [index0 t, rowAt]

theorem block1 (k : Fin 2048) (x : Fin 1024) : iblk m c 1 t (ix2 k x) = argW m c (ix2 k (colAt t x)) := by
  rw [← V_W]
  blk_simp [iblk]
  show V m c main_v1 _ = _
  refine congrArg (V m c main_v1) ?_
  blk_ext [index1 t, colAt]

theorem mem_block2 (i : S8192x1024.Idx) : i ∈ ((cfg0.win 2).blk t).view.set ↔
    ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the array is in the block of its rows and columns. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  obtain ⟨t, ht⟩ : ∃ t : Fin cfg0.N, t.val = (i 1).val / 1024 * 8 + (i 0).val / 1024 :=
    ⟨⟨_, lt_of_lt_of_eq (by omega : (i 1).val / 1024 * 8 + (i 0).val / 1024 < 8) N_0.symm⟩, rfl⟩
  refine ⟨t, flush0_2 t, ?_⟩
  rw [mem_block2]
  have e0 : win0_2.index t (0 : Fin 2) = t.val % 8 := congrFun (index2 t) 0
  have e1 : win0_2.index t (1 : Fin 2) = t.val / 8 := congrFun (index2 t) 1
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The launch's array is the reference's. -/
theorem array2 : (dats m 0 c).arrAt 2 cfg0.N = Cert.Reference9Ideal.Read.val_main_v1 (F := Ideal) (argH m c) (argW m c) := by
  refine (dats m 0 c).arrAt_eq_of_cover 2 _ (fun t hf => ?_) cover2
  rw [flushed2, out_eq]
  funext j
  obtain ⟨r, x, rfl⟩ := coords_eq j
  refine (pay_apply _ _ r x).trans ?_
  simp only [block0, block1]
  rw [← ref_apply]
  blk_simp
  refine congrArg _ ?_
  blk_ext [index2 t, rowAt, colAt]

end Cert.Kernel9Ideal.Product

namespace Cert.Proof.Claims

open Cert.Kernel9Ideal.Product Idealize.ShloMosaic Idealize.SL.Sem

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Both programs end with the reference's product of the two inputs. -/
theorem algebraic9 : Cert.algebraic_Kernel9Ideal_Reference9Ideal := by
  intro m g m' g' hpre hagree
  refine ⟨fun c => Cert.Reference9Ideal.Read.val_main_v1 (F := Ideal) (argH m c) (argW m c), ?_, ?_⟩
  · exact (θ_run Cert.Kernel9Ideal.defs _ _).mono (fun r h c => ⟨(h c).1.trans (array2 m c), (h c).2⟩)
      (Cert.Kernel9Ideal.Value.run_blocks (F := Ideal) m g)
  · refine (θ_run Cert.Reference9Ideal.defs _ _).mono (fun r h c => ⟨(h c).1.trans ?_, (h c).2⟩)
      (Cert.Reference9Ideal.Value.run (F := Ideal) m' g')
    · obtain ⟨e0, e1⟩ := hagree c
      rw [Cert.Reference9Ideal.Read.val_main_v1_eq, e0, e1]

end Cert.Proof.Claims

end
-- ==== Proof.ProjQueries.lean ====
/- The product of the normed rows with the queries' columns, scaled, by head. -/
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit
public import Idealize.ShloMosaic.Lib.Claim
public import Idealize.ShloMosaic.Lib.Pointwise

@[expose] public section

noncomputable section

namespace Cert.Kernel10Ideal.Product

open Cert.Kernel10Ideal Cert.Kernel10Ideal.Gen Cert.Kernel10Ideal.Value Idealize.ShloMosaic Idealize.ShloMosaic.TcCoe Idealize.SL.Sem
open Idealize.ShloMosaic.Pipeline (Dat)

/-- One entry of the product. -/
def dot (p w : Fin 2048 → EReal) : EReal := (∑ k, p k * w k) * Ideal.ofBits .f32 0x3E0293EE#32

theorem pay_apply (a : Vec Ideal S1024x2048 .bf16) (w : Vec Ideal S2048x1024 .bf16) (r : Fin 1024) (x : Fin 1024) :
    k0_pay4 a w (ix2 r x) = dot (fun k => a (ix2 r k)) (fun k => w (ix2 k x)) := by
  pointwise [k0_pay4]
  rfl

/-- The column of an entry of a head. -/
def lane (h : Fin 8) (d : Fin 128) : Fin 1024 := ⟨h.val * 128 + d.val, by omega⟩

open Cert.Reference10Ideal.Read in
theorem ref_head (x0 : FVec Ideal S8192x2048 .f32) (x1 : FVec Ideal S2048x1024 .f32) (h : Fin 8) (s : Fin 8192) (d : Fin 128) :
    val_main_v5 (F := Ideal) x0 x1 (ix3 h s d) = dot (fun k => x0 (ix2 s k)) (fun k => x1 (ix2 k (lane h d))) := by
  have e : idx_main_v1 (idx_main_v4 (ix3 h s d)) = ix2 s (lane h d) := by
    funext a
    refine Fin.ext ?_
    have hh := h.isLt
    have hs := s.isLt
    have hd := d.isLt
    match a with
    | ⟨0, _⟩ => show _ = s.val; simp only [ix3]; omega
    | ⟨1, _⟩ => show _ = h.val * 128 + d.val; simp only [ix3]; omega
  have e0 : val_main_v0 (F := Ideal) x0 x1 (ix2 s (lane h d)) = ∑ k, x0 (ix2 s k) * x1 (ix2 k (lane h d)) := by
    pointwise [val_main_v0]
  rw [val_main_v5_apply, val_main_v4_apply, val_main_v3_apply, val_main_v1_apply, val_main_v2_apply, val_main_cst_apply, e, e0]
  rfl

theorem out_head (x0 : Vec Ideal S1024x2048 .bf16) (x1 : Vec Ideal S2048x1024 .bf16) (h : Fin 8) (r : Fin 1024) (d : Fin 128) :
    out0_2 x0 x1 (ix3 h r d) = dot (fun k => x0 (ix2 r k)) (fun k => x1 (ix2 k (lane h d))) := by
  have e : out0_2 x0 x1 (ix3 h r d) = E2 x0 x1 (ix3 h r d) := by
    refine (canon2_eq (View.ld x0 r0_0) (View.ld x1 r0_1) (ix3 h r d)).trans ?_
    rw [show View.ld x0 r0_0 = x0 from by frame_out, show View.ld x1 r0_1 = x1 from by frame_out]
  rw [e, ← pay_apply]
  refine congrArg (k0_pay4 x0 x1) ?_
  funext a
  match a with
  | ⟨0, _⟩ => rfl
  | ⟨1, _⟩ => rfl

theorem heads_eq (j : S8x1024x128.Idx) : ∃ (h : Fin 8) (r : Fin 1024) (d : Fin 128), j = ix3 h r d :=
  ⟨j 0, j 1, j 2, by funext a; fin_cases a <;> rfl⟩

variable (m : (ℓ : Loc nD τ sig) → Buf (Elt Ideal) ℓ) (c : Dev nD)

abbrev argH : FVec Ideal S8192x2048 .f32 := m ((c.tc : Thread nD τ).loc main_arg0)
abbrev argW : FVec Ideal S2048x1024 .f32 := m ((c.tc : Thread nD τ).loc main_arg1)

theorem V_H (j : S8192x2048.Idx) : V m c main_v0 j = argH m c j := by
  refine (congrFun (?_ : V m c main_v0 = argH m c) _)
  unfold V
  simp only [hostOps0, List.flatten_cons, List.flatten_nil, List.append_nil, List.cons_append, List.nil_append]
  after_results_simp <;> rfl

theorem V_W (j : S2048x1024.Idx) : V m c main_v1 j = argW m c j := by
  refine (congrFun (?_ : V m c main_v1 = argW m c) _)
  unfold V
  simp only [hostOps0, List.flatten_cons, List.flatten_nil, List.append_nil, List.cons_append, List.nil_append]
  after_results_simp <;> rfl

/-- The rows of a point's blocks, and its columns. -/
def rowAt (t : Fin cfg0.N) (r : Fin 1024) : Fin 8192 :=
  ⟨t.val % 8 * 1024 + r.val, by omega⟩
def colAt (t : Fin cfg0.N) (x : Fin 1024) : Fin 1024 :=
  ⟨t.val / 8 * 1024 + x.val, by have h : t.val < 8 := lt_of_lt_of_eq t.isLt N_0; omega⟩

theorem index0 : ∀ t : Fin cfg0.N, win0_0.index t = ![t.val % 8, 0] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val / 8, t.val % 8, 0] := (by decide +kernel : ∀ t : Fin grid0.N, _)

variable (t : Fin cfg0.N)

theorem block0 (r : Fin 1024) (k : Fin 2048) : iblk m c 0 t (ix2 r k) = argH m c (ix2 (rowAt t r) k) := by
  rw [← V_H]
  blk_simp [iblk]
  show V m c main_v0 _ = _
  refine congrArg (V m c main_v0) ?_
  blk_ext [index0 t, rowAt]

theorem block1 (k : Fin 2048) (x : Fin 1024) : iblk m c 1 t (ix2 k x) = argW m c (ix2 k (colAt t x)) := by
  rw [← V_W]
  blk_simp [iblk]
  show V m c main_v1 _ = _
  refine congrArg (V m c main_v1) ?_
  blk_ext [index1 t, colAt]

theorem mem_block2 (i : S8x8192x128.Idx) : i ∈ ((cfg0.win 2).blk t).view.set ↔
    ∀ a : Fin 3, win0_2.index t a * S8x1024x128.size a ≤ (i a).val ∧ (i a).val < win0_2.index t a * S8x1024x128.size a + S8x1024x128.size a := by
  show i ∈ ((View.whole main_v2).slice (win0_2.rect t)).set ↔ _
  rw [View.set_slice_whole, Rect.mem_set_unit]
  exact Iff.rfl

/-- Every index of the array by head is in the block of its rows. -/
theorem cover2 (i : S8x8192x128.Idx) : ∃ t : Fin cfg0.N, (cfg0.win 2).flush t = true ∧ i ∈ ((cfg0.win 2).blk t).view.set := by
  have h0 : (i 0).val < 8 := (i 0).isLt
  have h1 : (i 1).val < 8192 := (i 1).isLt
  have h2 : (i 2).val < 128 := (i 2).isLt
  obtain ⟨t, ht⟩ : ∃ t : Fin cfg0.N, t.val = (i 1).val / 1024 :=
    ⟨⟨_, lt_of_lt_of_eq (by omega : (i 1).val / 1024 < 8) N_0.symm⟩, rfl⟩
  refine ⟨t, flush0_2 t, ?_⟩
  rw [mem_block2]
  have e0 : win0_2.index t (0 : Fin 3) = t.val / 8 := congrFun (index2 t) 0
  have e1 : win0_2.index t (1 : Fin 3) = t.val % 8 := congrFun (index2 t) 1
  have e2 : win0_2.index t (2 : Fin 3) = 0 := congrFun (index2 t) 2
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

theorem colAt_eq (x : Fin 1024) : colAt t x = x :=
  Fin.ext (by have h : t.val < 8 := lt_of_lt_of_eq t.isLt N_0; simp only [colAt]; omega)

/-- The launch's array by head is the reference's. -/
theorem array2 : (dats m 0 c).arrAt 2 cfg0.N = Cert.Reference10Ideal.Read.val_main_v5 (F := Ideal) (argH m c) (argW m c) := by
  refine (dats m 0 c).arrAt_eq_of_cover 2 _ (fun t hf => ?_) cover2
  have ht : t.val < 8 := lt_of_lt_of_eq t.isLt N_0
  rw [flushed2]
  funext j
  obtain ⟨h, r, d, rfl⟩ := heads_eq j
  refine (out_head _ _ h r d).trans ?_
  simp only [block0, block1, colAt_eq]
  rw [← ref_head]
  blk_simp
  refine congrArg _ ?_
  blk_ext [index2 t, rowAt]

end Cert.Kernel10Ideal.Product

namespace Cert.Proof.Claims

open Cert.Kernel10Ideal.Product Idealize.ShloMosaic Idealize.SL.Sem

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Both programs end with the reference's product of the two inputs. -/
theorem algebraic10 : Cert.algebraic_Kernel10Ideal_Reference10Ideal := by
  intro m g m' g' hpre hagree
  refine ⟨fun c => Cert.Reference10Ideal.Read.val_main_v5 (F := Ideal) (argH m c) (argW m c), ?_, ?_⟩
  · exact (θ_run Cert.Kernel10Ideal.defs _ _).mono (fun r h c => ⟨(h c).1.trans (array2 m c), (h c).2⟩)
      (Cert.Kernel10Ideal.Value.run_blocks (F := Ideal) m g)
  · refine (θ_run Cert.Reference10Ideal.defs _ _).mono (fun r h c => ⟨(h c).1.trans ?_, (h c).2⟩)
      (Cert.Reference10Ideal.Value.run (F := Ideal) m' g')
    · obtain ⟨e0, e1⟩ := hagree c
      rw [Cert.Reference10Ideal.Read.val_main_v5_eq, e0, e1]

end Cert.Proof.Claims

end
-- ==== Proof.lean ====
/- The claims, from their modules: the frames, the naming of the mask, and the values of the prompt's attention, of the gated network, of the merge, and
   of the projection's norm and products. -/
module

public import proofs.«01_k».proof.Defs
public import proofs.«01_k».proof.Proof.Gen.Kernel
public import proofs.«01_k».proof.Proof.Gen.Kernel.Loops
public import proofs.«01_k».proof.Proof.Gen.KernelIdeal
public import proofs.«01_k».proof.Proof.Gen.ReferenceIdeal
public import proofs.«01_k».proof.Proof.Gen.Pre_separated
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Frames
public import proofs.«01_k».proof.Proof.Bits.Frames
public import proofs.«01_k».proof.Proof.Value
public import proofs.«01_k».proof.Proof.Ffn
public import proofs.«01_k».proof.Proof.Merge
public import proofs.«01_k».proof.Proof.Norm
public import proofs.«01_k».proof.Proof.ProjKeys
public import proofs.«01_k».proof.Proof.ProjIndexKey
public import proofs.«01_k».proof.Proof.ProjRecurrent
public import proofs.«01_k».proof.Proof.ProjGate
public import proofs.«01_k».proof.Proof.ProjIndexQueries
public import proofs.«01_k».proof.Proof.ProjQueries
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_separated.Gen.facts,
  Claims.frame_kernel, Claims.frame_ideal, Claims.frame_ideal_separated, Claims.frame_reference, Claims.frame_reference_separated,
  fun m ρ _ => Cert.Kernel2.Gen.frame m ρ, fun m ρ _ => Cert.Kernel2Ideal.Gen.frame m ρ, Claims.frame_reference2,
  fun m ρ _ => Cert.Kernel3.Gen.frame m ρ, fun m ρ _ => Cert.Kernel3Ideal.Gen.frame m ρ, Claims.frame_reference3,
  fun m ρ _ => Cert.Kernel4.Gen.frame m ρ, fun m ρ _ => Cert.Kernel4Ideal.Gen.frame m ρ, Claims.frame_reference4,
  fun m ρ _ => Cert.Kernel5.Gen.frame m ρ, fun m ρ _ => Cert.Kernel5Ideal.Gen.frame m ρ, Claims.frame_reference5,
  fun m ρ _ => Cert.Kernel6.Gen.frame m ρ, fun m ρ _ => Cert.Kernel6Ideal.Gen.frame m ρ, Claims.frame_reference6,
  fun m ρ _ => Cert.Kernel7.Gen.frame m ρ, fun m ρ _ => Cert.Kernel7Ideal.Gen.frame m ρ, Claims.frame_reference7,
  fun m ρ _ => Cert.Kernel8.Gen.frame m ρ, fun m ρ _ => Cert.Kernel8Ideal.Gen.frame m ρ, Claims.frame_reference8,
  fun m ρ _ => Cert.Kernel9.Gen.frame m ρ, fun m ρ _ => Cert.Kernel9Ideal.Gen.frame m ρ, Claims.frame_reference9,
  fun m ρ _ => Cert.Kernel10.Gen.frame m ρ, fun m ρ _ => Cert.Kernel10Ideal.Gen.frame m ρ, Claims.frame_reference10,
  Claims.preserves, Claims.algebraic, trivial, Claims.algebraic2, trivial, Claims.algebraic3,
  trivial, Claims.algebraic4,
  trivial, Claims.algebraic5,
  trivial, Claims.algebraic6,
  trivial, Claims.algebraic7,
  trivial, Claims.algebraic8,
  trivial, Claims.algebraic9,
  trivial, Claims.algebraic10⟩

end Cert.Proof

end
